-- ==== Defs.lean ====
def Pre_Kernel [hPre_blocks_name_experts : Cert.Pre_blocks_name_experts.Facts] (m : (ℓ : Loc Cert.Kernel.nD Cert.Kernel.τ Cert.Kernel.sig) → Buf (Elt Bits) ℓ) : Prop :=
  ∀ c : Dev Cert.Kernel.nD,
    (Cert.Pre_blocks_name_experts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_blocks_name_experts : Cert.Pre_blocks_name_experts.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_name_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_blocks_name_experts [hPre_blocks_name_experts : Cert.Pre_blocks_name_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_name_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_blocks_name_experts : Cert.Pre_blocks_name_experts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_blocks_name_experts : Cert.Pre_blocks_name_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_blocks_name_experts [hReferenceIdeal : Cert.ReferenceIdeal.Facts] [hPre_blocks_name_experts : Cert.Pre_blocks_name_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_blocks_name_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def preserves_Kernel_KernelIdeal : Prop :=
  IdealRules.bf16_pair.Statement Cert.KernelIdeal.S1024x512 Cert.KernelIdeal.S512x512
  ∧ IdealRules.bf16_pack.Statement Cert.KernelIdeal.S512x512

def algebraic_KernelIdeal_ReferenceIdeal [hKernelIdeal : Cert.KernelIdeal.Facts] [hReferenceIdeal : Cert.ReferenceIdeal.Facts] [hPre_blocks_name_experts : Cert.Pre_blocks_name_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.bf16_pair.Statement Cert.Kernel4Ideal.S1024x512 Cert.Kernel4Ideal.S512x512
  ∧ IdealRules.bf16_pack.Statement Cert.Kernel4Ideal.S512x512

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v24_0)) (v1 : (c : Dev Cert.Kernel4Ideal.nD) → Buf (Elt Ideal) ((c.tc : Thread Cert.Kernel4Ideal.nD Cert.Kernel4Ideal.τ).loc Cert.Kernel4Ideal.main_v24_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v24_0) = v0 c
          ∧ r.2.mem ((c.tc : Thread Cert.Kernel4Ideal.nD Cert.Kernel4Ideal.τ).loc Cert.Kernel4Ideal.main_v24_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_blocks_name_experts : Cert.Pre_blocks_name_experts.Facts),
    quiescent_Kernel (hKernel := hKernel) (hPre_blocks_name_experts := hPre_blocks_name_experts)
    ∧ quiescent_KernelIdeal (hKernelIdeal := hKernelIdeal) (hPre_blocks_name_experts := hPre_blocks_name_experts)
    ∧ quiescent_ReferenceIdeal (hReferenceIdeal := hReferenceIdeal)
    ∧ quiescent_ReferenceIdeal_pre_blocks_name_experts (hReferenceIdeal := hReferenceIdeal) (hPre_blocks_name_experts := hPre_blocks_name_experts)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_blocks_name_experts := hPre_blocks_name_experts)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_blocks_name_experts.lean ====
abbrev S81920x512 : Shape := ⟨2, ![81920, 512]⟩
abbrev S160 : Shape := ⟨1, ![160]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S81920x512 32) (main_arg1 : IVec S160 32) (main_arg2 : IVec S1 32) (main_arg3 : IVec S160 32) (main_arg4 : FVec F S4x32x1024x2048 .f32) (main_arg5 : FVec F S4x32x2048 .f32) (main_arg6 : FVec F S4x32x1024x1024 .f32) (main_arg7 : FVec F S4x32x1024 .f32) : IVec S160 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  main_v4
-- ==== Kernel.lean ====
abbrev S81920x512 : Shape := ⟨2, ![81920, 512]⟩
abbrev S160 : Shape := ⟨1, ![160]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S4x32x1x2048 : Shape := ⟨4, ![4, 32, 1, 2048]⟩
abbrev S4x32x1x1024 : Shape := ⟨4, ![4, 32, 1, 1024]⟩
abbrev S163840x512 : Shape := ⟨2, ![163840, 512]⟩
abbrev S512x512 : Shape := ⟨2, ![512, 512]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x512 : Shape := ⟨2, ![1024, 512]⟩
abbrev S512x1 : Shape := ⟨2, ![512, 1]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 8
  | .vmem => 12
  | .smem => 3
  | _ => 0

abbrev bufTy : (tb : Table) → Fin (tcTables nBuf tb) → BufTy
  | .hbm, ⟨0, _⟩ => ⟨S81920x512, .i32⟩
  | .hbm, ⟨1, _⟩ => ⟨S4x32x1024x2048, .f32⟩
  | .hbm, ⟨2, _⟩ => ⟨S4x32x2048, .f32⟩
  | .hbm, ⟨3, _⟩ => ⟨S4x32x1024x1024, .f32⟩
  | .hbm, ⟨4, _⟩ => ⟨S4x32x1024, .f32⟩
  | .hbm, ⟨5, _⟩ => ⟨S4x32x1x2048, .f32⟩
  | .hbm, ⟨6, _⟩ => ⟨S4x32x1x1024, .f32⟩
  | .hbm, ⟨7, _⟩ => ⟨S163840x512, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1024x512, .bf16⟩
  | .local _ .vmem, ⟨11, _⟩ => ⟨S1024x512, .bf16⟩
  | .local _ .smem, ⟨0, _⟩ => ⟨S160, .i32⟩
  | .local _ .smem, ⟨1, _⟩ => ⟨S1, .i32⟩
  | .local _ .smem, ⟨2, _⟩ => ⟨S160, .i32⟩
  | _, _ => ⟨S81920x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨1, ![160], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v11 : Index := Scalar.indexCast arg0
  ![v11.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S81920x512 : Shape := ⟨2, ![81920, 512]⟩
abbrev S160 : Shape := ⟨1, ![160]⟩
abbrev S1 : Shape := ⟨1, ![1]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S81920x1024 : Shape := ⟨2, ![81920, 1024]⟩
abbrev S81920 : Shape := ⟨1, ![81920]⟩
abbrev S160x512 : Shape := ⟨2, ![160, 512]⟩
abbrev S160x1 : Shape := ⟨2, ![160, 1]⟩
abbrev S160x512x1 : Shape := ⟨3, ![160, 512, 1]⟩
abbrev S160x512x1024 : Shape := ⟨3, ![160, 512, 1024]⟩
abbrev S1x32x1024x2048 : Shape := ⟨4, ![1, 32, 1024, 2048]⟩
abbrev S32x1024x2048 : Shape := ⟨3, ![32, 1024, 2048]⟩
abbrev S160x1024x2048 : Shape := ⟨3, ![160, 1024, 2048]⟩
abbrev S160x512x2048 : Shape := ⟨3, ![160, 512, 2048]⟩
abbrev S1x32x2048 : Shape := ⟨3, ![1, 32, 2048]⟩
abbrev S32x2048 : Shape := ⟨2, ![32, 2048]⟩
abbrev S160x2048 : Shape := ⟨2, ![160, 2048]⟩
abbrev S160x1x2048 : Shape := ⟨3, ![160, 1, 2048]⟩
abbrev S1x32x1024x1024 : Shape := ⟨4, ![1, 32, 1024, 1024]⟩
abbrev S32x1024x1024 : Shape := ⟨3, ![32, 1024, 1024]⟩
abbrev S160x1024x1024 : Shape := ⟨3, ![160, 1024, 1024]⟩
abbrev S1x32x1024 : Shape := ⟨3, ![1, 32, 1024]⟩
abbrev S32x1024 : Shape := ⟨2, ![32, 1024]⟩
abbrev S160x1024 : Shape := ⟨2, ![160, 1024]⟩
abbrev S160x1x1024 : Shape := ⟨3, ![160, 1, 1024]⟩
abbrev S160x1x1 : Shape := ⟨3, ![160, 1, 1]⟩
abbrev S163840x512 : Shape := ⟨2, ![163840, 512]⟩

abbrev nBuf : Space → Nat
  | .hbm => 122
  | .vmem => 0
  | .smem => 0
  | _ => 0

abbrev bufTy : (tb : Table) → Fin (tcTables nBuf tb) → BufTy
  | .hbm, ⟨0, _⟩ => ⟨S81920x512, .i32⟩
  | .hbm, ⟨1, _⟩ => ⟨S160, .i32⟩
  | .hbm, ⟨2, _⟩ => ⟨S1, .i32⟩
  | .hbm, ⟨3, _⟩ => ⟨S160, .i32⟩
  | .hbm, ⟨4, _⟩ => ⟨S4x32x1024x2048, .f32⟩
  | .hbm, ⟨5, _⟩ => ⟨S4x32x2048, .f32⟩
  | .hbm, ⟨6, _⟩ => ⟨S4x32x1024x1024, .f32⟩
  | .hbm, ⟨7, _⟩ => ⟨S4x32x1024, .f32⟩
  | .hbm, ⟨8, _⟩ => ⟨S_, .i32⟩
  | .hbm, ⟨9, _⟩ => ⟨S81920x512, .i32⟩
  | .hbm, ⟨10, _⟩ => ⟨S81920x512, .i32⟩
  | .hbm, ⟨11, _⟩ => ⟨S81920x512, .f32⟩
  | .hbm, ⟨12, _⟩ => ⟨S_, .i32⟩
  | .hbm, ⟨13, _⟩ => ⟨S81920x512, .i32⟩
  | .hbm, ⟨14, _⟩ => ⟨S81920x512, .i32⟩
  | .hbm, ⟨15, _⟩ => ⟨S81920x512, .f32⟩
  | .hbm, ⟨16, _⟩ => ⟨S81920x1024, .f32⟩
  | .hbm, ⟨17, _⟩ => ⟨S81920, .i32⟩
  | .hbm, ⟨18, _⟩ => ⟨S160x512, .i32⟩
  | .hbm, ⟨19, _⟩ => ⟨S160x1, .i32⟩
  | .hbm, ⟨20, _⟩ => ⟨S160x512, .i32⟩
  | .hbm, ⟨21, _⟩ => ⟨S160x512, .i1⟩
  | .hbm, ⟨22, _⟩ => ⟨S160x512x1, .i1⟩
  | .hbm, ⟨23, _⟩ => ⟨S160x512x1024, .f32⟩
  | .hbm, ⟨24, _⟩ => ⟨S_, .f32⟩
  | .hbm, ⟨25, _⟩ => ⟨S_, .f32⟩
  | .hbm, ⟨26, _⟩ => ⟨S160x512x1024, .i1⟩
  | .hbm, ⟨27, _⟩ => ⟨S160x512x1024, .f32⟩
  | .hbm, ⟨28, _⟩ => ⟨S160x512x1024, .f32⟩
  | .hbm, ⟨29, _⟩ => ⟨S1x32x1024x2048, .f32⟩
  | .hbm, ⟨30, _⟩ => ⟨S32x1024x2048, .f32⟩
  | .hbm, ⟨31, _⟩ => ⟨S_, .i32⟩
  | .hbm, ⟨32, _⟩ => ⟨S160, .i32⟩
  | .hbm, ⟨33, _⟩ => ⟨S160, .i1⟩
  | .hbm, ⟨34, _⟩ => ⟨S_, .i32⟩
  | .hbm, ⟨35, _⟩ => ⟨S160, .i32⟩
  | .hbm, ⟨36, _⟩ => ⟨S160, .i32⟩
  | .hbm, ⟨37, _⟩ => ⟨S160, .i32⟩
  | .hbm, ⟨38, _⟩ => ⟨S160x1, .i32⟩
  | .hbm, ⟨39, _⟩ => ⟨S160x1024x2048, .f32⟩
  | .hbm, ⟨40, _⟩ => ⟨S160x512x2048, .f32⟩
  | .hbm, ⟨41, _⟩ => ⟨S1x32x2048, .f32⟩
  | .hbm, ⟨42, _⟩ => ⟨S32x2048, .f32⟩
  | .hbm, ⟨43, _⟩ => ⟨S_, .i32⟩
  | .hbm, ⟨44, _⟩ => ⟨S160, .i32⟩
  | .hbm, ⟨45, _⟩ => ⟨S160, .i1⟩
  | .hbm, ⟨46, _⟩ => ⟨S_, .i32⟩
  | .hbm, ⟨47, _⟩ => ⟨S160, .i32⟩
  | .hbm, ⟨48, _⟩ => ⟨S160, .i32⟩
  | .hbm, ⟨49, _⟩ => ⟨S160, .i32⟩
  | .hbm, ⟨50, _⟩ => ⟨S160x1, .i32⟩
  | .hbm, ⟨51, _⟩ => ⟨S160x2048, .f32⟩
  | .hbm, ⟨52, _⟩ => ⟨S160x1x2048, .f32⟩
  | .hbm, ⟨53, _⟩ => ⟨S160x512x2048, .f32⟩
  | .hbm, ⟨54, _⟩ => ⟨S160x512x2048, .f32⟩
  | .hbm, ⟨55, _⟩ => ⟨S160x512x1024, .f32⟩
  | .hbm, ⟨56, _⟩ => ⟨S160x512x1024, .f32⟩
  | .hbm, ⟨57, _⟩ => ⟨S_, .f32⟩
  | .hbm, ⟨58, _⟩ => ⟨S160x512x1024, .f32⟩
  | .hbm, ⟨59, _⟩ => ⟨S160x512x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S160x512x1024, .f32⟩
  | .hbm, ⟨64, _⟩ => ⟨S160x512x1024, .f32⟩
  | .hbm, ⟨65, _⟩ => ⟨S_, .f32⟩
  | .hbm, ⟨66, _⟩ => ⟨S160x512x1024, .f32⟩
  | .hbm, ⟨67, _⟩ => ⟨S160x512x1024, .f32⟩
  | .hbm, ⟨68, _⟩ => ⟨S_, .f32⟩
  | .hbm, ⟨69, _⟩ => ⟨S160x512x1024, .f32⟩
  | .hbm, ⟨70, _⟩ => ⟨S160x512x1024, .f32⟩
  | .hbm, ⟨71, _⟩ => ⟨S_, .f32⟩
  | .hbm, ⟨72, _⟩ => ⟨S160x512x1024, .f32⟩
  | .hbm, ⟨73, _⟩ => ⟨S160x512x1024, .f32⟩
  | .hbm, ⟨74, _⟩ => ⟨S160x512x1024, .f32⟩
  | .hbm, ⟨75, _⟩ => ⟨S160x512x1024, .f32⟩
  | .hbm, ⟨76, _⟩ => ⟨S_, .f32⟩
  | .hbm, ⟨77, _⟩ => ⟨S160x512x1024, .f32⟩
  | .hbm, ⟨78, _⟩ => ⟨S160x512x1024, .f32⟩
  | .hbm, ⟨79, _⟩ => ⟨S_, .f32⟩
  | .hbm, ⟨80, _⟩ => ⟨S160x512x1024, .f32⟩
  | .hbm, ⟨81, _⟩ => ⟨S160x512x1024, .f32⟩
  | .hbm, ⟨82, _⟩ => ⟨S160x512x1024, .f32⟩
  | .hbm, ⟨83, _⟩ => ⟨S160x512x1024, .f32⟩
  | .hbm, ⟨84, _⟩ => ⟨S1x32x1024x1024, .f32⟩
  | .hbm, ⟨85, _⟩ => ⟨S32x1024x1024, .f32⟩
  | .hbm, ⟨86, _⟩ => ⟨S_, .i32⟩
  | .hbm, ⟨87, _⟩ => ⟨S160, .i32⟩
  | .hbm, ⟨88, _⟩ => ⟨S160, .i1⟩
  | .hbm, ⟨89, _⟩ => ⟨S_, .i32⟩
  | .hbm, ⟨90, _⟩ => ⟨S160, .i32⟩
  | .hbm, ⟨91, _⟩ => ⟨S160, .i32⟩
  | .hbm, ⟨92, _⟩ => ⟨S160, .i32⟩
  | .hbm, ⟨93, _⟩ => ⟨S160x1, .i32⟩
  | .hbm, ⟨94, _⟩ => ⟨S160x1024x1024, .f32⟩
  | .hbm, ⟨95, _⟩ => ⟨S160x512x1024, .f32⟩
  | .hbm, ⟨96, _⟩ => ⟨S1x32x1024, .f32⟩
  | .hbm, ⟨97, _⟩ => ⟨S32x1024, .f32⟩
  | .hbm, ⟨98, _⟩ => ⟨S_, .i32⟩
  | .hbm, ⟨99, _⟩ => ⟨S160, .i32⟩
  | .hbm, ⟨100, _⟩ => ⟨S160, .i1⟩
  | .hbm, ⟨101, _⟩ => ⟨S_, .i32⟩
  | .hbm, ⟨102, _⟩ => ⟨S160, .i32⟩
  | .hbm, ⟨103, _⟩ => ⟨S160, .i32⟩
  | .hbm, ⟨104, _⟩ => ⟨S160, .i32⟩
  | .hbm, ⟨105, _⟩ => ⟨S160x1, .i32⟩
  | .hbm, ⟨106, _⟩ => ⟨S160x1024, .f32⟩
  | .hbm, ⟨107, _⟩ => ⟨S160x1x1024, .f32⟩
  | .hbm, ⟨108, _⟩ => ⟨S160x512x1024, .f32⟩
  | .hbm, ⟨109, _⟩ => ⟨S160x512x1024, .f32⟩
  | .hbm, ⟨110, _⟩ => ⟨S160, .i32⟩
  | .hbm, ⟨111, _⟩ => ⟨S_, .i32⟩
  | .hbm, ⟨112, _⟩ => ⟨S160, .i32⟩
  | .hbm, ⟨113, _⟩ => ⟨S160, .i1⟩
  | .hbm, ⟨114, _⟩ => ⟨S160x1x1, .i1⟩
  | .hbm, ⟨115, _⟩ => ⟨S_, .f32⟩
  | .hbm, ⟨116, _⟩ => ⟨S_, .f32⟩
  | .hbm, ⟨117, _⟩ => ⟨S160x512x1024, .i1⟩
  | .hbm, ⟨118, _⟩ => ⟨S160x512x1024, .f32⟩
  | .hbm, ⟨119, _⟩ => ⟨S160x512x1024, .f32⟩
  | .hbm, ⟨120, _⟩ => ⟨S160x512x1024, .bf16⟩
  | .hbm, ⟨121, _⟩ => ⟨S163840x512, .bf16⟩
  | _, _ => ⟨S81920x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_cst_11 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_16 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]
-- ==== Kernel2.lean ====
abbrev S16384x1024 : Shape := ⟨2, ![16384, 1024]⟩
abbrev S4x1024x3480 : Shape := ⟨3, ![4, 1024, 3480]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S128x4 : Shape := ⟨2, ![128, 4]⟩
abbrev S1 : Shape := ⟨1, ![1]⟩
abbrev S1x256 : Shape := ⟨2, ![1, 256]⟩
abbrev S16384x256 : Shape := ⟨2, ![16384, 256]⟩
abbrev S16384x1408 : Shape := ⟨2, ![16384, 1408]⟩
abbrev S16384x1664 : Shape := ⟨2, ![16384, 1664]⟩
abbrev S512x1024 : Shape := ⟨2, ![512, 1024]⟩
abbrev S1x1024x3480 : Shape := ⟨3, ![1, 1024, 3480]⟩
abbrev S512x256 : Shape := ⟨2, ![512, 256]⟩
abbrev S512x1408 : Shape := ⟨2, ![512, 1408]⟩
abbrev S512x1664 : Shape := ⟨2, ![512, 1664]⟩
abbrev S1024x3584 : Shape := ⟨2, ![1024, 3584]⟩
abbrev S1x128x3456 : Shape := ⟨3, ![1, 128, 3456]⟩
abbrev S128x3456 : Shape := ⟨2, ![128, 3456]⟩
abbrev S1x128x24 : Shape := ⟨3, ![1, 128, 24]⟩
abbrev S128x24 : Shape := ⟨2, ![128, 24]⟩
abbrev S128x104 : Shape := ⟨2, ![128, 104]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x64 : Shape := ⟨2, ![128, 64]⟩
abbrev S128x1 : Shape := ⟨2, ![128, 1]⟩
abbrev S128x256 : Shape := ⟨2, ![128, 256]⟩
abbrev S1024x1408 : Shape := ⟨2, ![1024, 1408]⟩
abbrev S1024x1664 : Shape := ⟨2, ![1024, 1664]⟩

abbrev nBuf : Space → Nat
  | .hbm => 18
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S4x1024x3480, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S_, .f32⟩
  | .hbm, ⟨7, _⟩ => ⟨S128x128, .f32⟩
  | .hbm, ⟨8, _⟩ => ⟨S128x4, .f32⟩
  | .hbm, ⟨9, _⟩ => ⟨S_, .i32⟩
  | .hbm, ⟨10, _⟩ => ⟨S1, .i32⟩
  | .hbm, ⟨11, _⟩ => ⟨S128x128, .f32⟩
  | .hbm, ⟨12, _⟩ => ⟨S1x256, .f32⟩
  | .hbm, ⟨13, _⟩ => ⟨S1x256, .f32⟩
  | .hbm, ⟨14, _⟩ => ⟨S4x128x128, .bf16⟩
  | .hbm, ⟨15, _⟩ => ⟨S16384x256, .f32⟩
  | .hbm, ⟨16, _⟩ => ⟨S16384x1408, .f32⟩
  | .hbm, ⟨17, _⟩ => ⟨S16384x1664, .f32⟩
  | .local _ .vmem, ⟨0, _⟩ => ⟨S512x1024, .f32⟩
  | .local _ .vmem, ⟨1, _⟩ => ⟨S512x1024, .f32⟩
  | .local _ .vmem, ⟨2, _⟩ => ⟨S1x1024x3480, .f32⟩
  | .local _ .vmem, ⟨3, _⟩ => ⟨S1x256, .f32⟩
  | .local _ .vmem, ⟨4, _⟩ => ⟨S1x256, .f32⟩
  | .local _ .vmem, ⟨5, _⟩ => ⟨S4x128x128, .bf16⟩
  | .local _ .vmem, ⟨6, _⟩ => ⟨S128x128, .f32⟩
  | .local _ .vmem, ⟨7, _⟩ => ⟨S512x256, .f32⟩
  | .local _ .vmem, ⟨8, _⟩ => ⟨S512x256, .f32⟩
  | .local _ .vmem, ⟨9, _⟩ => ⟨S512x1408, .f32⟩
  | .local _ .vmem, ⟨10, _⟩ => ⟨S512x1408, .f32⟩
  | .local _ .vmem, ⟨11, _⟩ => ⟨S512x1664, .f32⟩
  | .local _ .vmem, ⟨12, _⟩ => ⟨S512x1664, .f32⟩
  | .local _ .vmem, ⟨13, _⟩ => ⟨S1024x3584, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_122 : BitVec 32 := 0#32
  let c8_i32 : BitVec 32 := 8#32
  let v207 : BitVec 32 := Scalar.addi c0_i32_122 c8_i32
  let c1_i32 : BitVec 32 := 1#32
  ⟨c0_i32_122, v207, c1_i32⟩
def k0_mult1 (k0_t1 : Fin k0_t1_loop.trips) : BitVec 32 :=
  let c0_i32_122 : BitVec 32 := 0#32
  let c1_i32 : BitVec 32 := 1#32
  let arg11 : BitVec 32 := Scf.iv c0_i32_122 c1_i32 k0_t1
  let c128_i32 : BitVec 32 := 128#32
  let v208 : BitVec 32 := Scalar.muli arg11 c128_i32
  v208
def k0_off1 (k0_t1 : Fin k0_t1_loop.trips) : Fin 3 → Nat :=
  let c0_124 : Index := 0#32
  let c0_i32_122 : BitVec 32 := 0#32
  let c1_i32 : BitVec 32 := 1#32
  let arg11 : BitVec 32 := Scf.iv c0_i32_122 c1_i32 k0_t1
  let c128_i32 : BitVec 32 := 128#32
  let v208 : BitVec 32 := Scalar.muli arg11 c128_i32
  let v209 : BitVec 32 := v208
  let v210 : Index := Scalar.indexCast v209
  let c0_125 : Index := 0#32
  ![0, v210.toNat, 0]
def k0_off2 (k0_t1 : Fin k0_t1_loop.trips) : Fin 2 → Nat :=
  let c0_i32_122 : BitVec 32 := 0#32
  let c1_i32 : BitVec 32 := 1#32
  let arg11 : BitVec 32 := Scf.iv c0_i32_122 c1_i32 k0_t1
  let c128_i32 : BitVec 32 := 128#32
  let v208 : BitVec 32 := Scalar.muli arg11 c128_i32
  let v209 : BitVec 32 := v208
  let v214 : Index := Scalar.indexCast v209
  let c0_126 : Index := 0#32
  ![v214.toNat, 0]
def k0_off3 (k0_t1 : Fin k0_t1_loop.trips) : Fin 3 → Nat :=
  let c0_127 : Index := 0#32
  let c0_i32_122 : BitVec 32 := 0#32
  let c1_i32 : BitVec 32 := 1#32
  let arg11 : BitVec 32 := Scf.iv c0_i32_122 c1_i32 k0_t1
  let c128_i32 : BitVec 32 := 128#32
  let v208 : BitVec 32 := Scalar.muli arg11 c128_i32
  let v209 : BitVec 32 := v208
  let v218 : Index := Scalar.indexCast v209
  let c3456 : Index := 3456#32
  ![0, v218.toNat, 3456]
def k0_off4 (k0_t1 : Fin k0_t1_loop.trips) : Fin 2 → Nat :=
  let c0_i32_122 : BitVec 32 := 0#32
  let c1_i32 : BitVec 32 := 1#32
  let arg11 : BitVec 32 := Scf.iv c0_i32_122 c1_i32 k0_t1
  let c128_i32 : BitVec 32 := 128#32
  let v208 : BitVec 32 := Scalar.muli arg11 c128_i32
  let v209 : BitVec 32 := v208
  let v224 : Index := Scalar.indexCast v209
  let c3456_129 : Index := 3456#32
  ![v224.toNat, 3456]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S4x1024x3480 : Shape := ⟨3, ![4, 1024, 3480]⟩
abbrev S256 : Shape := ⟨1, ![256]⟩
abbrev S4x128x128 : Shape := ⟨3, ![4, 128, 128]⟩
abbrev S4x128 : Shape := ⟨2, ![4, 128]⟩
abbrev S1x1024x3480 : Shape := ⟨3, ![1, 1024, 3480]⟩
abbrev S1024x3480 : Shape := ⟨2, ![1024, 3480]⟩
abbrev S16384x3480 : Shape := ⟨2, ![16384, 3480]⟩
abbrev S16384x1408 : Shape := ⟨2, ![16384, 1408]⟩
abbrev S16384x1560 : Shape := ⟨2, ![16384, 1560]⟩
abbrev S16384x512 : Shape := ⟨2, ![16384, 512]⟩
abbrev S_ : Shape := ⟨0, ![]⟩
abbrev S16384x256 : Shape := ⟨2, ![16384, 256]⟩
abbrev S16384 : Shape := ⟨1, ![16384]⟩
abbrev S16384x1 : Shape := ⟨2, ![16384, 1]⟩
abbrev S1x256 : Shape := ⟨2, ![1, 256]⟩
abbrev S128x128x4x64 : Shape := ⟨4, ![128, 128, 4, 64]⟩
abbrev S4x128x64x128 : Shape := ⟨4, ![4, 128, 64, 128]⟩
abbrev S128x4 : Shape := ⟨2, ![128, 4]⟩
abbrev S1x128x4x1 : Shape := ⟨4, ![1, 128, 4, 1]⟩
abbrev S16384x1664 : Shape := ⟨2, ![16384, 1664]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024x3480, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S1x1024x3480, .f32⟩
  | .hbm, ⟨7, _⟩ => ⟨S1024x3480, .f32⟩
  | .hbm, ⟨8, _⟩ => ⟨S16384x3480, .f32⟩
  | .hbm, ⟨9, _⟩ => ⟨S16384x1408, .f32⟩
  | .hbm, ⟨10, _⟩ => ⟨S16384x1560, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x256, .f32⟩
  | .hbm, ⟨43, _⟩ => ⟨S16384x256, .f32⟩
  | .hbm, ⟨44, _⟩ => ⟨S1x256, .f32⟩
  | .hbm, ⟨45, _⟩ => ⟨S16384x256, .f32⟩
  | .hbm, ⟨46, _⟩ => ⟨S16384x256, .f32⟩
  | .hbm, ⟨47, _⟩ => ⟨S1x256, .f32⟩
  | .hbm, ⟨48, _⟩ => ⟨S16384x256, .f32⟩
  | .hbm, ⟨49, _⟩ => ⟨S16384x256, .f32⟩
  | .hbm, ⟨50, _⟩ => ⟨S128x128x4x64, .f32⟩
  | .hbm, ⟨51, _⟩ => ⟨S4x128x64x128, .f32⟩
  | .hbm, ⟨52, _⟩ => ⟨S128x128x4x64, .f32⟩
  | .hbm, ⟨53, _⟩ => ⟨S128x4, .f32⟩
  | .hbm, ⟨54, _⟩ => ⟨S1x128x4x1, .f32⟩
  | .hbm, ⟨55, _⟩ => ⟨S128x128x4x64, .f32⟩
  | .hbm, ⟨56, _⟩ => ⟨S128x128x4x64, .f32⟩
  | .hbm, ⟨57, _⟩ => ⟨S16384x256, .f32⟩
  | .hbm, ⟨58, _⟩ => ⟨S16384x256, .f32⟩
  | .hbm, ⟨59, _⟩ => ⟨S_, .i32⟩
  | .hbm, ⟨60, _⟩ => ⟨S_, .f32⟩
  | .hbm, ⟨61, _⟩ => ⟨S16384x1664, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_call0_v0 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Kernel3.lean ====
abbrev S16384x1024 : Shape := ⟨2, ![16384, 1024]⟩
abbrev S65536x512 : Shape := ⟨2, ![65536, 512]⟩
abbrev S16384x128 : Shape := ⟨2, ![16384, 128]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S512 : Shape := ⟨1, ![512]⟩

abbrev nBuf : Space → Nat
  | .hbm => 8
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S65536x512, .i32⟩
  | .hbm, ⟨2, _⟩ => ⟨S16384x128, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x512, .i32⟩
  | .local _ .vmem, ⟨7, _⟩ => ⟨S512x512, .i32⟩
  | .local _ .vmem, ⟨8, _⟩ => ⟨S512x512, .i32⟩
  | .local _ .vmem, ⟨9, _⟩ => ⟨S512x512, .i32⟩
  | .local _ .vmem, ⟨10, _⟩ => ⟨S512x128, .f32⟩
  | .local _ .vmem, ⟨11, _⟩ => ⟨S512x128, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c96_i32 : BitVec 32 := 96#32
  let v0 : BitVec 32 := Scalar.addi arg0 c96_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S65536x512 : Shape := ⟨2, ![65536, 512]⟩
abbrev S16384x128 : Shape := ⟨2, ![16384, 128]⟩
abbrev S1024 : Shape := ⟨1, ![1024]⟩
abbrev S_ : Shape := ⟨0, ![]⟩
abbrev S65536x1024 : Shape := ⟨2, ![65536, 1024]⟩
abbrev S4x16384x1024 : Shape := ⟨3, ![4, 16384, 1024]⟩
abbrev S16384x4 : Shape := ⟨2, ![16384, 4]⟩
abbrev S16384 : Shape := ⟨1, ![16384]⟩
abbrev S16384x1 : Shape := ⟨2, ![16384, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S65536x512, .i32⟩
  | .hbm, ⟨2, _⟩ => ⟨S16384x128, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S65536x512, .i32⟩
  | .hbm, ⟨7, _⟩ => ⟨S65536x512, .i32⟩
  | .hbm, ⟨8, _⟩ => ⟨S65536x512, .f32⟩
  | .hbm, ⟨9, _⟩ => ⟨S_, .i32⟩
  | .hbm, ⟨10, _⟩ => ⟨S65536x512, .i32⟩
  | .hbm, ⟨11, _⟩ => ⟨S65536x512, .i32⟩
  | .hbm, ⟨12, _⟩ => ⟨S65536x512, .f32⟩
  | .hbm, ⟨13, _⟩ => ⟨S65536x1024, .f32⟩
  | .hbm, ⟨14, _⟩ => ⟨S4x16384x1024, .f32⟩
  | .hbm, ⟨15, _⟩ => ⟨S16384x4, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel4.lean ====
abbrev S16384x1024 : Shape := ⟨2, ![16384, 1024]⟩
abbrev S16384x256 : Shape := ⟨2, ![16384, 256]⟩
abbrev S16384x384 : Shape := ⟨2, ![16384, 384]⟩
abbrev S384 : Shape := ⟨1, ![384]⟩
abbrev S16384x1664 : Shape := ⟨2, ![16384, 1664]⟩
abbrev S4x1024x1024 : Shape := ⟨3, ![4, 1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1x384 : Shape := ⟨2, ![1, 384]⟩
abbrev S1x1024 : Shape := ⟨2, ![1, 1024]⟩
abbrev S384x1 : Shape := ⟨2, ![384, 1]⟩
abbrev S384x384 : Shape := ⟨2, ![384, 384]⟩
abbrev S32768x512 : Shape := ⟨2, ![32768, 512]⟩
abbrev S8x16384 : Shape := ⟨2, ![8, 16384]⟩
abbrev S16384x128 : Shape := ⟨2, ![16384, 128]⟩
abbrev S512x1024 : Shape := ⟨2, ![512, 1024]⟩
abbrev S512x256 : Shape := ⟨2, ![512, 256]⟩
abbrev S512x384 : Shape := ⟨2, ![512, 384]⟩
abbrev S1x1024x1024 : Shape := ⟨3, ![1, 1024, 1024]⟩
abbrev S1024x512 : Shape := ⟨2, ![1024, 512]⟩
abbrev S8x512 : Shape := ⟨2, ![8, 512]⟩
abbrev S512x128 : Shape := ⟨2, ![512, 128]⟩
abbrev S1024x1024 : Shape := ⟨2, ![1024, 1024]⟩
abbrev S1x128x1024 : Shape := ⟨3, ![1, 128, 1024]⟩
abbrev S128x1024 : Shape := ⟨2, ![128, 1024]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩
abbrev S512x512 : Shape := ⟨2, ![512, 512]⟩
abbrev S128x512 : Shape := ⟨2, ![128, 512]⟩

abbrev nBuf : Space → Nat
  | .hbm => 68
  | .vmem => 36
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S16384x384, .f32⟩
  | .hbm, ⟨5, _⟩ => ⟨S16384x384, .f32⟩
  | .hbm, ⟨6, _⟩ => ⟨S384, .f32⟩
  | .hbm, ⟨7, _⟩ => ⟨S384, .f32⟩
  | .hbm, ⟨8, _⟩ => ⟨S16384x384, .f32⟩
  | .hbm, ⟨9, _⟩ => ⟨S16384x384, .f32⟩
  | .hbm, ⟨10, _⟩ => ⟨S16384x1664, .f32⟩
  | .hbm, ⟨11, _⟩ => ⟨S384, .f32⟩
  | .hbm, ⟨12, _⟩ => ⟨S4x1024x1024, .f32⟩
  | .hbm, ⟨13, _⟩ => ⟨S1024, .f32⟩
  | .hbm, ⟨14, _⟩ => ⟨S1024, .f32⟩
  | .hbm, ⟨15, _⟩ => ⟨S1024x32, .f32⟩
  | .hbm, ⟨16, _⟩ => ⟨S32, .f32⟩
  | .hbm, ⟨17, _⟩ => ⟨S_, .f32⟩
  | .hbm, ⟨18, _⟩ => ⟨S1024x128, .f32⟩
  | .hbm, ⟨19, _⟩ => ⟨S_, .i32⟩
  | .hbm, ⟨20, _⟩ => ⟨S1, .i32⟩
  | .hbm, ⟨21, _⟩ => ⟨S1024x128, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S1x384, .f32⟩
  | .hbm, ⟨31, _⟩ => ⟨S1x384, .f32⟩
  | .hbm, ⟨32, _⟩ => ⟨S1x384, .f32⟩
  | .hbm, ⟨33, _⟩ => ⟨S1x1024, .f32⟩
  | .hbm, ⟨34, _⟩ => ⟨S1x1024, .f32⟩
  | .hbm, ⟨35, _⟩ => ⟨S384, .i32⟩
  | .hbm, ⟨36, _⟩ => ⟨S_, .i32⟩
  | .hbm, ⟨37, _⟩ => ⟨S_, .i32⟩
  | .hbm, ⟨38, _⟩ => ⟨S384, .i32⟩
  | .hbm, ⟨39, _⟩ => ⟨S384, .i32⟩
  | .hbm, ⟨40, _⟩ => ⟨S384, .i32⟩
  | .hbm, ⟨41, _⟩ => ⟨S_, .i32⟩
  | .hbm, ⟨42, _⟩ => ⟨S384, .i32⟩
  | .hbm, ⟨43, _⟩ => ⟨S384, .i1⟩
  | .hbm, ⟨44, _⟩ => ⟨S384, .i32⟩
  | .hbm, ⟨45, _⟩ => ⟨S384, .i32⟩
  | .hbm, ⟨46, _⟩ => ⟨S_, .i32⟩
  | .hbm, ⟨47, _⟩ => ⟨S384, .i32⟩
  | .hbm, ⟨48, _⟩ => ⟨S384, .i1⟩
  | .hbm, ⟨49, _⟩ => ⟨S384, .i1⟩
  | .hbm, ⟨50, _⟩ => ⟨S_, .i32⟩
  | .hbm, ⟨51, _⟩ => ⟨S384, .i32⟩
  | .hbm, ⟨52, _⟩ => ⟨S384, .i32⟩
  | .hbm, ⟨53, _⟩ => ⟨S384, .i32⟩
  | .hbm, ⟨54, _⟩ => ⟨S384x1, .i32⟩
  | .hbm, ⟨55, _⟩ => ⟨S1x384, .i32⟩
  | .hbm, ⟨56, _⟩ => ⟨S384x384, .i32⟩
  | .hbm, ⟨57, _⟩ => ⟨S384x384, .i32⟩
  | .hbm, ⟨58, _⟩ => ⟨S384x384, .i1⟩
  | .hbm, ⟨59, _⟩ => ⟨S384x384, .f32⟩
  | .hbm, ⟨60, _⟩ => ⟨S_, .f32⟩
  | .hbm, ⟨61, _⟩ => ⟨S384x384, .f32⟩
  | .hbm, ⟨62, _⟩ => ⟨S384x384, .f32⟩
  | .hbm, ⟨63, _⟩ => ⟨S384x384, .bf16⟩
  | .hbm, ⟨64, _⟩ => ⟨S16384x1024, .f32⟩
  | .hbm, ⟨65, _⟩ => ⟨S32768x512, .bf16⟩
  | .hbm, ⟨66, _⟩ => ⟨S8x16384, .i32⟩
  | .hbm, ⟨67, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S1x384, .f32⟩
  | .local _ .vmem, ⟨13, _⟩ => ⟨S1x384, .f32⟩
  | .local _ .vmem, ⟨14, _⟩ => ⟨S512x384, .f32⟩
  | .local _ .vmem, ⟨15, _⟩ => ⟨S512x384, .f32⟩
  | .local _ .vmem, ⟨16, _⟩ => ⟨S512x384, .f32⟩
  | .local _ .vmem, ⟨17, _⟩ => ⟨S512x384, .f32⟩
  | .local _ .vmem, ⟨18, _⟩ => ⟨S512x384, .f32⟩
  | .local _ .vmem, ⟨19, _⟩ => ⟨S512x384, .f32⟩
  | .local _ .vmem, ⟨20, _⟩ => ⟨S1x384, .f32⟩
  | .local _ .vmem, ⟨21, _⟩ => ⟨S1x1024x1024, .f32⟩
  | .local _ .vmem, ⟨22, _⟩ => ⟨S1x1024, .f32⟩
  | .local _ .vmem, ⟨23, _⟩ => ⟨S1x1024, .f32⟩
  | .local _ .vmem, ⟨24, _⟩ => ⟨S1024x128, .f32⟩
  | .local _ .vmem, ⟨25, _⟩ => ⟨S1x128, .f32⟩
  | .local _ .vmem, ⟨26, _⟩ => ⟨S384x384, .bf16⟩
  | .local _ .vmem, ⟨27, _⟩ => ⟨S512x1024, .f32⟩
  | .local _ .vmem, ⟨28, _⟩ => ⟨S512x1024, .f32⟩
  | .local _ .vmem, ⟨29, _⟩ => ⟨S1024x512, .bf16⟩
  | .local _ .vmem, ⟨30, _⟩ => ⟨S1024x512, .bf16⟩
  | .local _ .vmem, ⟨31, _⟩ => ⟨S8x512, .i32⟩
  | .local _ .vmem, ⟨32, _⟩ => ⟨S8x512, .i32⟩
  | .local _ .vmem, ⟨33, _⟩ => ⟨S512x128, .f32⟩
  | .local _ .vmem, ⟨34, _⟩ => ⟨S512x128, .f32⟩
  | .local _ .vmem, ⟨35, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_c_1 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_c : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_0 : Ref sig .tc := ⟨.hbm, 50, rfl⟩
abbrev main_call0_v12 : Ref sig .tc := ⟨.hbm, 51, rfl⟩
abbrev main_call0_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_4 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24_0 : Ref sig .tc := ⟨.hbm, 64, rfl⟩
abbrev main_v24_1 : Ref sig .tc := ⟨.hbm, 65, rfl⟩
abbrev main_v24_2 : Ref sig .tc := ⟨.hbm, 66, rfl⟩
abbrev main_v24_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [BitOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_89 : BitVec 32 := 0#32
  let c8_i32 : BitVec 32 := 8#32
  let v247 : BitVec 32 := Scalar.addi c0_i32_89 c8_i32
  let c1_i32_90 : BitVec 32 := 1#32
  ⟨c0_i32_89, v247, c1_i32_90⟩
def k0_mult1 (k0_t1 : Fin k0_t1_loop.trips) : BitVec 32 :=
  let c0_i32_89 : BitVec 32 := 0#32
  let c1_i32_90 : BitVec 32 := 1#32
  let arg24 : BitVec 32 := Scf.iv c0_i32_89 c1_i32_90 k0_t1
  let c128_i32_92 : BitVec 32 := 128#32
  let v248 : BitVec 32 := Scalar.muli arg24 c128_i32_92
  v248
def k0_off1 (k0_t1 : Fin k0_t1_loop.trips) : Fin 3 → Nat :=
  let c0_93 : Index := 0#32
  let c0_i32_89 : BitVec 32 := 0#32
  let c1_i32_90 : BitVec 32 := 1#32
  let arg24 : BitVec 32 := Scf.iv c0_i32_89 c1_i32_90 k0_t1
  let c128_i32_92 : BitVec 32 := 128#32
  let v248 : BitVec 32 := Scalar.muli arg24 c128_i32_92
  let v249 : BitVec 32 := v248
  let v250 : Index := Scalar.indexCast v249
  let c0_94 : Index := 0#32
  ![0, v250.toNat, 0]
def k0_off2 (k0_t1 : Fin k0_t1_loop.trips) : Fin 2 → Nat :=
  let c0_i32_89 : BitVec 32 := 0#32
  let c1_i32_90 : BitVec 32 := 1#32
  let arg24 : BitVec 32 := Scf.iv c0_i32_89 c1_i32_90 k0_t1
  let c128_i32_92 : BitVec 32 := 128#32
  let v248 : BitVec 32 := Scalar.muli arg24 c128_i32_92
  let v249 : BitVec 32 := v248
  let v254 : Index := Scalar.indexCast v249
  let c0_95 : Index := 0#32
  ![v254.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S384x384 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel4Ideal.lean ====
variable {F : FTy → Type} [FloatOps F]
-- ==== Reference4Ideal.lean ====
abbrev S16384x1024 : Shape := ⟨2, ![16384, 1024]⟩
abbrev S16384x256 : Shape := ⟨2, ![16384, 256]⟩
abbrev S16384x384 : Shape := ⟨2, ![16384, 384]⟩
abbrev S384 : Shape := ⟨1, ![384]⟩
abbrev S16384x1664 : Shape := ⟨2, ![16384, 1664]⟩
abbrev S4x1024x1024 : Shape := ⟨3, ![4, 1024, 1024]⟩
abbrev S1024 : Shape := ⟨1, ![1024]⟩
abbrev S1024x32 : Shape := ⟨2, ![1024, 32]⟩
abbrev S32 : Shape := ⟨1, ![32]⟩
abbrev S16384x6x64 : Shape := ⟨3, ![16384, 6, 64]⟩
abbrev S_ : Shape := ⟨0, ![]⟩
abbrev S16384x6 : Shape := ⟨2, ![16384, 6]⟩
abbrev S16384x6x1 : Shape := ⟨3, ![16384, 6, 1]⟩
abbrev S1x384 : Shape := ⟨2, ![1, 384]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩
abbrev S32768x512 : Shape := ⟨2, ![32768, 512]⟩

abbrev nBuf : Space → Nat
  | .hbm => 123
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x384, .f32⟩
  | .hbm, ⟨3, _⟩ => ⟨S16384x384, .f32⟩
  | .hbm, ⟨4, _⟩ => ⟨S16384x384, .f32⟩
  | .hbm, ⟨5, _⟩ => ⟨S16384x384, .f32⟩
  | .hbm, ⟨6, _⟩ => ⟨S384, .f32⟩
  | .hbm, ⟨7, _⟩ => ⟨S384, .f32⟩
  | .hbm, ⟨8, _⟩ => ⟨S16384x384, .f32⟩
  | .hbm, ⟨9, _⟩ => ⟨S16384x384, .f32⟩
  | .hbm, ⟨10, _⟩ => ⟨S16384x1664, .f32⟩
  | .hbm, ⟨11, _⟩ => ⟨S384, .f32⟩
  | .hbm, ⟨12, _⟩ => ⟨S4x1024x1024, .f32⟩
  | .hbm, ⟨13, _⟩ => ⟨S1024, .f32⟩
  | .hbm, ⟨14, _⟩ => ⟨S1024, .f32⟩
  | .hbm, ⟨15, _⟩ => ⟨S1024x32, .f32⟩
  | .hbm, ⟨16, _⟩ => ⟨S32, .f32⟩
  | .hbm, ⟨17, _⟩ => ⟨S16384x384, .f32⟩
  | .hbm, ⟨18, _⟩ => ⟨S16384x6x64, .f32⟩
  | .hbm, ⟨19, _⟩ => ⟨S_, .f32⟩
  | .hbm, ⟨20, _⟩ => ⟨S16384x6, .f32⟩
  | .hbm, ⟨21, _⟩ => ⟨S16384x6x1, .f32⟩
  | .hbm, ⟨22, _⟩ => ⟨S_, .f32⟩
  | .hbm, ⟨23, _⟩ => ⟨S16384x6x1, .f32⟩
  | .hbm, ⟨24, _⟩ => ⟨S16384x6x1, .f32⟩
  | .hbm, ⟨25, _⟩ => ⟨S16384x6x64, .f32⟩
  | .hbm, ⟨26, _⟩ => ⟨S16384x6x64, .f32⟩
  | .hbm, ⟨27, _⟩ => ⟨S16384x6x64, .f32⟩
  | .hbm, ⟨28, _⟩ => ⟨S_, .f32⟩
  | .hbm, ⟨29, _⟩ => ⟨S16384x6, .f32⟩
  | .hbm, ⟨30, _⟩ => ⟨S16384x6x1, .f32⟩
  | .hbm, ⟨31, _⟩ => ⟨S_, .f32⟩
  | .hbm, ⟨32, _⟩ => ⟨S16384x6x1, .f32⟩
  | .hbm, ⟨33, _⟩ => ⟨S16384x6x1, .f32⟩
  | .hbm, ⟨34, _⟩ => ⟨S_, .f32⟩
  | .hbm, ⟨35, _⟩ => ⟨S16384x6x1, .f32⟩
  | .hbm, ⟨36, _⟩ => ⟨S16384x6x1, .f32⟩
  | .hbm, ⟨37, _⟩ => ⟨S16384x6x1, .f32⟩
  | .hbm, ⟨38, _⟩ => ⟨S16384x6x64, .f32⟩
  | .hbm, ⟨39, _⟩ => ⟨S16384x6x64, .f32⟩
  | .hbm, ⟨40, _⟩ => ⟨S16384x384, .f32⟩
  | .hbm, ⟨41, _⟩ => ⟨S1x384, .f32⟩
  | .hbm, ⟨42, _⟩ => ⟨S16384x384, .f32⟩
  | .hbm, ⟨43, _⟩ => ⟨S16384x384, .f32⟩
  | .hbm, ⟨44, _⟩ => ⟨S1x384, .f32⟩
  | .hbm, ⟨45, _⟩ => ⟨S16384x384, .f32⟩
  | .hbm, ⟨46, _⟩ => ⟨S16384x384, .f32⟩
  | .hbm, ⟨47, _⟩ => ⟨S16384x384, .f32⟩
  | .hbm, ⟨48, _⟩ => ⟨S16384x384, .f32⟩
  | .hbm, ⟨49, _⟩ => ⟨S16384x384, .f32⟩
  | .hbm, ⟨50, _⟩ => ⟨S16384x6x64, .f32⟩
  | .hbm, ⟨51, _⟩ => ⟨S_, .f32⟩
  | .hbm, ⟨52, _⟩ => ⟨S16384x6, .f32⟩
  | .hbm, ⟨53, _⟩ => ⟨S16384x6x1, .f32⟩
  | .hbm, ⟨54, _⟩ => ⟨S_, .f32⟩
  | .hbm, ⟨55, _⟩ => ⟨S16384x6x1, .f32⟩
  | .hbm, ⟨56, _⟩ => ⟨S16384x6x1, .f32⟩
  | .hbm, ⟨57, _⟩ => ⟨S16384x6x64, .f32⟩
  | .hbm, ⟨58, _⟩ => ⟨S16384x6x64, .f32⟩
  | .hbm, ⟨59, _⟩ => ⟨S16384x6x64, .f32⟩
  | .hbm, ⟨60, _⟩ => ⟨S_, .f32⟩
  | .hbm, ⟨61, _⟩ => ⟨S16384x6, .f32⟩
  | .hbm, ⟨62, _⟩ => ⟨S16384x6x1, .f32⟩
  | .hbm, ⟨63, _⟩ => ⟨S_, .f32⟩
  | .hbm, ⟨64, _⟩ => ⟨S16384x6x1, .f32⟩
  | .hbm, ⟨65, _⟩ => ⟨S16384x6x1, .f32⟩
  | .hbm, ⟨66, _⟩ => ⟨S_, .f32⟩
  | .hbm, ⟨67, _⟩ => ⟨S16384x6x1, .f32⟩
  | .hbm, ⟨68, _⟩ => ⟨S16384x6x1, .f32⟩
  | .hbm, ⟨69, _⟩ => ⟨S16384x6x1, .f32⟩
  | .hbm, ⟨70, _⟩ => ⟨S16384x6x64, .f32⟩
  | .hbm, ⟨71, _⟩ => ⟨S16384x6x64, .f32⟩
  | .hbm, ⟨72, _⟩ => ⟨S16384x384, .f32⟩
  | .hbm, ⟨73, _⟩ => ⟨S16384x384, .f32⟩
  | .hbm, ⟨74, _⟩ => ⟨S16384x384, .f32⟩
  | .hbm, ⟨75, _⟩ => ⟨S_, .f32⟩
  | .hbm, ⟨76, _⟩ => ⟨S16384x384, .f32⟩
  | .hbm, ⟨77, _⟩ => ⟨S16384x384, .f32⟩
  | .hbm, ⟨78, _⟩ => ⟨S_, .f32⟩
  | .hbm, ⟨79, _⟩ => ⟨S16384x384, .f32⟩
  | .hbm, ⟨80, _⟩ => ⟨S16384x384, .f32⟩
  | .hbm, ⟨81, _⟩ => ⟨S16384x384, .f32⟩
  | .hbm, ⟨82, _⟩ => ⟨S1x384, .f32⟩
  | .hbm, ⟨83, _⟩ => ⟨S16384x384, .f32⟩
  | .hbm, ⟨84, _⟩ => ⟨S16384x384, .f32⟩
  | .hbm, ⟨85, _⟩ => ⟨S16384x384, .f32⟩
  | .hbm, ⟨86, _⟩ => ⟨S16384x1024, .f32⟩
  | .hbm, ⟨87, _⟩ => ⟨S1x1024x1024, .f32⟩
  | .hbm, ⟨88, _⟩ => ⟨S1024x1024, .f32⟩
  | .hbm, ⟨89, _⟩ => ⟨S16384x1024, .f32⟩
  | .hbm, ⟨90, _⟩ => ⟨S_, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S16384, .f32⟩
  | .hbm, ⟨105, _⟩ => ⟨S16384x1, .f32⟩
  | .hbm, ⟨106, _⟩ => ⟨S_, .f32⟩
  | .hbm, ⟨107, _⟩ => ⟨S16384x1, .f32⟩
  | .hbm, ⟨108, _⟩ => ⟨S16384x1, .f32⟩
  | .hbm, ⟨109, _⟩ => ⟨S_, .f32⟩
  | .hbm, ⟨110, _⟩ => ⟨S16384x1, .f32⟩
  | .hbm, ⟨111, _⟩ => ⟨S16384x1, .f32⟩
  | .hbm, ⟨112, _⟩ => ⟨S16384x1, .f32⟩
  | .hbm, ⟨113, _⟩ => ⟨S16384x1024, .f32⟩
  | .hbm, ⟨114, _⟩ => ⟨S16384x1024, .f32⟩
  | .hbm, ⟨115, _⟩ => ⟨S1x1024, .f32⟩
  | .hbm, ⟨116, _⟩ => ⟨S16384x1024, .f32⟩
  | .hbm, ⟨117, _⟩ => ⟨S16384x1024, .f32⟩
  | .hbm, ⟨118, _⟩ => ⟨S1x1024, .f32⟩
  | .hbm, ⟨119, _⟩ => ⟨S16384x1024, .f32⟩
  | .hbm, ⟨120, _⟩ => ⟨S16384x1024, .f32⟩
  | .hbm, ⟨121, _⟩ => ⟨S16384x1024, .bf16⟩
  | .hbm, ⟨122, _⟩ => ⟨S32768x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_12 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_cst_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== Proof.MoeBits.RunA.lean ====
module

public import proofs.«01_k».proof.Proof.MoeBits.Runs

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem kernelRun0_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _, _; isplitr; swap; · iexact H5
      ipureintro; rfl
    isplitl [HT0]; · iexact HT0
    isplitl [HT1]; · iexact HT1
    iexact HT2

end Cert.Kernel.Moe

end
-- ==== Proof.MoeBits.RunB.lean ====
module

public import proofs.«01_k».proof.Proof.MoeBits.RunA

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
theorem kernelRun0_B (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9) K := by
    intro E K
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _, _; isplitr; swap; · iexact H5
      ipureintro; rfl
    isplitl [HT0]; · iexact HT0
    isplitl [HT1]; · iexact HT1
    iexact HT2

end Cert.Kernel.Moe

end
-- ==== Proof.MoeBits.Frame.lean ====
module

public import proofs.«01_k».proof.Proof.MoeBits.RunB
public import Idealize.ShloMosaic.Lib.Claim

@[expose] public section

set_option maxRecDepth 16384

noncomputable section

namespace Cert.Kernel.Moe

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

def forgets0 : Fin 6 → Bool := fun w => w.val == 5

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) (tbl m 2) h0 (cond0_1_of h0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, H5, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5
  · iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (iblk m hO c 3 t) (iblk m hO c 4 t) (tbl m 0) (tbl m 1) (tbl m 2) h0 (cond0_1_of_not h0)) Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, H5, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    iexact H5

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Kernel.Moe

end
-- ==== Proof.MoeIdeal.Points.lean ====
module

public import proofs.«01_k».proof.Proof.Gen.KernelIdeal
public import Idealize.ShloMosaic.Lib.Pipeline.Kit

@[expose] public section

noncomputable section

namespace Cert.KernelIdeal.Moe

open Cert.KernelIdeal.Gen
open Idealize.ShloMosaic Idealize.ShloMosaic.TcCoe
open Idealize.SL Idealize.SL.Sem

variable {F : FTy → Type} [FloatOps F]

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

end Cert.KernelIdeal.Moe

end
-- ==== Proof.MoeIdeal.Runs.lean ====
module

public import proofs.«01_k».proof.Proof.Gen.KernelIdeal.Launch
public import proofs.«01_k».proof.Proof.Gen.KernelIdeal.Skeleton
public import proofs.«01_k».proof.Proof.MoeIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S160 .i32 := Memref.whole main_arg1
abbrev htbM0_0 : tbM0_0.IsWhole := Memref.isWhole_whole _
abbrev tbM0_1 : Memref sig .tc .smem S1 .i32 := Memref.whole main_arg2
abbrev htbM0_1 : tbM0_1.IsWhole := Memref.isWhole_whole _
abbrev tbM0_2 : Memref sig .tc .smem S160 .i32 := Memref.whole main_arg3
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 1).trans (((dats 0 c).arrAt_in 1 rfl _).trans ((hA c 1).trans (V_main_arg4 m c))),
      ((h c).2 main_arg5 (by decide : main_arg5 ∈ Pipeline.restRefs sig spec0)).trans (V_main_arg5 m c),
      ((h c).1 3).trans (((dats 0 c).arrAt_in 3 rfl _).trans ((hA c 3).trans (V_main_arg6 m c))),
      ((h c).2 main_arg7 (by decide : main_arg7 ∈ Pipeline.restRefs sig spec0)).trans (V_main_arg7 m c)⟩) h

/-- The first conditional's condition (the block holds rows), at a word `v0`. -/
abbrev cond0_0 (i : grid0.Coords) (v0 : BitVec 32) : Prop := k0_cond1 i v0 = 1#1
/-- The second conditional's condition (the block holds no rows), at a word `v0`. -/
abbrev cond0_1 (i : grid0.Coords) (v0 : BitVec 32) : Prop := k0_cond2 i v0 = 1#1

/-- A one-bit word widened to 32 bits is nonzero exactly when it is 1; its complement exactly when it is 0. -/
theorem bit_cases (b : BitVec 1) : (Scalar.cmpi .ne (Scalar.extui b : BitVec 32) 0#32 = 1#1 ↔ b = 1#1)
    ∧ (Scalar.cmpi .ne (Scalar.extui (Scalar.xori b 1#1) : BitVec 32) 0#32 = 1#1 ↔ b ≠ 1#1) := by
  revert b; decide

/-- The two conditionals exclude each other, -/
theorem cond0_1_of {i : grid0.Coords} {v0 : BitVec 32} (h : cond0_0 i v0) : ¬cond0_1 i v0 := fun h1 =>
  (bit_cases _).2.mp h1 ((bit_cases _).1.mp h)
/-- and one of them is taken. -/
theorem cond0_1_of_not {i : grid0.Coords} {v0 : BitVec 32} (h : ¬cond0_0 i v0) : cond0_1 i v0 :=
  (bit_cases _).2.mpr fun h1 => h ((bit_cases _).1.mpr h1)

abbrev VO0_5 : View sig .tc .vmem S1024x512 .bf16 := (Memref.whole cc0_stg5_0 : Memref sig .tc .vmem S1024x512 .bf16).view
abbrev ms0_0 (hO : Ok m) (t : Fin (cfgM m hO).N) : Memref sig .tc .vmem S512x512 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x512 .bf16 := spec0_5.stage ((cfgM m hO).slots t 5)
abbrev hs0_5 (hO : Ok m) (t : Fin (cfgM m hO).N) : (ms0_5 m hO t).IsWhole := hstage0_5 (((cfgM m hO).slots t 5).cast nbuf0_5)

end Cert.KernelIdeal.Moe

end
-- ==== Proof.MoeIdeal.RunA.lean ====
module

public import proofs.«01_k».proof.Proof.MoeIdeal.Runs

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) :
    { L5 : List (View.Piece (Elt F) S1024x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    isplitl [HT1]; · iexact HT1
    iexact HT2

end Cert.KernelIdeal.Moe

end
-- ==== Proof.MoeIdeal.RunB.lean ====
module

public import proofs.«01_k».proof.Proof.MoeIdeal.RunA

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) :
    { L5 : List (View.Piece (Elt F) S1024x512 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1 ∗ tbPt0 c tbM0_2 xt2) -∗ K ⟨⟩))
          ⊢ wp frame (wpE (defs₀ (F := F)) Variants.none c none) E (cc0_moe_experts i tbM0_0 htbM0_0 tbM0_1 htbM0_1 tbM0_2 htbM0_2 arg4 harg4 arg5 harg5 arg6 harg6 arg7 harg7 arg8 harg8 arg9 harg9) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    isplitl [HT1]; · iexact HT1
    iexact HT2

end Cert.KernelIdeal.Moe

end
-- ==== Proof.MoeIdeal.Frame.lean ====
module

public import proofs.«01_k».proof.Proof.MoeIdeal.RunB
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_5 (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) (y : S1024x512.Idx) :
    ∃ pc ∈ (kernelRun0_A c i arg4 harg4 arg5 harg5 arg6 harg6 arg7 harg7 arg8 harg8 arg9 harg9 x0 x1 x2 x3 x4 xt0 xt1 xt2 hc0 hc1).1, y ∈ pc.1.set :=
  View.cover_of_tiledL (kernelRun0_A c i arg4 harg4 arg5 harg5 arg6 harg6 arg7 harg7 arg8 harg8 arg9 harg9 x0 x1 x2 x3 x4 xt0 xt1 xt2 hc0 hc1).1 S1024x512.size (by sl_kernel_rfl) y

def out0_A_5 (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : cond0_0 i (tbM0_1.view.readAt (Elt F) (Rect.unit (s := S1) ![0] S1.size inb_S1_S1_0).toLoadRect xt1 (Shape.Idx.first (numel1_S1.symm ▸ Nat.one_pos)))) (hc1 : ¬cond0_1 i (tbM0_1.view.readAt (Elt F) (Rect.unit (s := S1) ![0] S1.size inb_S1_S1_0).toLoadRect xt1 (Shape.Idx.first (numel1_S1.symm ▸ Nat.one_pos)))) : Vec F S1024x512 .bf16 :=
  VO0_5.read (Elt F) (VO0_5.writes (Elt F) VO0_5.junk (kernelRun0_A c i arg4 harg4 arg5 harg5 arg6 harg6 arg7 harg7 arg8 harg8 arg9 harg9 x0 x1 x2 x3 x4 xt0 xt1 xt2 hc0 hc1).1)

theorem cover0_B_5 (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) (y : S1024x512.Idx) :
    ∃ pc ∈ (kernelRun0_B c i arg4 harg4 arg5 harg5 arg6 harg6 arg7 harg7 arg8 harg8 arg9 harg9 x0 x1 x2 x3 x4 xt0 xt1 xt2 hc0 hc1).1, y ∈ pc.1.set :=
  View.cover_of_tiledL (kernelRun0_B c i arg4 harg4 arg5 harg5 arg6 harg6 arg7 harg7 arg8 harg8 arg9 harg9 x0 x1 x2 x3 x4 xt0 xt1 xt2 hc0 hc1).1 S1024x512.size (by sl_kernel_rfl) y

def out0_B_5 (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0 : ¬cond0_0 i (tbM0_1.view.readAt (Elt F) (Rect.unit (s := S1) ![0] S1.size inb_S1_S1_0).toLoadRect xt1 (Shape.Idx.first (numel1_S1.symm ▸ Nat.one_pos)))) (hc1 : cond0_1 i (tbM0_1.view.readAt (Elt F) (Rect.unit (s := S1) ![0] S1.size inb_S1_S1_0).toLoadRect xt1 (Shape.Idx.first (numel1_S1.symm ▸ Nat.one_pos)))) : Vec F S1024x512 .bf16 :=
  VO0_5.read (Elt F) (VO0_5.writes (Elt F) VO0_5.junk (kernelRun0_B c i arg4 harg4 arg5 harg5 arg6 harg6 arg7 harg7 arg8 harg8 arg9 harg9 x0 x1 x2 x3 x4 xt0 xt1 xt2 hc0 hc1).1)

def outsAt0 (hO : Ok m) (c : Dev nD) (t : Fin (cfgM m hO).N) : Vec F S1024x512 .bf16 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) h0 (cond0_1_of h0)
  else
    out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) h0 (cond0_1_of_not h0)

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) h0 (cond0_1_of h0) := by
  unfold outsAt0; exact (dif_pos h0).trans rfl

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (iblk m hO c 0 t) (iblk m hO c 1 t) (iblk m hO c 2 t) (iblk m hO c 3 t) (iblk m hO c 4 t) (tbl m 0) (tbl m 1) (tbl m 2) h0 (cond0_1_of_not h0) := by
  unfold outsAt0; exact (dif_neg h0).trans rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_5
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) (tbl m 2) h0 (cond0_1_of h0)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, ⟨%e5, H5⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _ _ _)
  · rw [outsAt0_B m hO c t h0]
    unfold out0_B_5
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (iblk m hO c 3 t) (iblk m hO c 4 t) (tbl m 0) (tbl m 1) (tbl m 2) h0 (cond0_1_of_not h0)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, ⟨%e5, H5⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is idle nowhere: one of the two conditionals that store it is taken at every point. -/
theorem live5 (hO : Ok m) (t : Fin (cfgM m hO).N) : (cfgM m hO).idle 5 ((cfgM m hO).grid.coords t) = false := by
  have h : ∀ (i : grid0.Coords) (w : BitVec 32), (!(k0_cond1 i w == 1#1) && !(k0_cond2 i w == 1#1)) = false := fun i w => by
    by_cases h : cond0_0 i w
    · rw [show k0_cond1 i w = 1#1 from h]; rfl
    · rw [show k0_cond2 i w = 1#1 from cond0_1_of_not h]; simp
  exact h _ _

/-- So what the body leaves there is what the obligation asks. -/
theorem leave5 (hO : Ok m) (c : Dev nD) (t : Fin (cfgM m hO).N) :
    (owns (c : Thread nD τ) (ms0_5 m hO t) fullShare ((dats m hO 0 c).after 5 t) : sProp 𝕄)
      ⊢ match (cfgM m hO).idle 5 ((cfgM m hO).grid.coords t) with
        | true =>
          match ((cfgM m hO).win 5).flush t with
          | false => iprop(∃ d, owns (c : Thread nD τ) (((cfgM m hO).win 5).stage ((cfgM m hO).slots t 5)) fullShare ((dats m hO 0 c).before 5 t d))
          | true => owns (c : Thread nD τ) (((cfgM m hO).win 5).stage ((cfgM m hO).slots t 5)) fullShare ((dats m hO 0 c).after 5 t)
        | false => owns (c : Thread nD τ) (((cfgM m hO).win 5).stage ((cfgM m hO).slots t 5)) fullShare ((dats m hO 0 c).after 5 t) := by
  split
  · next h => rw [live5 m hO t] at h; cases h
  · exact .rfl

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    sep_mono .rfl (sep_mono .rfl (sep_mono .rfl (sep_mono .rfl (sep_mono .rfl (sep_mono .rfl (sep_mono .rfl (leave5 m hO c t)))))))

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.KernelIdeal.Moe

end
-- ==== Proof.MoePre.lean ====
/- What the precondition says of a run: every block's expert word lies in [0, 32), so every block of the weights that the
   tables name lies inside its array. -/
module

public import proofs.«01_k».proof.Defs
public import proofs.«01_k».proof.Proof.Gen.Pre_blocks_name_experts
public import proofs.«01_k».proof.Proof.MoeBits.Frame
public import proofs.«01_k».proof.Proof.MoeIdeal.Frame

@[expose] public section

noncomputable section

namespace Cert.MoePre

open Idealize.ShloMosaic Idealize.ShloMosaic.TcCoe

/-- The predicate at one word: `0 ≤ w < 32`, signed, so the word's value is below 32. -/
theorem word_lt {F : FTy → Type} [FloatOps F] (a0 : IVec Pre_blocks_name_experts.S81920x512 32)
    (a1 : IVec Pre_blocks_name_experts.S160 32) (a2 : IVec Pre_blocks_name_experts.S1 32)
    (a3 : IVec Pre_blocks_name_experts.S160 32) (a4 : FVec F Pre_blocks_name_experts.S4x32x1024x2048 .f32)
    (a5 : FVec F Pre_blocks_name_experts.S4x32x2048 .f32) (a6 : FVec F Pre_blocks_name_experts.S4x32x1024x1024 .f32)
    (a7 : FVec F Pre_blocks_name_experts.S4x32x1024 .f32)
    (h : Pre_blocks_name_experts.fn a0 a1 a2 a3 a4 a5 a6 a7 = fun _ => 1#1)
    (y : Pre_blocks_name_experts.S160.Idx) : (a1 y).toNat < 32 := by
  have two_bits (p q : Bool) : IntOp.andi (BitVec.ofBool p) (BitVec.ofBool q) = BitVec.ofBool (p && q) := by
    cases p <;> cases q <;> decide
  have bit_one (p : Bool) : (BitVec.ofBool p = 1#1) ↔ p = true := by cases p <;> decide
  have e := congrFun h y
  simp only [Pre_blocks_name_experts.fn, andi, cmpi, broadcastInDim, constantI, IntOp.cmpi, two_bits, bit_one,
    Bool.and_eq_true] at e
  obtain ⟨ge, lt⟩ := e
  simp only [BitVec.sle, BitVec.slt, decide_eq_true_eq, BitVec.toInt, BitVec.toNat_ofNat] at ge lt
  omega

/-- A block one expert deep, at an expert below 32, lies inside the four layers' 32 experts. -/
theorem fits (n : Nat) (hn : n < 32) (a b : Nat) (x : Fin 4) :
    ((![0, n, 0, 0] : Fin 4 → Nat) x + 1) * (![1, 1, a, b] : Fin 4 → Nat) x ≤ (![4, 32, a, b] : Fin 4 → Nat) x := by
  fin_cases x <;> simp <;> omega

end Cert.MoePre

namespace Cert.Kernel.Moe

open Cert.Kernel.Gen
open Idealize.ShloMosaic Idealize.ShloMosaic.TcCoe

theorem tbl0_lt (m : (ℓ : Loc nD τ sig) → Buf (Elt Bits) ℓ) (h : Cert.Pre_Kernel m) (y : S160.Idx) :
    (show BitVec 32 from tbl m 0 y).toNat < 32 := by
  have e : tbl m 0 = m (((0 : Dev nD) : Thread nD τ).loc main_arg1) := V_main_arg1 m 0
  rw [e]
  exact Cert.MoePre.word_lt _ _ _ _ _ _ _ _ (h 0) y

/-- Under the precondition every block of the weights that the tables name lies inside its array. -/
theorem ok_of_pre (m : (ℓ : Loc nD τ sig) → Buf (Elt Bits) ℓ) (h : Cert.Pre_Kernel m) : Ok m := by
  have w := tbl0_lt m h
  have q (i : grid0.Coords) := w ((Rect.unit (s := S160) ![(Scalar.indexCast (BitVec.ofNat 32 (i 0).val)).toNat] S1.size (k0_off1_inb i)).emb
    (Shape.Idx.first (numel1_S1.symm ▸ Nat.one_pos)))
  exact ⟨fun i => ⟨fun a => Cert.MoePre.fits _ (q i) 1024 2048 a, .inl rfl⟩, fun i => ⟨fun a => Cert.MoePre.fits _ (q i) 1 2048 a, .inl rfl⟩,
    fun i => ⟨fun a => Cert.MoePre.fits _ (q i) 1024 1024 a, .inl rfl⟩, fun i => ⟨fun a => Cert.MoePre.fits _ (q i) 1 1024 a, .inl rfl⟩⟩

end Cert.Kernel.Moe

namespace Cert.KernelIdeal.Moe

open Cert.KernelIdeal.Gen
open Idealize.ShloMosaic Idealize.ShloMosaic.TcCoe

theorem tbl0_lt (m : (ℓ : Loc nD τ sig) → Buf (Elt Ideal) ℓ) (h : Cert.Pre_KernelIdeal m) (y : S160.Idx) :
    (show BitVec 32 from tbl m 0 y).toNat < 32 := by
  have e : tbl m 0 = m (((0 : Dev nD) : Thread nD τ).loc main_arg1) := V_main_arg1 m 0
  rw [e]
  exact Cert.MoePre.word_lt _ _ _ _ _ _ _ _ (h 0) y

/-- The same of the program over the extended reals. -/
theorem ok_of_pre (m : (ℓ : Loc nD τ sig) → Buf (Elt Ideal) ℓ) (h : Cert.Pre_KernelIdeal m) : Ok m := by
  have w := tbl0_lt m h
  have q (i : grid0.Coords) := w ((Rect.unit (s := S160) ![(Scalar.indexCast (BitVec.ofNat 32 (i 0).val)).toNat] S1.size (k0_off1_inb i)).emb
    (Shape.Idx.first (numel1_S1.symm ▸ Nat.one_pos)))
  exact ⟨fun i => ⟨fun a => Cert.MoePre.fits _ (q i) 1024 2048 a, .inl rfl⟩, fun i => ⟨fun a => Cert.MoePre.fits _ (q i) 1 2048 a, .inl rfl⟩,
    fun i => ⟨fun a => Cert.MoePre.fits _ (q i) 1024 1024 a, .inl rfl⟩, fun i => ⟨fun a => Cert.MoePre.fits _ (q i) 1 1024 a, .inl rfl⟩⟩

end Cert.KernelIdeal.Moe

end
-- ==== Proof.MoeIdeal.Out.lean ====
/- What one grid point stores, as a term of its blocks and the tables: the two branches' closed forms. -/
module

public import proofs.«01_k».proof.Proof.MoeIdeal.Frame
public import Idealize.ShloMosaic.Lib.Claim
public import Idealize.ShloMosaic.Lib.Pipeline.Value

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := by funext a; fin_cases a <;> rfl
theorem zero4 : (![0, 0, 0, 0] : Fin 4 → Nat) = fun _ => 0 := by funext a; fin_cases a <;> rfl

/-- The count of filled rows of point `i`'s block: the word of the third table at `i`. -/
abbrev endWord (i : grid0.Coords) (xt2 : S160.Idx → BitVec 32) : BitVec 32 :=
  xt2 ((Rect.unit (s := S160) (k0_off2 i) S1.size (k0_off2_inb i)).emb (Shape.Idx.first (numel1_S1.symm ▸ Nat.one_pos)))

/-- The tile stored where the block holds rows: the expert's two products of the block's rows. -/
abbrev tileOf (i : grid0.Coords) (v : BitVec 32) (x0 : Vec F S512x512 .i32) (x1 : Vec F S1x1x1024x2048 .f32) (x2 : Vec F S1x1x1x2048 .f32)
    (x3 : Vec F S1x1x1024x1024 .f32) (x4 : Vec F S1x1x1x1024 .f32) : Vec F S1024x512 .bf16 :=
  k0_pay1 (k0_pay4 (BitVec.ofNat 32 (i 0).val) v x0 x1 x2) (k0_pay5 (BitVec.ofNat 32 (i 0).val) v x0 x1 x2)
    (Scalar.ofBits .f32 0x3FD9DB23#32) x3 x4

set_option maxHeartbeats 1000000 in
theorem out_A (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0) (hc1) :
    out0_A_5 c i arg4 harg4 arg5 harg5 arg6 harg6 arg7 harg7 arg8 harg8 arg9 harg9 x0 x1 x2 x3 x4 xt0 xt1 xt2 hc0 hc1
      = tileOf i (endWord i xt2) x0 x1 x2 x3 x4 := by
  unfold out0_A_5
  rw [View.read_writes_eq_canon _ _ _ (cover0_A_5 c i arg4 harg4 arg5 harg5 arg6 harg6 arg7 harg7 arg8 harg8 arg9 harg9 x0 x1 x2 x3 x4 xt0 xt1 xt2 hc0 hc1)]
  unfold kernelRun0_A
  dsimp only
  sl_unfold_words
  rw [View.canon_unit_zero zero2]
  simp only [View.readAt_eq_ld, harg4.read_unread, harg5.read_unread, harg6.read_unread, harg7.read_unread, harg8.read_unread,
    View.ld_unit_zero (S := S512x512) zero2, View.ld_unit_zero (S := S1x1x1024x2048) zero4,
    View.ld_unit_zero (S := S1x1x1x2048) zero4, View.ld_unit_zero (S := S1x1x1024x1024) zero4,
    View.ld_unit_zero (S := S1x1x1x1024) zero4]
  rfl

set_option maxHeartbeats 1000000 in
theorem out_B (c : Dev nD) (i : grid0.Coords) (arg4 : Memref sig .tc .vmem S512x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S1024x512 .bf16) (harg9 : arg9.IsWhole)
    (x0 : Vec F S512x512 .i32) (x1 : Vec F S1x1x1024x2048 .f32) (x2 : Vec F S1x1x1x2048 .f32) (x3 : Vec F S1x1x1024x1024 .f32) (x4 : Vec F S1x1x1x1024 .f32) (xt0 : TbBuf0 (F := F) c tbM0_0) (xt1 : TbBuf0 (F := F) c tbM0_1) (xt2 : TbBuf0 (F := F) c tbM0_2) (hc0) (hc1) :
    out0_B_5 c i arg4 harg4 arg5 harg5 arg6 harg6 arg7 harg7 arg8 harg8 arg9 harg9 x0 x1 x2 x3 x4 xt0 xt1 xt2 hc0 hc1
      = k0_pay2 := by
  unfold out0_B_5
  rw [View.read_writes_eq_canon _ _ _ (cover0_B_5 c i arg4 harg4 arg5 harg5 arg6 harg6 arg7 harg7 arg8 harg8 arg9 harg9 x0 x1 x2 x3 x4 xt0 xt1 xt2 hc0 hc1)]
  unfold kernelRun0_B
  dsimp only
  sl_unfold_words
  rw [View.canon_unit_zero zero2]

end Cert.KernelIdeal.Moe

end
-- ==== Proof.MoeSpec.lean ====
/- What the experts' layer computes, entry by entry, over the extended reals. -/
module

public import Idealize.ShloMosaic.Lib.Pointwise
public import Idealize.ShloMosaic.Lib.Pipeline.Value

@[expose] public section

noncomputable section

namespace Cert.MoeSpec

open Idealize.ShloMosaic

/-- Entry `k` of a row held in 512 words: the low halves' numbers, then the high halves'. -/
def entry (w : Fin 512 → BitVec 32) (k : Fin 1024) : EReal :=
  if h : k.val < 512 then Ideal.ofBits .f32 (IntOp.shli .vector (w ⟨k.val, h⟩) 16#32)
  else Ideal.ofBits .f32 (IntOp.andi (w ⟨k.val - 512, by omega⟩) 4294901760#32)

/-- Entry `k` of the row numbered `a`, zero where the row is not below `v`. -/
def filled (a v : BitVec 32) (w : Fin 512 → BitVec 32) (k : Fin 1024) : EReal :=
  Scalar.select (IntOp.cmpi .slt a v) (entry w k) 0

/-- The gated unit of a gate `g` and a linear part `u`. -/
def gate (g u : EReal) : EReal :=
  (min (Ideal.ofBits .f32 1088421888#32) (max (Ideal.ofBits .f32 3235905536#32) u) + 1)
    * (min g (Ideal.ofBits .f32 1088421888#32)
      * Ideal.div 1 (1 + Ideal.exp (-(min g (Ideal.ofBits .f32 1088421888#32) * Ideal.ofBits .f32 1071242019#32))))

/-- The expert a block's number names. -/
def expert (w : BitVec 32) : Fin 32 := ⟨min w.toInt.toNat 31, by omega⟩

/-- A number below 32, read signed, is itself. -/
theorem toInt_toNat {w : BitVec 32} (h : w.toNat < 32) : w.toInt.toNat = w.toNat := by
  rw [BitVec.toInt_eq_toNat_of_lt (by omega)]; rfl

theorem expert_val {w : BitVec 32} (h : w.toNat < 32) : (expert w).val = w.toNat := by
  show min w.toInt.toNat 31 = _
  rw [toInt_toNat h]; omega

/-- A number below 32 is not negative. -/
theorem slt_zero {w : BitVec 32} (h : w.toNat < 32) : IntOp.cmpi .slt w 0#32 = 0#1 := by
  have e : ¬ w.toInt < 0 := by
    rw [BitVec.toInt_eq_toNat_of_lt (by omega)]; omega
  show BitVec.ofBool (decide (w.toInt < (0#32 : BitVec 32).toInt)) = 0#1
  rw [show (0#32 : BitVec 32).toInt = 0 from rfl, decide_eq_false e]
  rfl

theorem select_true (a b : EReal) : Scalar.select 1#1 a b = a := rfl
theorem select_false (a b : EReal) : Scalar.select 0#1 a b = b := rfl

section
variable (x : (⟨2, ![81920, 512]⟩ : Shape).Idx → BitVec 32) (be : (⟨1, ![160]⟩ : Shape).Idx → BitVec 32)
  (nu : (⟨1, ![1]⟩ : Shape).Idx → BitVec 32) (ve : (⟨1, ![160]⟩ : Shape).Idx → BitVec 32)
  (w1 : (⟨4, ![4, 32, 1024, 2048]⟩ : Shape).Idx → EReal) (b1 : (⟨3, ![4, 32, 2048]⟩ : Shape).Idx → EReal)
  (w2 : (⟨4, ![4, 32, 1024, 1024]⟩ : Shape).Idx → EReal) (b2 : (⟨3, ![4, 32, 1024]⟩ : Shape).Idx → EReal)

/-- Entry `n` of row `r` of block `b` after the first product and bias. -/
def hid (b : Fin 160) (r : Fin 512) (n : Fin 2048) : EReal :=
  ∑ k : Fin 1024, filled (BitVec.ofNat 32 (b.val * 512 + r.val)) (ve (ix1 b)) (fun j => x (ix2 ⟨b.val * 512 + r.val, by omega⟩ j)) k
      * w1 (ix4 0 (expert (be (ix1 b))) k n)
    + b1 (ix3 0 (expert (be (ix1 b))) n)

/-- Entry `k` of row `r` of block `b` after the gated unit. -/
def act (b : Fin 160) (r : Fin 512) (k : Fin 1024) : EReal :=
  gate (hid x be ve w1 b1 b r ⟨k.val, by omega⟩) (hid x be ve w1 b1 b r ⟨1024 + k.val, by omega⟩)

/-- Entry `n` of row `r` of block `b` after the second product and bias. -/
def fin (b : Fin 160) (r : Fin 512) (n : Fin 1024) : EReal :=
  ∑ k : Fin 1024, act x be ve w1 b1 b r k * w2 (ix4 0 (expert (be (ix1 b))) k n) + b2 (ix3 0 (expert (be (ix1 b))) n)

/-- Entry `(i, n)` of the result: the half-row `i` of the blocks in use, zero elsewhere. -/
def res (i : Fin 163840) (n : Fin 512) : EReal :=
  Scalar.select (IntOp.cmpi .slt (BitVec.ofNat 32 (i.val / 1024)) (nu (ix1 0)))
    (fin x be ve w1 b1 w2 b2 ⟨i.val / 1024, by omega⟩ ⟨i.val / 2 % 512, by omega⟩ ⟨i.val % 2 * 512 + n.val, by omega⟩) 0

end

end Cert.MoeSpec
end
-- ==== Proof.MoeIdeal.Tile.lean ====
module
public import proofs.«01_k».proof.Proof.MoeIdeal.Out
public import proofs.«01_k».proof.Proof.MoeSpec
public import Idealize.ShloMosaic.Lib.Pointwise

@[expose] public section

noncomputable section

namespace Cert.KernelIdeal.Moe

open Cert.KernelIdeal.Gen
open Idealize.ShloMosaic

/-- The block's words, those of its unfilled rows zero. -/
def words (a v : BitVec 32) (x0 : IVec S512x512 32) : IVec S512x512 32 :=
  select (broadcastTo S512x512 (shapeCast S512x1 (cmpi .slt (addi (broadcast S512x1 (Scalar.muli a 512#32)) (iota .tc S512x1 32 [0] iota_S512x1_d0_w32))
    (broadcast S512x1 v)) shapeCasts_S512x1_S512x1) broadcasts_S512x1_S512x512) x0 (broadcast S512x512 0#32)

/-- The two halves of the words side by side: the low halves' numbers, then the high halves'. -/
def rows (w : IVec S512x512 32) : FVec Ideal S512x1024 .bf16 :=
  concatenate S512x1024 1 [⟨S512x512, truncf .bf16 (bitcastToFloat .f32 (shli w (broadcast S512x512 16#32)) : FVec Ideal S512x512 .f32) bitsLt_bf16_f32⟩,
    ⟨S512x512, truncf .bf16 (bitcastToFloat .f32 (andi w (broadcast S512x512 4294901760#32)) : FVec Ideal S512x512 .f32) bitsLt_bf16_f32⟩] concatenates_S512x512_S512x512_S512x1024_d1

theorem pay3_eq (a v : BitVec 32) (x0 : Vec Ideal S512x512 .i32) (x1 : Vec Ideal S1x1x1024x2048 .f32) (x2 : Vec Ideal S1x1x1x2048 .f32) :
    k0_pay3 (F := Ideal) a v x0 x1 x2
      = addf (matmul dot_S512x1024_S1024x2048_S512x2048_1_0_0_1_n_n none (rows (words a v x0))
          (truncf .bf16 (shapeCast S1024x2048 x1 shapeCasts_S1x1x1024x2048_S1024x2048 : FVec Ideal S1024x2048 .f32) bitsLt_bf16_f32)
          (constant S512x2048 .f32 0x00000000#32))
        (broadcastTo S512x2048 (shapeCast S1x2048 x2 shapeCasts_S1x1x1x2048_S1x2048) broadcasts_S1x2048_S512x2048) := rfl

theorem hid_apply (a v : BitVec 32) (x0 : Vec Ideal S512x512 .i32) (x1 : Vec Ideal S1x1x1024x2048 .f32) (x2 : Vec Ideal S1x1x1x2048 .f32) (r : Fin 512) (n : Fin 2048) :
    k0_pay3 (F := Ideal) a v x0 x1 x2 (ix2 r n)
      = ∑ k : Fin 1024, rows (words a v x0) (ix2 r k) * x1 (ix4 0 0 k n) + x2 (ix4 0 0 0 n) := by
  rw [pay3_eq]
  generalize rows (words a v x0) = w
  pointwise

theorem words_apply (a v : BitVec 32) (x0 : IVec S512x512 32) (r k : Fin 512) :
    words a v x0 (ix2 r k) = Scalar.select (IntOp.cmpi .slt (IntOp.addi (Scalar.muli a 512#32) (BitVec.ofNat 32 r.val)) v) (x0 (ix2 r k)) 0#32 := by
  pointwise [words]

theorem rows_apply (w : IVec S512x512 32) (r : Fin 512) (k : Fin 1024) :
    rows w (ix2 r k) = MoeSpec.entry (fun j => w (ix2 r j)) k := by
  unfold rows MoeSpec.entry
  by_cases h : k.val < 512
  · rw [dif_pos h]
    refine (concatenate_pair_apply_left (t := S512x1024) (s₁ := S512x512) (s₂ := S512x512) (a := 1) (j := ix2 r k) (hr := rfl)
      (i := ix2 r ⟨k.val, h⟩) (hi := fun b => by match b with | ⟨0, _⟩ => rfl | ⟨1, _⟩ => rfl) ..).trans ?_
    pointwise
  · rw [dif_neg h]
    refine (concatenate_pair_apply_right (t := S512x1024) (s₁ := S512x512) (s₂ := S512x512) (a := 1) (j := ix2 r k) (hr := rfl) (hr₂ := rfl)
      (i := ix2 r ⟨k.val - 512, by omega⟩)
      (hi := fun b hb => by match b with | ⟨0, _⟩ => rfl | ⟨1, _⟩ => exact absurd rfl hb)
      (ha := Nat.sub_add_cancel (Nat.le_of_not_lt h)) ..).trans ?_
    pointwise

/-- Masking a row's words before unpacking them makes its numbers zero. -/
theorem entry_select (b : BitVec 1) (w : Fin 512 → BitVec 32) (k : Fin 1024) :
    MoeSpec.entry (fun j => Scalar.select b (w j) 0#32) k = Scalar.select b (MoeSpec.entry w k) 0 := by
  by_cases h : b = 1#1
  · subst h; rfl
  · rw [(BitVec.eq_zero_or_eq_one b).resolve_right h]
    show MoeSpec.entry (fun _ => 0#32) k = 0
    unfold MoeSpec.entry
    split
    · exact Ideal.ofBits_zero_f32
    · show Ideal.ofBits .f32 (0#32 &&& 4294901760#32) = 0
      rw [BitVec.zero_and]
      exact Ideal.ofBits_zero_f32

/-- The row number a block's row has. -/
theorem row_word (b r : Nat) : IntOp.addi (Scalar.muli (BitVec.ofNat 32 b) 512#32) (BitVec.ofNat 32 r) = BitVec.ofNat 32 (b * 512 + r) := by
  show BitVec.ofNat 32 b * 512#32 + BitVec.ofNat 32 r = _
  rw [BitVec.ofNat_add, BitVec.ofNat_mul]

theorem filled_apply (b : Nat) (v : BitVec 32) (x0 : IVec S512x512 32) (r : Fin 512) (k : Fin 1024) :
    rows (words (BitVec.ofNat 32 b) v x0) (ix2 r k) = MoeSpec.filled (BitVec.ofNat 32 (b * 512 + r.val)) v (fun j => x0 (ix2 r j)) k := by
  rw [rows_apply]
  simp only [words_apply, row_word]
  exact entry_select _ _ _

theorem gate_apply (a : BitVec 32) (v : BitVec 32) (x0 : Vec Ideal S512x512 .i32) (x1 : Vec Ideal S1x1x1024x2048 .f32) (x2 : Vec Ideal S1x1x1x2048 .f32) (r : Fin 512) (n : Fin 1024) :
    k0_pay4 (F := Ideal) a v x0 x1 x2 (ix2 r n) = min (k0_pay3 (F := Ideal) a v x0 x1 x2 (ix2 r ⟨n.val, by omega⟩)) (Ideal.ofBits .f32 1088421888#32) := by
  unfold k0_pay4
  generalize k0_pay3 (F := Ideal) a v x0 x1 x2 = h
  pointwise

theorem lin_apply (a : BitVec 32) (v : BitVec 32) (x0 : Vec Ideal S512x512 .i32) (x1 : Vec Ideal S1x1x1024x2048 .f32) (x2 : Vec Ideal S1x1x1x2048 .f32) (r : Fin 512) (n : Fin 1024) :
    k0_pay5 (F := Ideal) a v x0 x1 x2 (ix2 r n)
      = min (Ideal.ofBits .f32 1088421888#32) (max (Ideal.ofBits .f32 3235905536#32) (k0_pay3 (F := Ideal) a v x0 x1 x2 (ix2 r ⟨1024 + n.val, by omega⟩))) + 1 := by
  unfold k0_pay5
  generalize k0_pay3 (F := Ideal) a v x0 x1 x2 = h
  pointwise

/-- The last product, bias and packing read at a half-row's entry. -/
theorem pay1_apply (g u : FVec Ideal S512x1024 .f32) (k : EReal) (x3 : Vec Ideal S1x1x1024x1024 .f32) (x4 : Vec Ideal S1x1x1x1024 .f32) (y : Fin 1024) (n : Fin 512) :
    k0_pay1 (F := Ideal) g u k x3 x4 (ix2 y n)
      = ∑ j : Fin 1024, u (ix2 ⟨y.val / 2, by omega⟩ j) * (g (ix2 ⟨y.val / 2, by omega⟩ j) * Ideal.div 1 (1 + Ideal.exp (-(g (ix2 ⟨y.val / 2, by omega⟩ j) * k))))
          * x3 (ix4 0 0 j ⟨y.val % 2 * 512 + n.val, by omega⟩) + x4 (ix4 0 0 0 ⟨y.val % 2 * 512 + n.val, by omega⟩) := by
  have e : ∀ z : EReal, 0 - z = -z := fun z => zero_sub z
  pointwise [k0_pay1]
  simp only [e]
  split
  · rename_i h
    have hc : (⟨y.val % 2 * 512 + n.val, by omega⟩ : Fin 1024) = ⟨n.val, by omega⟩ := Fin.ext (by simp only; omega)
    rw [hc]
  · rename_i h
    have hc : (⟨y.val % 2 * 512 + n.val, by omega⟩ : Fin 1024) = ⟨512 + n.val, by omega⟩ := Fin.ext (by simp only; omega)
    rw [hc]

/-- The block a step in use stores, read at an entry. -/
theorem tile_apply (i : grid0.Coords) (v : BitVec 32) (x0 : Vec Ideal S512x512 .i32) (x1 : Vec Ideal S1x1x1024x2048 .f32) (x2 : Vec Ideal S1x1x1x2048 .f32)
    (x3 : Vec Ideal S1x1x1024x1024 .f32) (x4 : Vec Ideal S1x1x1x1024 .f32) (y : Fin 1024) (n : Fin 512) :
    tileOf (F := Ideal) i v x0 x1 x2 x3 x4 (ix2 y n)
      = ∑ j : Fin 1024, MoeSpec.gate
            (∑ k : Fin 1024, MoeSpec.filled (BitVec.ofNat 32 ((i 0).val * 512 + y.val / 2)) v (fun q => x0 (ix2 ⟨y.val / 2, by omega⟩ q)) k * x1 (ix4 0 0 k ⟨j.val, by omega⟩) + x2 (ix4 0 0 0 ⟨j.val, by omega⟩))
            (∑ k : Fin 1024, MoeSpec.filled (BitVec.ofNat 32 ((i 0).val * 512 + y.val / 2)) v (fun q => x0 (ix2 ⟨y.val / 2, by omega⟩ q)) k * x1 (ix4 0 0 k ⟨1024 + j.val, by omega⟩) + x2 (ix4 0 0 0 ⟨1024 + j.val, by omega⟩))
          * x3 (ix4 0 0 j ⟨y.val % 2 * 512 + n.val, by omega⟩) + x4 (ix4 0 0 0 ⟨y.val % 2 * 512 + n.val, by omega⟩) := by
  unfold tileOf
  rw [pay1_apply]
  simp only [gate_apply, lin_apply, hid_apply, filled_apply]
  rfl

end Cert.KernelIdeal.Moe
end
-- ==== Proof.MoeIdeal.Value.lean ====
/- The array the experts' call leaves, entry by entry. -/
module

public import proofs.«01_k».proof.Proof.MoePre
public import proofs.«01_k».proof.Proof.MoeIdeal.Tile

@[expose] public section

set_option maxRecDepth 16384

noncomputable section

namespace Cert.KernelIdeal.Moe

open Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (hO : Ok m) (c : Dev nD)

/-- The block a grid point works on. -/
abbrev blkAt (t : Fin (cfgM m hO).N) : Fin 160 := ⟨(grid0.coords t 0).val, (grid0.coords t 0).isLt⟩

theorem blkAt_val (t : Fin (cfgM m hO).N) : (blkAt m hO t).val = t.val := by
  have e : ∀ s : Fin grid0.N, (grid0.coords s 0).val = s.val := by decide +kernel
  exact e t

theorem word_toNat (i : grid0.Coords) : (BitVec.ofNat 32 (i 0).val).toNat = (i 0).val := by
  rw [BitVec.toNat_ofNat]
  have := (i 0).isLt
  have h : grid0.bound 0 = 160 := rfl
  omega

/-- The first table's word of a point's block. -/
theorem tbl0_at (t : Fin (cfgM m hO).N) :
    (tbl m).at 0 (Rect.unit (s := S160) (k0_off1 (grid0.coords t)) S1.size (k0_off1_inb (grid0.coords t))) numel1_S1
      = m ((c : Thread nD τ).loc main_arg1) (ix1 (blkAt m hO t)) := by
  obtain rfl : c = 0 := Subsingleton.elim _ _
  rw [← V_main_arg1 m 0]
  show V m 0 main_arg1 _ = V m 0 main_arg1 _
  congr 1
  funext a
  refine Fin.ext ?_
  match a with
  | ⟨0, _⟩ =>
    show (k0_off1 (grid0.coords t)) 0 + 1 * 0 = (grid0.coords t 0).val
    show (BitVec.ofNat 32 (grid0.coords t 0).val).toNat + 1 * 0 = _
    rw [word_toNat]; omega

theorem end_at (t : Fin (cfgM m hO).N) :
    endWord (grid0.coords t) (tbl m 2) = m ((c : Thread nD τ).loc main_arg3) (ix1 (blkAt m hO t)) := by
  obtain rfl : c = 0 := Subsingleton.elim _ _
  rw [← V_main_arg3 m 0]
  show V m 0 main_arg3 _ = V m 0 main_arg3 _
  congr 1
  funext a
  refine Fin.ext ?_
  match a with
  | ⟨0, _⟩ =>
    show (BitVec.ofNat 32 (grid0.coords t 0).val).toNat + 1 * 0 = (grid0.coords t 0).val
    rw [word_toNat]; omega

theorem used_at : tbM0_1.view.readAt (Elt Ideal) (Rect.unit (s := S1) ![0] S1.size inb_S1_S1_0).toLoadRect (tbl m 1) (Shape.Idx.first (numel1_S1.symm ▸ Nat.one_pos))
      = m ((c : Thread nD τ).loc main_arg2) (ix1 0) := by
  obtain rfl : c = 0 := Subsingleton.elim _ _
  rw [← V_main_arg2 m 0]
  show V m 0 main_arg2 _ = V m 0 main_arg2 _
  congr 1
  funext a
  match a with
  | ⟨0, _⟩ => exact Subsingleton.elim (α := Fin 1) _ _

theorem V_main_v0 : V m c main_v0 = shapeCast S4x32x1x2048 (m ((c : Thread nD τ).loc main_arg5)) shapeCasts_S4x32x2048_S4x32x1x2048 := by
  show StableHlo.after hostOps0 _ _ = _
  unfold hostOps0
  after_results
  rfl
theorem V_main_v1 : V m c main_v1 = shapeCast S4x32x1x1024 (m ((c : Thread nD τ).loc main_arg7)) shapeCasts_S4x32x1024_S4x32x1x1024 := by
  show StableHlo.after hostOps0 _ _ = _
  unfold hostOps0
  after_results
  rfl

theorem blk0_at (t : Fin (cfgM m hO).N) (r k : Fin 512) :
    iblk m hO c 0 t (ix2 r k)
      = m ((c : Thread nD τ).loc main_arg0) (ix2 ⟨(blkAt m hO t).val * 512 + r.val, by have := (blkAt m hO t).isLt; omega⟩ k) := by
  rw [← V_main_arg0 m c]
  show V m c main_arg0 ((((cfgM m hO).win 0).rect t).emb (ix2 r k)) = V m c main_arg0 _
  congr 1
  funext a
  refine Fin.ext ((Window.rect_emb_val ((cfgM m hO).win 0) t (ix2 r k) a).trans ?_)
  match a with
  | ⟨0, _⟩ =>
    show (BitVec.ofNat 32 (grid0.coords t 0).val).toNat * 512 + r.val = _
    rw [word_toNat]; rfl
  | ⟨1, _⟩ => show 0 * 512 + k.val = k.val; omega

variable (t : Fin (cfgM m hO).N)

theorem blk1_at (hw : (m ((c : Thread nD τ).loc main_arg1) (ix1 (blkAt m hO t))).toNat < 32) (k : Fin 1024) (n : Fin 2048) :
    iblk m hO c 1 t (ix4 0 0 k n) = V m c main_arg4 (ix4 0 (MoeSpec.expert (m ((c : Thread nD τ).loc main_arg1) (ix1 (blkAt m hO t)))) k n) := by
  show V m c main_arg4 ((((cfgM m hO).win 1).rect t).emb (ix4 0 0 k n)) = V m c main_arg4 _
  congr 1
  funext a
  refine Fin.ext ((Window.rect_emb_val ((cfgM m hO).win 1) t (ix4 0 0 k n) a).trans ?_)
  match a with
  | ⟨0, _⟩ => rfl
  | ⟨1, _⟩ =>
    refine Eq.trans ?_ (MoeSpec.expert_val hw).symm
    show ((tbl m).at 0 (Rect.unit (s := S160) (k0_off1 (grid0.coords t)) S1.size (k0_off1_inb (grid0.coords t))) numel1_S1 : BitVec 32).toNat * 1 + 0 = _
    rw [tbl0_at m hO c t]; omega
  | ⟨2, _⟩ => show 0 * 1024 + k.val = k.val; omega
  | ⟨3, _⟩ => show 0 * 2048 + n.val = n.val; omega

theorem blk2_at (hw : (m ((c : Thread nD τ).loc main_arg1) (ix1 (blkAt m hO t))).toNat < 32) (k : Fin 1) (n : Fin 2048) :
    iblk m hO c 2 t (ix4 0 0 k n) = V m c main_v0 (ix4 0 (MoeSpec.expert (m ((c : Thread nD τ).loc main_arg1) (ix1 (blkAt m hO t)))) k n) := by
  show V m c main_v0 ((((cfgM m hO).win 2).rect t).emb (ix4 0 0 k n)) = V m c main_v0 _
  congr 1
  funext a
  refine Fin.ext ((Window.rect_emb_val ((cfgM m hO).win 2) t (ix4 0 0 k n) a).trans ?_)
  match a with
  | ⟨0, _⟩ => rfl
  | ⟨1, _⟩ =>
    refine Eq.trans ?_ (MoeSpec.expert_val hw).symm
    show ((tbl m).at 0 (Rect.unit (s := S160) (k0_off1 (grid0.coords t)) S1.size (k0_off1_inb (grid0.coords t))) numel1_S1 : BitVec 32).toNat * 1 + 0 = _
    rw [tbl0_at m hO c t]; omega
  | ⟨2, _⟩ => show 0 * 1 + k.val = k.val; omega
  | ⟨3, _⟩ => show 0 * 2048 + n.val = n.val; omega

theorem blk3_at (hw : (m ((c : Thread nD τ).loc main_arg1) (ix1 (blkAt m hO t))).toNat < 32) (k : Fin 1024) (n : Fin 1024) :
    iblk m hO c 3 t (ix4 0 0 k n) = V m c main_arg6 (ix4 0 (MoeSpec.expert (m ((c : Thread nD τ).loc main_arg1) (ix1 (blkAt m hO t)))) k n) := by
  show V m c main_arg6 ((((cfgM m hO).win 3).rect t).emb (ix4 0 0 k n)) = V m c main_arg6 _
  congr 1
  funext a
  refine Fin.ext ((Window.rect_emb_val ((cfgM m hO).win 3) t (ix4 0 0 k n) a).trans ?_)
  match a with
  | ⟨0, _⟩ => rfl
  | ⟨1, _⟩ =>
    refine Eq.trans ?_ (MoeSpec.expert_val hw).symm
    show ((tbl m).at 0 (Rect.unit (s := S160) (k0_off1 (grid0.coords t)) S1.size (k0_off1_inb (grid0.coords t))) numel1_S1 : BitVec 32).toNat * 1 + 0 = _
    rw [tbl0_at m hO c t]; omega
  | ⟨2, _⟩ => show 0 * 1024 + k.val = k.val; omega
  | ⟨3, _⟩ => show 0 * 1024 + n.val = n.val; omega

theorem blk4_at (hw : (m ((c : Thread nD τ).loc main_arg1) (ix1 (blkAt m hO t))).toNat < 32) (k : Fin 1) (n : Fin 1024) :
    iblk m hO c 4 t (ix4 0 0 k n) = V m c main_v1 (ix4 0 (MoeSpec.expert (m ((c : Thread nD τ).loc main_arg1) (ix1 (blkAt m hO t)))) k n) := by
  show V m c main_v1 ((((cfgM m hO).win 4).rect t).emb (ix4 0 0 k n)) = V m c main_v1 _
  congr 1
  funext a
  refine Fin.ext ((Window.rect_emb_val ((cfgM m hO).win 4) t (ix4 0 0 k n) a).trans ?_)
  match a with
  | ⟨0, _⟩ => rfl
  | ⟨1, _⟩ =>
    refine Eq.trans ?_ (MoeSpec.expert_val hw).symm
    show ((tbl m).at 0 (Rect.unit (s := S160) (k0_off1 (grid0.coords t)) S1.size (k0_off1_inb (grid0.coords t))) numel1_S1 : BitVec 32).toNat * 1 + 0 = _
    rw [tbl0_at m hO c t]; omega
  | ⟨2, _⟩ => show 0 * 1 + k.val = k.val; omega
  | ⟨3, _⟩ => show 0 * 1024 + n.val = n.val; omega

/-- The experts' function of the arguments. -/
def result : Buf (Elt Ideal) ((c : Thread nD τ).loc main_v2) := fun y =>
  MoeSpec.res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (y 0) (y 1)

/-- The condition of the first branch is that the block is in use. -/
theorem cond_iff (i : grid0.Coords) (v : BitVec 32) : cond0_0 i v ↔ IntOp.cmpi .slt (BitVec.ofNat 32 (i 0).val) v = 1#1 := by
  show IntOp.cmpi .ne (BitVec.zeroExtend 32 (IntOp.cmpi .slt (BitVec.ofNat 32 (i 0).val) v)) 0#32 = 1#1 ↔ _
  rcases BitVec.eq_zero_or_eq_one (IntOp.cmpi .slt (BitVec.ofNat 32 (i 0).val) v) with h | h <;> rw [h] <;> decide

/-- The tile of a block in use, from what its five blocks hold of the arguments. -/
theorem tile_eq (i : grid0.Coords) (b : Fin 160) (hb : (i 0).val = b.val) (x : IVec S81920x512 32) (be ve : IVec S160 32)
    (w1 : FVec Ideal S4x32x1024x2048 .f32) (b1 : FVec Ideal ⟨3, ![4, 32, 2048]⟩ .f32) (w2 : FVec Ideal S4x32x1024x1024 .f32) (b2 : FVec Ideal ⟨3, ![4, 32, 1024]⟩ .f32)
    (x0 : Vec Ideal S512x512 .i32) (x1 : Vec Ideal S1x1x1024x2048 .f32) (x2 : Vec Ideal S1x1x1x2048 .f32) (x3 : Vec Ideal S1x1x1024x1024 .f32) (x4 : Vec Ideal S1x1x1x1024 .f32)
    (h0 : ∀ r k : Fin 512, x0 (ix2 r k) = x (ix2 ⟨b.val * 512 + r.val, by omega⟩ k))
    (h1 : ∀ (k : Fin 1024) (n : Fin 2048), x1 (ix4 0 0 k n) = w1 (ix4 0 (MoeSpec.expert (be (ix1 b))) k n))
    (h2 : ∀ n : Fin 2048, x2 (ix4 0 0 0 n) = b1 (ix3 0 (MoeSpec.expert (be (ix1 b))) n))
    (h3 : ∀ k n : Fin 1024, x3 (ix4 0 0 k n) = w2 (ix4 0 (MoeSpec.expert (be (ix1 b))) k n))
    (h4 : ∀ n : Fin 1024, x4 (ix4 0 0 0 n) = b2 (ix3 0 (MoeSpec.expert (be (ix1 b))) n))
    (y : Fin 1024) (n : Fin 512) :
    tileOf (F := Ideal) i (ve (ix1 b)) x0 x1 x2 x3 x4 (ix2 y n)
      = MoeSpec.fin x be ve w1 b1 w2 b2 b ⟨y.val / 2, by omega⟩ ⟨y.val % 2 * 512 + n.val, by omega⟩ := by
  rw [tile_apply, hb]
  unfold MoeSpec.fin MoeSpec.act MoeSpec.hid
  simp only [h0, h1, h2, h3, h4]

/-- What a point stores, read at an entry. -/
theorem stored (hw : ∀ b : Fin 160, (m ((c : Thread nD τ).loc main_arg1) (ix1 b)).toNat < 32) (y : Fin 1024) (n : Fin 512) :
    outsAt0 m hO c t (ix2 y n)
      = MoeSpec.res (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))
        ⟨(blkAt m hO t).val * 1024 + y.val, by have := (blkAt m hO t).isLt; omega⟩ n := by
  have hb := (blkAt m hO t).isLt
  unfold MoeSpec.res
  have e1 : ((blkAt m hO t).val * 1024 + y.val) / 1024 = (blkAt m hO t).val := by omega
  have e2 : (⟨((blkAt m hO t).val * 1024 + y.val) / 1024, by omega⟩ : Fin 160) = blkAt m hO t := Fin.ext e1
  have e3 : (⟨((blkAt m hO t).val * 1024 + y.val) / 2 % 512, by omega⟩ : Fin 512) = ⟨y.val / 2, by omega⟩ := Fin.ext (by show ((blkAt m hO t).val * 1024 + y.val) / 2 % 512 = y.val / 2; omega)
  have e4 : (⟨((blkAt m hO t).val * 1024 + y.val) % 2 * 512 + n.val, by omega⟩ : Fin 1024) = ⟨y.val % 2 * 512 + n.val, by omega⟩ := Fin.ext (by show ((blkAt m hO t).val * 1024 + y.val) % 2 * 512 + n.val = y.val % 2 * 512 + n.val; omega)
  simp only [e2, e3, e4]
  rw [e1]
  by_cases h0 : cond0_0 (grid0.coords t) (tbM0_1.view.readAt (Elt Ideal) (Rect.unit (s := S1) ![0] S1.size inb_S1_S1_0).toLoadRect (tbl m 1) (Shape.Idx.first (numel1_S1.symm ▸ Nat.one_pos)))
  · refine (congrFun ((outsAt0_A m hO c t h0).trans (out_A ..)) (ix2 y n)).trans ?_
    rw [cond_iff, used_at m c] at h0
    rw [show IntOp.cmpi .slt (BitVec.ofNat 32 (blkAt m hO t).val) (m ((c : Thread nD τ).loc main_arg2) (ix1 0)) = 1#1 from h0]
    rw [end_at m hO c t]
    refine Eq.trans ?_ (MoeSpec.select_true _ _).symm
    have b1 : ∀ q : Fin 2048, V m c main_v0 (ix4 0 (MoeSpec.expert (m ((c : Thread nD τ).loc main_arg1) (ix1 (blkAt m hO t)))) 0 q)
        = m ((c : Thread nD τ).loc main_arg5) (ix3 0 (MoeSpec.expert (m ((c : Thread nD τ).loc main_arg1) (ix1 (blkAt m hO t)))) q) := fun q => by
      rw [V_main_v0]
      generalize MoeSpec.expert (m ((c : Thread nD τ).loc main_arg1) (ix1 (blkAt m hO t))) = e
      pointwise
    have b2 : ∀ q : Fin 1024, V m c main_v1 (ix4 0 (MoeSpec.expert (m ((c : Thread nD τ).loc main_arg1) (ix1 (blkAt m hO t)))) 0 q)
        = m ((c : Thread nD τ).loc main_arg7) (ix3 0 (MoeSpec.expert (m ((c : Thread nD τ).loc main_arg1) (ix1 (blkAt m hO t)))) q) := fun q => by
      rw [V_main_v1]
      generalize MoeSpec.expert (m ((c : Thread nD τ).loc main_arg1) (ix1 (blkAt m hO t))) = e
      pointwise
    exact tile_eq (grid0.coords t) (blkAt m hO t) rfl _ (m ((c : Thread nD τ).loc main_arg1)) (m ((c : Thread nD τ).loc main_arg3)) _ _ _ _ _ _ _ _ _
      (fun r k => blk0_at m hO c t r k)
      (fun k q => (blk1_at m hO c t (hw _) k q).trans (congrFun (V_main_arg4 m c) _))
      (fun q => (blk2_at m hO c t (hw _) 0 q).trans (b1 q))
      (fun k q => (blk3_at m hO c t (hw _) k q).trans (congrFun (V_main_arg6 m c) _))
      (fun q => (blk4_at m hO c t (hw _) 0 q).trans (b2 q)) y n
  · refine (congrFun ((outsAt0_B m hO c t h0).trans (out_B ..)) (ix2 y n)).trans ?_
    rw [cond_iff, used_at m c] at h0
    rw [show IntOp.cmpi .slt (BitVec.ofNat 32 (blkAt m hO t).val) (m ((c : Thread nD τ).loc main_arg2) (ix1 0)) = 0#1 from
      (BitVec.eq_zero_or_eq_one _).resolve_right h0]
    refine Eq.trans ?_ (MoeSpec.select_false _ _).symm
    pointwise [k0_pay2]

/-- Each point writes back its block of the result. -/
theorem flushed_eq (hw : ∀ b : Fin 160, (m ((c : Thread nD τ).loc main_arg1) (ix1 b)).toNat < 32) :
    (dats m hO 0 c).flushed 5 t = (((cfgM m hO).win 5).blk t).view.read (Elt Ideal) (result m c) := by
  show ((cfgM m hO).win 5).cut (grid0.coords t) ((dats m hO 0 c).after 5 t) = _
  rw [after0_5]
  have key : ∀ (y : Fin 1024) (n : Fin 512), outsAt0 m hO c t (ix2 y n) = result m c ((((cfgM m hO).win 5).rect t).emb (ix2 y n)) := fun y n => by
    refine (stored m hO c t hw y n).trans (congrArg₂ (MoeSpec.res _ _ _ _ _ _ _ _) (Fin.ext ?_) (Fin.ext ?_))
    · refine Eq.trans ?_ (Window.rect_emb_val ((cfgM m hO).win 5) t (ix2 y n) (0 : Fin 2)).symm
      show (grid0.coords t 0).val * 1024 + y.val = (BitVec.ofNat 32 (grid0.coords t 0).val).toNat * 1024 + y.val
      rw [word_toNat]
    · refine Eq.trans ?_ (Window.rect_emb_val ((cfgM m hO).win 5) t (ix2 y n) (1 : Fin 2)).symm
      show n.val = 0 * 512 + n.val
      omega
  refine funext fun (y : S1024x512.Idx) => ?_
  have e : y = ix2 (n0 := 1024) (n1 := 512) (y 0) (y 1) := eq_ix2 y
  exact (congrArg _ e).trans ((key (y 0) (y 1)).trans (congrArg (fun z => result m c ((((cfgM m hO).win 5).rect t).emb z)) e.symm))

theorem final (hw : ∀ b : Fin 160, (m ((c : Thread nD τ).loc main_arg1) (ix1 b)).toNat < 32) :
    (dats m hO 0 c).arrAt 5 (cfgM m hO).N = result m c :=
  (dats m hO 0 c).arrAt_eq_of_cover 5 (result m c) (fun t _ => flushed_eq m hO c t hw) fun (i : S163840x512.Idx) => by
    have h0 : (i 0 : Nat) < 163840 := (i 0).isLt
    have h1 : (i 1 : Nat) < 512 := (i 1).isLt
    have hN : (cfgM m hO).N = 160 := N_0
    have hT : (i 0 : Nat) / 1024 < (cfgM m hO).N := by rw [hN]; omega
    have hv := blkAt_val m hO ⟨(i 0 : Nat) / 1024, hT⟩
    refine ⟨⟨(i 0 : Nat) / 1024, hT⟩, flush0_5 (adm m hO) _, ?_⟩
    show i ∈ ((View.whole main_v2).slice (((cfgM m hO).win 5).rect ⟨(i 0 : Nat) / 1024, hT⟩)).set
    refine (View.set_slice_whole main_v2 (((cfgM m hO).win 5).rect ⟨(i 0 : Nat) / 1024, hT⟩)).symm ▸ ?_
    refine (Rect.mem_set_unit ..).mpr ?_
    intro a
    match a with
    | ⟨0, _⟩ =>
      show (BitVec.ofNat 32 (grid0.coords ⟨(i 0 : Nat) / 1024, hT⟩ 0).val).toNat * 1024 ≤ (i 0 : Nat)
        ∧ (i 0 : Nat) < (BitVec.ofNat 32 (grid0.coords ⟨(i 0 : Nat) / 1024, hT⟩ 0).val).toNat * 1024 + 1024
      rw [word_toNat, show (grid0.coords ⟨(i 0 : Nat) / 1024, hT⟩ 0).val = (i 0 : Nat) / 1024 from hv]
      omega
    | ⟨1, _⟩ => show 0 * 512 ≤ (i 1 : Nat) ∧ (i 1 : Nat) < 0 * 512 + 512; omega

variable (ρ : Dev nD → PrngReg)

include hO in
/-- The run leaves the experts' function in the result array. -/
theorem run (hw : ∀ (c : Dev nD) (b : Fin 160), (m ((c : Thread nD τ).loc main_arg1) (ix1 b)).toNat < 32) :
    θ_run defs (onTc (τ := τ) (main (F := Ideal))) ⟨m, fun _ => 0, ρ⟩ (fun r => ∀ c : Dev nD,
      r.2.mem ((c.tc : Thread nD τ).loc main_v2) = result m c) :=
  (θ_run defs _ _).mono (fun _ h c => ((h c).1 5).trans (final m hO c (hw c))) (run_main m ρ hO)

end Cert.KernelIdeal.Moe
end
-- ==== Proof.MoeRef.lean ====
/- The reference's result read at an index. -/
module

public import proofs.«01_k».proof.Proof.Gen.ReferenceIdeal.Run
public import proofs.«01_k».proof.Proof.MoeSpec
public import Idealize.ShloMosaic.Lib.Pointwise
public import Idealize.ShloMosaic.Lib.Pipeline.Value

@[expose] public section

set_option maxRecDepth 8192

noncomputable section

namespace Cert.ReferenceIdeal.Moe

open Cert.ReferenceIdeal.Gen
open Idealize.ShloMosaic

/-- The blocks' expert numbers as start indices: a negative one counted from the end. -/
def starts (be : IVec S160 32) : IVec S160x1 32 :=
  broadcastInDim S160x1 ![0] bcast_S160_S160x1_0 (select (cmpi .slt be (broadcastInDim S160 ![] bcast_S_S160 (constantI S_ 32 0#32)))
    (addi be (broadcastInDim S160 ![] bcast_S_S160 (constantI S_ 32 32#32))) be)

/-- All rows, unpacked: low halves' numbers, then high halves'. -/
def unpacked (X : IVec S81920x512 32) : FVec Ideal S81920x1024 .f32 :=
  concatenate S81920x1024 1 [⟨S81920x512, (bitcastToFloat (F := Ideal) .f32 (Host.shli X (broadcastInDim S81920x512 ![] bcast_S_S81920x512 (constantI S_ 32 16#32))))⟩,
    ⟨S81920x512, (bitcastToFloat (F := Ideal) .f32 (andi X (broadcastInDim S81920x512 ![] bcast_S_S81920x512 (constantI S_ 32 4294901760#32))))⟩] concatenates_S81920x512_S81920x512_S81920x1024_d1

/-- The rows by block, those past their block's end zero. -/
def blockRows (x : FVec Ideal S81920x1024 .f32) (ve : IVec S160 32) : FVec Ideal S160x512x1024 .f32 :=
  select (broadcastInDim S160x512x1024 ![0, 1, 2] bcast_S160x512x1_S160x512x1024_0_1_2 (broadcastInDim S160x512x1 ![0, 1] bcast_S160x512_S160x512x1_0_1
      (cmpi .slt (shapeCast _ (iotaInDim S81920 32 0) shapeCasts_S81920_S160x512) (broadcastInDim S160x512 ![0, 1] bcast_S160x1_S160x512_0_1 (broadcastInDim S160x1 ![0] bcast_S160_S160x1_0 ve)))))
    (shapeCast _ x shapeCasts_S81920x1024_S160x512x1024) (broadcastInDim S160x512x1024 ![] bcast_S_S160x512x1024 (id (constant S_ .f32 0x00000000#32)))

/-- The first product and bias. -/
def hidden (x : FVec Ideal S160x512x1024 .f32) (s : IVec S160x1 32) (w1 : FVec Ideal S4x32x1024x2048 .f32) (b1 : FVec Ideal S4x32x2048 .f32) :
    FVec Ideal S160x512x2048 .f32 :=
  addf (Host.dotGeneral dot_S160x512x1024_S160x1024x2048_S160x512x2048_2_1_1_2_0_0 none x
      (Host.gather gather_S32x1024x2048_S160x1_S160x1024x2048_12_0_n_n_0_1_110242048 (shapeCast _ (extractStridedSlice S1x32x1024x2048 ![0, 0, 0, 0] w1 slices_S4x32x1024x2048_S1x32x1024x2048_0_0_0_0) shapeCasts_S1x32x1024x2048_S32x1024x2048) s))
    (broadcastInDim S160x512x2048 ![0, 1, 2] bcast_S160x1x2048_S160x512x2048_0_1_2 (broadcastInDim S160x1x2048 ![0, 2] bcast_S160x2048_S160x1x2048_0_2
      (Host.gather gather_S32x2048_S160x1_S160x2048_1_0_n_n_0_1_12048 (shapeCast _ (extractStridedSlice S1x32x2048 ![0, 0, 0] b1 slices_S4x32x2048_S1x32x2048_0_0_0) shapeCasts_S1x32x2048_S32x2048) s)))

/-- The gated unit between the products. -/
def gated (h : FVec Ideal S160x512x2048 .f32) : FVec Ideal S160x512x1024 .f32 :=
  mulf (addf (minimumf (broadcastInDim S160x512x1024 ![] bcast_S_S160x512x1024 (id (constant S_ .f32 0x40E00000#32))) (maximumf (broadcastInDim S160x512x1024 ![] bcast_S_S160x512x1024 (id (constant S_ .f32 0xC0E00000#32)))
        (extractStridedSlice S160x512x1024 ![0, 0, 1024] h slices_S160x512x2048_S160x512x1024_0_0_1024)))
      (broadcastInDim S160x512x1024 ![] bcast_S_S160x512x1024 (constant S_ .f32 0x3F800000#32)))
    (mulf (minimumf (extractStridedSlice S160x512x1024 ![0, 0, 0] h slices_S160x512x2048_S160x512x1024_0_0_0) (broadcastInDim S160x512x1024 ![] bcast_S_S160x512x1024 (constant S_ .f32 0x40E00000#32)))
      (Host.divf (broadcastInDim S160x512x1024 ![] bcast_S_S160x512x1024 (constant S_ .f32 0x3F800000#32)) (addf (broadcastInDim S160x512x1024 ![] bcast_S_S160x512x1024 (constant S_ .f32 0x3F800000#32))
        (Host.exp (Host.negf (mulf (minimumf (extractStridedSlice S160x512x1024 ![0, 0, 0] h slices_S160x512x2048_S160x512x1024_0_0_0) (broadcastInDim S160x512x1024 ![] bcast_S_S160x512x1024 (constant S_ .f32 0x40E00000#32)))
          (broadcastInDim S160x512x1024 ![] bcast_S_S160x512x1024 (constant S_ .f32 0x3FD9DB23#32))))))))

/-- The second product and bias. -/
def second (a : FVec Ideal S160x512x1024 .f32) (s : IVec S160x1 32) (w2 : FVec Ideal S4x32x1024x1024 .f32) (b2 : FVec Ideal S4x32x1024 .f32) :
    FVec Ideal S160x512x1024 .f32 :=
  addf (Host.dotGeneral dot_S160x512x1024_S160x1024x1024_S160x512x1024_2_1_1_2_0_0 none a
      (Host.gather gather_S32x1024x1024_S160x1_S160x1024x1024_12_0_n_n_0_1_110241024 (shapeCast _ (extractStridedSlice S1x32x1024x1024 ![0, 0, 0, 0] w2 slices_S4x32x1024x1024_S1x32x1024x1024_0_0_0_0) shapeCasts_S1x32x1024x1024_S32x1024x1024) s))
    (broadcastInDim S160x512x1024 ![0, 1, 2] bcast_S160x1x1024_S160x512x1024_0_1_2 (broadcastInDim S160x1x1024 ![0, 2] bcast_S160x1024_S160x1x1024_0_2
      (Host.gather gather_S32x1024_S160x1_S160x1024_1_0_n_n_0_1_11024 (shapeCast _ (extractStridedSlice S1x32x1024 ![0, 0, 0] b2 slices_S4x32x1024_S1x32x1024_0_0_0) shapeCasts_S1x32x1024_S32x1024) s)))

/-- The blocks in use kept, the others zero; the rows as the packed words hold them. -/
def kept (y : FVec Ideal S160x512x1024 .f32) (nu : IVec S1 32) : FVec Ideal S163840x512 .bf16 :=
  shapeCast _ (truncf .bf16 (select (broadcastInDim S160x512x1024 ![0, 1, 2] bcast_S160x1x1_S160x512x1024_0_1_2 (broadcastInDim S160x1x1 ![0] bcast_S160_S160x1x1_0
      (cmpi .slt (iotaInDim S160 32 0) (broadcastInDim S160 ![] bcast_S_S160 (shapeCast _ nu shapeCasts_S1_S_))))) y
    (broadcastInDim S160x512x1024 ![] bcast_S_S160x512x1024 (id (constant S_ .f32 0x00000000#32)))) bitsLt_bf16_f32) shapeCasts_S160x512x1024_S163840x512

theorem res_eq (m : (ℓ : Loc nD τ sig) → Buf (Elt Ideal) ℓ) (c : Dev nD) :
    Value.res_main_v83 m c
      = kept (second (gated (hidden (blockRows (unpacked (m ((c.tc : Thread nD τ).loc main_arg0))) (m ((c.tc : Thread nD τ).loc main_arg3)))
          (starts (m ((c.tc : Thread nD τ).loc main_arg1))) (m ((c.tc : Thread nD τ).loc main_arg4)) (m ((c.tc : Thread nD τ).loc main_arg5))))
          (starts (m ((c.tc : Thread nD τ).loc main_arg1))) (m ((c.tc : Thread nD τ).loc main_arg6)) (m ((c.tc : Thread nD τ).loc main_arg7)))
        (m ((c.tc : Thread nD τ).loc main_arg2)) := by
  unfold Value.res_main_v83 kept second gated hidden blockRows unpacked starts
  rfl

/-- The zero the rows outside a block take. -/
theorem zero_word : (id (constant (F := Ideal) S_ .f32 0#32) ix0 : EReal) = 0 := Ideal.ofBits_zero_f32

section Slab
variable {α : Type}

/-- The dimension numbers of a gather of whole `[K, N]` slabs by one index each. -/
abbrev slabDims (K N : Nat) (wf : GatherDims.WF ⟨3, ![32, K, N]⟩ ⟨2, ![160, 1]⟩ ⟨3, ![160, K, N]⟩ [1, 2] [0] [] [0] [] 1 ![1, K, N]) :
    GatherDims ⟨3, ![32, K, N]⟩ ⟨2, ![160, 1]⟩ ⟨3, ![160, K, N]⟩ where
  offsetDims := [1, 2]
  collapsedSliceDims := [0]
  operandBatchingDims := []
  startIndicesBatchingDims := []
  startIndexMap := [0]
  indexVectorDim := 1
  sliceSizes := ![1, K, N]
  wf := wf

/-- A gather of whole slabs read at an index: the slab named by the block's start index, kept inside the array. -/
theorem slab_apply {K N : Nat} (wf : GatherDims.WF ⟨3, ![32, K, N]⟩ ⟨2, ![160, 1]⟩ ⟨3, ![160, K, N]⟩ [1, 2] [0] [] [0] [] 1 ![1, K, N])
    (x : (⟨3, ![32, K, N]⟩ : Shape).Idx → α) (s : IVec S160x1 32) (b : Fin 160) (k : Fin K) (n : Fin N) :
    Host.gather (slabDims K N wf) x s (ix3 b k n) = x (ix3 (MoeSpec.expert (s (ix2 b 0))) k n) := by
  unfold Host.gather
  congr 1
  funext a
  refine Fin.ext ?_
  show (slabDims K N wf).start (ix3 b k n) s a + (slabDims K N wf).batchCoord (ix3 b k n) a
    + (slabDims K N wf).offCoord (ix3 b k n) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (slabDims K N wf).startIndexMap from List.mem_singleton.mpr rfl)]
    have e : (slabDims K N wf).siIdx (ix3 b k n) ⟨List.idxOf (⟨0, by decide⟩ : Fin 3) (slabDims K N wf).startIndexMap,
        List.idxOf_lt_length_iff.2 (List.mem_singleton.mpr rfl)⟩ = ix2 b 0 := by
      funext c; refine Fin.ext ?_
      match c with
      | ⟨0, _⟩ => rfl
      | ⟨1, _⟩ => rfl
    rw [e]; rfl
  | ⟨1, _⟩ =>
    unfold GatherDims.start
    rw [dif_neg (show ¬ (⟨1, by decide⟩ : Fin 3) ∈ (slabDims K N wf).startIndexMap by show ¬ (_ ∈ [(0 : Fin 3)]); decide)]
    unfold GatherDims.offCoord
    rw [dif_pos (show (⟨1, by decide⟩ : Fin 3) ∈ (slabDims K N wf).sKept by
      rw [GatherDims.mem_sKept]; exact ⟨by show ¬ (_ ∈ [(0 : Fin 3)]); decide, List.not_mem_nil⟩)]
    simp only [Nat.zero_add, Nat.add_zero]
    rfl
  | ⟨2, _⟩ =>
    unfold GatherDims.start
    rw [dif_neg (show ¬ (⟨2, by decide⟩ : Fin 3) ∈ (slabDims K N wf).startIndexMap by show ¬ (_ ∈ [(0 : Fin 3)]); decide)]
    unfold GatherDims.offCoord
    rw [dif_pos (show (⟨2, by decide⟩ : Fin 3) ∈ (slabDims K N wf).sKept by
      rw [GatherDims.mem_sKept]; exact ⟨by show ¬ (_ ∈ [(0 : Fin 3)]); decide, List.not_mem_nil⟩)]
    simp only [Nat.zero_add, Nat.add_zero]
    rfl

/-- The dimension numbers of a gather of whole rows by one index each. -/
abbrev lineDims (N : Nat) (wf : GatherDims.WF ⟨2, ![32, N]⟩ ⟨2, ![160, 1]⟩ ⟨2, ![160, N]⟩ [1] [0] [] [0] [] 1 ![1, N]) :
    GatherDims ⟨2, ![32, N]⟩ ⟨2, ![160, 1]⟩ ⟨2, ![160, N]⟩ where
  offsetDims := [1]
  collapsedSliceDims := [0]
  operandBatchingDims := []
  startIndicesBatchingDims := []
  startIndexMap := [0]
  indexVectorDim := 1
  sliceSizes := ![1, N]
  wf := wf

/-- A gather of whole rows read at an index. -/
theorem line_apply {N : Nat} (wf : GatherDims.WF ⟨2, ![32, N]⟩ ⟨2, ![160, 1]⟩ ⟨2, ![160, N]⟩ [1] [0] [] [0] [] 1 ![1, N])
    (x : (⟨2, ![32, N]⟩ : Shape).Idx → α) (s : IVec S160x1 32) (b : Fin 160) (n : Fin N) :
    Host.gather (lineDims N wf) x s (ix2 b n) = x (ix2 (MoeSpec.expert (s (ix2 b 0))) n) := by
  unfold Host.gather
  congr 1
  funext a
  refine Fin.ext ?_
  show (lineDims N wf).start (ix2 b n) s a + (lineDims N wf).batchCoord (ix2 b n) a
    + (lineDims N wf).offCoord (ix2 b n) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (lineDims N wf).startIndexMap from List.mem_singleton.mpr rfl)]
    have e : (lineDims N wf).siIdx (ix2 b n) ⟨List.idxOf (⟨0, by decide⟩ : Fin 2) (lineDims N wf).startIndexMap,
        List.idxOf_lt_length_iff.2 (List.mem_singleton.mpr rfl)⟩ = ix2 b 0 := by
      funext c; refine Fin.ext ?_
      match c with
      | ⟨0, _⟩ => rfl
      | ⟨1, _⟩ => rfl
    rw [e]; rfl
  | ⟨1, _⟩ =>
    unfold GatherDims.start
    rw [dif_neg (show ¬ (⟨1, by decide⟩ : Fin 2) ∈ (lineDims N wf).startIndexMap by show ¬ (_ ∈ [(0 : Fin 2)]); decide)]
    unfold GatherDims.offCoord
    rw [dif_pos (show (⟨1, by decide⟩ : Fin 2) ∈ (lineDims N wf).sKept by
      rw [GatherDims.mem_sKept]; exact ⟨by show ¬ (_ ∈ [(0 : Fin 2)]); decide, List.not_mem_nil⟩)]
    simp only [Nat.zero_add, Nat.add_zero]
    rfl

end Slab

/-- A block that names an expert starts at it. -/
theorem starts_apply (be : IVec S160 32) (b : Fin 160) (h : (be (ix1 b)).toNat < 32) : starts be (ix2 b 0) = be (ix1 b) := by
  have e : starts be (ix2 b 0) = Scalar.select (IntOp.cmpi .slt (be (ix1 b)) 0#32) (IntOp.addi (be (ix1 b)) 32#32) (be (ix1 b)) := by
    pointwise [starts]
  rw [e, MoeSpec.slt_zero h]
  rfl

theorem unpacked_apply (X : IVec S81920x512 32) (r : Fin 81920) (k : Fin 1024) :
    unpacked X (ix2 r k) = MoeSpec.entry (fun j => X (ix2 r j)) k := by
  unfold unpacked MoeSpec.entry
  by_cases h : k.val < 512
  · rw [dif_pos h]
    refine (concatenate_pair_apply_left (t := S81920x1024) (s₁ := S81920x512) (s₂ := S81920x512) (a := 1) (j := ix2 r k) (hr := rfl) (i := ix2 r ⟨k.val, h⟩)
      (hi := fun b => by match b with | ⟨0, _⟩ => rfl | ⟨1, _⟩ => rfl) ..).trans ?_
    pointwise
    rfl
  · rw [dif_neg h]
    refine (concatenate_pair_apply_right (t := S81920x1024) (s₁ := S81920x512) (s₂ := S81920x512) (a := 1) (j := ix2 r k) (hr := rfl) (hr₂ := rfl) (i := ix2 r ⟨k.val - 512, by omega⟩)
      (hi := fun b hb => by match b with | ⟨0, _⟩ => rfl | ⟨1, _⟩ => exact absurd rfl hb)
      (ha := Nat.sub_add_cancel (Nat.le_of_not_lt h)) ..).trans ?_
    pointwise

theorem blockRows_apply (X : IVec S81920x512 32) (ve : IVec S160 32) (b : Fin 160) (r : Fin 512) (k : Fin 1024) :
    blockRows (unpacked X) ve (ix3 b r k)
      = MoeSpec.filled (BitVec.ofNat 32 (b.val * 512 + r.val)) (ve (ix1 b)) (fun j => X (ix2 ⟨b.val * 512 + r.val, by omega⟩ j)) k := by
  have e : blockRows (unpacked X) ve (ix3 b r k) = Scalar.select (IntOp.cmpi .slt (BitVec.ofNat 32 (b.val * 512 + r.val)) (ve (ix1 b)))
      (unpacked X (ix2 ⟨b.val * 512 + r.val, by omega⟩ k)) 0 := by
    generalize unpacked X = x
    pointwise [blockRows]
    rw [zero_word]
  rw [e, unpacked_apply]
  rfl

theorem slab1_apply (w1 : FVec Ideal S4x32x1024x2048 .f32) (s : IVec S160x1 32) (b : Fin 160) (k : Fin 1024) (n : Fin 2048) :
    Host.gather gather_S32x1024x2048_S160x1_S160x1024x2048_12_0_n_n_0_1_110242048 (shapeCast S32x1024x2048 (extractStridedSlice S1x32x1024x2048 ![0, 0, 0, 0] w1 slices_S4x32x1024x2048_S1x32x1024x2048_0_0_0_0) shapeCasts_S1x32x1024x2048_S32x1024x2048) s (ix3 b k n)
      = w1 (ix4 0 (MoeSpec.expert (s (ix2 b 0))) k n) := by
  refine (slab_apply gather_S32x1024x2048_S160x1_S160x1024x2048_12_0_n_n_0_1_110242048_wf _ s b k n).trans ?_
  generalize MoeSpec.expert (s (ix2 b 0)) = e
  pointwise

theorem line1_apply (b1 : FVec Ideal S4x32x2048 .f32) (s : IVec S160x1 32) (b : Fin 160) (n : Fin 2048) :
    Host.gather gather_S32x2048_S160x1_S160x2048_1_0_n_n_0_1_12048 (shapeCast S32x2048 (extractStridedSlice S1x32x2048 ![0, 0, 0] b1 slices_S4x32x2048_S1x32x2048_0_0_0) shapeCasts_S1x32x2048_S32x2048) s (ix2 b n)
      = b1 (ix3 0 (MoeSpec.expert (s (ix2 b 0))) n) := by
  refine (line_apply gather_S32x2048_S160x1_S160x2048_1_0_n_n_0_1_12048_wf _ s b n).trans ?_
  generalize MoeSpec.expert (s (ix2 b 0)) = e
  pointwise

theorem slab2_apply (w2 : FVec Ideal S4x32x1024x1024 .f32) (s : IVec S160x1 32) (b : Fin 160) (k : Fin 1024) (n : Fin 1024) :
    Host.gather gather_S32x1024x1024_S160x1_S160x1024x1024_12_0_n_n_0_1_110241024 (shapeCast S32x1024x1024 (extractStridedSlice S1x32x1024x1024 ![0, 0, 0, 0] w2 slices_S4x32x1024x1024_S1x32x1024x1024_0_0_0_0) shapeCasts_S1x32x1024x1024_S32x1024x1024) s (ix3 b k n)
      = w2 (ix4 0 (MoeSpec.expert (s (ix2 b 0))) k n) := by
  refine (slab_apply gather_S32x1024x1024_S160x1_S160x1024x1024_12_0_n_n_0_1_110241024_wf _ s b k n).trans ?_
  generalize MoeSpec.expert (s (ix2 b 0)) = e
  pointwise

theorem line2_apply (b2 : FVec Ideal S4x32x1024 .f32) (s : IVec S160x1 32) (b : Fin 160) (n : Fin 1024) :
    Host.gather gather_S32x1024_S160x1_S160x1024_1_0_n_n_0_1_11024 (shapeCast S32x1024 (extractStridedSlice S1x32x1024 ![0, 0, 0] b2 slices_S4x32x1024_S1x32x1024_0_0_0) shapeCasts_S1x32x1024_S32x1024) s (ix2 b n)
      = b2 (ix3 0 (MoeSpec.expert (s (ix2 b 0))) n) := by
  refine (line_apply gather_S32x1024_S160x1_S160x1024_1_0_n_n_0_1_11024_wf _ s b n).trans ?_
  generalize MoeSpec.expert (s (ix2 b 0)) = e
  pointwise

theorem hidden_apply (x : FVec Ideal S160x512x1024 .f32) (s : IVec S160x1 32) (w1 : FVec Ideal S4x32x1024x2048 .f32) (b1 : FVec Ideal S4x32x2048 .f32) (b : Fin 160) (r : Fin 512) (n : Fin 2048) :
    hidden x s w1 b1 (ix3 b r n)
      = ∑ k : Fin 1024, x (ix3 b r k) * w1 (ix4 0 (MoeSpec.expert (s (ix2 b 0))) k n) + b1 (ix3 0 (MoeSpec.expert (s (ix2 b 0))) n) := by
  rw [← line1_apply b1 s b n, Finset.sum_congr rfl (fun k _ => by rw [← slab1_apply w1 s b k n])]
  unfold hidden
  generalize Host.gather gather_S32x1024x2048_S160x1_S160x1024x2048_12_0_n_n_0_1_110242048 _ _ = W
  generalize Host.gather gather_S32x2048_S160x1_S160x2048_1_0_n_n_0_1_12048 _ _ = B
  pointwise

theorem second_apply (x : FVec Ideal S160x512x1024 .f32) (s : IVec S160x1 32) (w2 : FVec Ideal S4x32x1024x1024 .f32) (b2 : FVec Ideal S4x32x1024 .f32) (b : Fin 160) (r : Fin 512) (n : Fin 1024) :
    second x s w2 b2 (ix3 b r n)
      = ∑ k : Fin 1024, x (ix3 b r k) * w2 (ix4 0 (MoeSpec.expert (s (ix2 b 0))) k n) + b2 (ix3 0 (MoeSpec.expert (s (ix2 b 0))) n) := by
  rw [← line2_apply b2 s b n, Finset.sum_congr rfl (fun k _ => by rw [← slab2_apply w2 s b k n])]
  unfold second
  generalize Host.gather gather_S32x1024x1024_S160x1_S160x1024x1024_12_0_n_n_0_1_110241024 _ _ = W
  generalize Host.gather gather_S32x1024_S160x1_S160x1024_1_0_n_n_0_1_11024 _ _ = B
  pointwise

theorem gated_apply (h : FVec Ideal S160x512x2048 .f32) (b : Fin 160) (r : Fin 512) (k : Fin 1024) :
    gated h (ix3 b r k) = MoeSpec.gate (h (ix3 b r ⟨k.val, by omega⟩)) (h (ix3 b r ⟨1024 + k.val, by omega⟩)) := by
  pointwise [gated]
  rfl

theorem kept_apply (y : FVec Ideal S160x512x1024 .f32) (nu : IVec S1 32) (i : Fin 163840) (n : Fin 512) :
    kept y nu (ix2 i n) = Scalar.select (IntOp.cmpi .slt (BitVec.ofNat 32 (i.val / 1024)) (nu (ix1 0)))
      (y (ix3 ⟨i.val / 1024, by omega⟩ ⟨i.val / 2 % 512, by omega⟩ ⟨i.val % 2 * 512 + n.val, by omega⟩)) 0 := by
  pointwise [kept]
  rw [zero_word]

/-- The reference's result, entry by entry. -/
theorem ref_apply (x : IVec S81920x512 32) (be : IVec S160 32) (nu : IVec S1 32) (ve : IVec S160 32)
    (w1 : FVec Ideal S4x32x1024x2048 .f32) (b1 : FVec Ideal S4x32x2048 .f32)
    (w2 : FVec Ideal S4x32x1024x1024 .f32) (b2 : FVec Ideal S4x32x1024 .f32) (hbe : ∀ b : Fin 160, (be (ix1 b)).toNat < 32)
    (i : Fin 163840) (n : Fin 512) :
    kept (second (gated (hidden (blockRows (unpacked x) ve) (starts be) w1 b1)) (starts be) w2 b2) nu (ix2 i n)
      = MoeSpec.res x be nu ve w1 b1 w2 b2 i n := by
  rw [kept_apply, second_apply, starts_apply _ _ (hbe _)]
  unfold MoeSpec.res MoeSpec.fin
  congr 2
  refine Finset.sum_congr rfl fun k _ => ?_
  congr 1
  rw [gated_apply, hidden_apply, hidden_apply, starts_apply _ _ (hbe _)]
  unfold MoeSpec.act MoeSpec.hid
  simp only [blockRows_apply]

end Cert.ReferenceIdeal.Moe
end
-- ==== Proof.MoeEq.lean ====
/- The experts' call and the reference leave the same array. -/
module

public import proofs.«01_k».proof.Proof.MoeIdeal.Value
public import proofs.«01_k».proof.Proof.MoeRef

@[expose] public section

noncomputable section

namespace Cert.MoeEq

open Idealize.ShloMosaic Idealize.ShloMosaic.TcCoe Idealize.SL.Sem

/-- The reference leaves its arguments as they were and no counter raised. -/
theorem ref_frame : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The same under the kernel's precondition. -/
theorem ref_frame_pre : Cert.quiescent_ReferenceIdeal_pre_blocks_name_experts := fun m g _ =>
  (θ_run _ _ _).mono (fun r h => ⟨fun c => (h c).2, sem_eq_zero_of_no_sems (by decide) r.2⟩) (Cert.ReferenceIdeal.Value.run (F := Ideal) m g)

/-- From equal arguments, whose blocks name experts, the two results are equal. -/
theorem algebraic : Cert.algebraic_KernelIdeal_ReferenceIdeal := fun m g m' g' h hargs => by
  have hO := Cert.KernelIdeal.Moe.ok_of_pre m h
  have hw : ∀ (c : Dev Cert.KernelIdeal.nD) (b : Fin 160), (m ((c : Thread Cert.KernelIdeal.nD Cert.KernelIdeal.τ).loc Cert.KernelIdeal.main_arg1) (ix1 b)).toNat < 32 := fun c b => by
    obtain rfl : c = 0 := Subsingleton.elim _ _
    exact Cert.MoePre.word_lt _ _ _ _ _ _ _ _ (h 0) (ix1 b)
  refine ⟨fun c => Cert.KernelIdeal.Moe.result m c, ?_, ?_⟩
  · exact (θ_run _ _ _).mono (fun r h c => ⟨h.1 c, h.2 c⟩)
      (θ_run_and (Cert.KernelIdeal.Moe.run m hO g hw) (Cert.KernelIdeal.Moe.unchanged m g hO))
  · refine (θ_run _ _ _).mono (fun r hr c => ⟨(hr c).1.trans ?_, (hr c).2⟩) (Cert.ReferenceIdeal.Value.run (F := Ideal) m' g')
    obtain ⟨a0, a1, a2, a3, a4, a5, a6, a7⟩ := hargs c
    refine (Cert.ReferenceIdeal.Moe.res_eq m' c).trans ?_
    rw [a0, a1, a2, a3, a4, a5, a6, a7]
    refine funext fun (y : Cert.ReferenceIdeal.S163840x512.Idx) => ?_
    have e : y = ix2 (n0 := 163840) (n1 := 512) (y 0) (y 1) := eq_ix2 y
    exact (congrArg _ e).trans (Cert.ReferenceIdeal.Moe.ref_apply _ _ _ _ _ _ _ _ (hw c) (y 0) (y 1))

end Cert.MoeEq
end
-- ==== Proof.ProjIdeal.RunB.lean ====
module

public import proofs.«01_k».proof.Proof.Gen.Kernel2Ideal.Frame
public import proofs.«01_k».proof.Proof.Gen.Kernel2Ideal.Loops

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S1x1024x3480 .f32) (harg2 : arg2.IsWhole)
  (arg3 : Memref sig .tc .vmem S1x256 .f32) (harg3 : arg3.IsWhole) (arg4 : Memref sig .tc .vmem S1x256 .f32) (harg4 : arg4.IsWhole)
  (arg5 : Memref sig .tc .vmem S4x128x128 .bf16) (harg5 : arg5.IsWhole) (arg6 : Memref sig .tc .vmem S128x128 .f32) (harg6 : arg6.IsWhole)
  (arg7 : Memref sig .tc .vmem S512x256 .f32) (harg7 : arg7.IsWhole) (arg8 : Memref sig .tc .vmem S512x1408 .f32) (harg8 : arg8.IsWhole)
  (arg9 : Memref sig .tc .vmem S512x1664 .f32) (harg9 : arg9.IsWhole) (arg10 : Memref sig .tc .vmem S1024x3584 .bf16) (harg10 : arg10.IsWhole)
  (x0 : Vec F S512x1024 .f32) (x1 : Vec F S1x1024x3480 .f32) (x2 : Vec F S1x256 .f32) (x3 : Vec F S1x256 .f32) (x4 : Vec F S4x128x128 .bf16) (x5 : Vec F S128x128 .f32)

set_option maxHeartbeats 4000000 in
noncomputable def runB (W : Vec F S1024x3584 .bf16) (hc : ¬ k0_cond1 i = 1#1) :
    { L : List (View.Piece (Elt F) S512x256 .f32) × List (View.Piece (Elt F) S512x1408 .f32) × List (View.Piece (Elt F) S512x1664 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)
                ∗ owns (c : Thread nD τ) arg10 fullShare W) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc0_in_proj_eq_skeleton]; unfold cc0_in_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; isplitr; · ipureintro; exact harg10.read_unread _
    iexact H9

end Cert.Kernel2Ideal.Proj

end
-- ==== Proof.ProjIdeal.Fill.lean ====
/- The scratch after the first point: the projection weights cast, padded with zero columns. -/
module

public import proofs.«01_k».proof.Proof.Gen.Kernel2Ideal.Frame
public import proofs.«01_k».proof.Proof.Gen.Kernel2Ideal.Loops
public import Idealize.ShloMosaic.Lib.WritesUnit
public import Idealize.ShloMosaic.Lib.Pointwise
public import Idealize.ShloMosaic.Lib.Pipeline.ValueKit.Tiles

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `128k … 128k+127` of the weights, the columns below 3456. -/
def slabL (x1 : Vec F S1x1024x3480 .f32) (k : Fin 8) : Vec F S1x128x3456 .f32 := fun j =>
  x1 (ix3 (0 : Fin 1) (⟨128 * k.val + (j 1).val, by have := k.isLt; have h : (j 1).val < 128 := (j 1).isLt; omega⟩ : Fin 1024)
    (⟨(j 2).val, by have h : (j 2).val < 3456 := (j 2).isLt; omega⟩ : Fin 3480))

/-- The same rows, the 24 columns from 3456. -/
def slabR (x1 : Vec F S1x1024x3480 .f32) (k : Fin 8) : Vec F S1x128x24 .f32 := fun j =>
  x1 (ix3 (0 : Fin 1) (⟨128 * k.val + (j 1).val, by have := k.isLt; have h : (j 1).val < 128 := (j 1).isLt; omega⟩ : Fin 1024)
    (⟨3456 + (j 2).val, by have h : (j 2).val < 24 := (j 2).isLt; omega⟩ : Fin 3480))

/-- What the loop leaves in the scratch. -/
def wide (x1 : Vec F S1x1024x3480 .f32) : Vec F S1024x3584 .bf16 := fun y =>
  if h : (y 1).val < 3456 then
    k0_pay4 (slabL x1 ⟨(y 0).val / 128, by have h0 : (y 0).val < 1024 := (y 0).isLt; omega⟩)
      (ix2 (⟨(y 0).val % 128, by omega⟩ : Fin 128) (⟨(y 1).val, h⟩ : Fin 3456))
  else
    k0_pay5 (slabR x1 ⟨(y 0).val / 128, by have h0 : (y 0).val < 1024 := (y 0).isLt; omega⟩)
      (ix2 (⟨(y 0).val % 128, by omega⟩ : Fin 128) (⟨(y 1).val - 3456, by have h1 : (y 1).val < 3584 := (y 1).isLt; omega⟩ : Fin 128))

section

variable (c : Dev nD) (i : grid0.Coords)
  (arg1 : Memref sig .tc .vmem S512x1024 .f32) (harg1 : arg1.IsWhole) (arg2 : Memref sig .tc .vmem S1x1024x3480 .f32) (harg2 : arg2.IsWhole)
  (arg3 : Memref sig .tc .vmem S1x256 .f32) (harg3 : arg3.IsWhole) (arg4 : Memref sig .tc .vmem S1x256 .f32) (harg4 : arg4.IsWhole)
  (arg5 : Memref sig .tc .vmem S4x128x128 .bf16) (harg5 : arg5.IsWhole) (arg6 : Memref sig .tc .vmem S128x128 .f32) (harg6 : arg6.IsWhole)
  (arg7 : Memref sig .tc .vmem S512x256 .f32) (harg7 : arg7.IsWhole) (arg8 : Memref sig .tc .vmem S512x1408 .f32) (harg8 : arg8.IsWhole)
  (arg9 : Memref sig .tc .vmem S512x1664 .f32) (harg9 : arg9.IsWhole) (arg10 : Memref sig .tc .vmem S1024x3584 .bf16) (harg10 : arg10.IsWhole)
  (x0 : Vec F S512x1024 .f32) (x1 : Vec F S1x1024x3480 .f32) (x2 : Vec F S1x256 .f32) (x3 : Vec F S1x256 .f32) (x4 : Vec F S4x128x128 .bf16) (x5 : Vec F S128x128 .f32)

variable (hc : k0_cond1 i = 1#1)

abbrev pieces (X : BufTy.Contents (Elt F) arg2.view.ty) (k : Nat) : List (View.Piece (Elt F) S1024x3584 .bf16) :=
  pb_k0_t1 (F := F) Variants.none c none i arg1 harg1 arg2 harg2 arg3 harg3 arg4 harg4 arg5 harg5 arg6 harg6 arg7 harg7 arg8 harg8 arg9 harg9 arg10 harg10 hc X k

theorem trip_pieces (X : BufTy.Contents (Elt F) arg2.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 hc X k
      = [⟨Rect.unit (s := S1024x3584) (k0_off4 k) S128x128.size (k0_off4_inb i k hc),
            k0_pay5 (arg2.view.readAt (Elt F) (Rect.unit (s := S1x1024x3480) (k0_off3 k) S1x128x24.size (k0_off3_inb i k hc)).toLoadRect X)⟩,
          ⟨Rect.unit (s := S1024x3584) (k0_off2 k) S128x3456.size (k0_off2_inb i k hc),
            k0_pay4 (arg2.view.readAt (Elt F) (Rect.unit (s := S1x1024x3480) (k0_off1 k) S1x128x3456.size (k0_off1_inb i k hc)).toLoadRect X)⟩] := by
  unfold tripL_k0_t1 trip_k0_t1
  rfl

theorem readL (k : Fin k0_t1_loop.trips) (k' : Fin 8) (hk : k.val = k'.val) :
    arg2.view.readAt (Elt F) (Rect.unit (s := S1x1024x3480) (k0_off1 k) S1x128x3456.size (k0_off1_inb i k hc)).toLoadRect (harg2.unread x1) = slabL x1 k' := by
  rw [View.readAt_eq_ld, harg2.read_unread]
  funext j
  refine View.ld_unit_apply_of x1 _ _ _ j _ fun a => ?_
  refine Eq.trans ?_ (congrArg (· + (j a).val) (congrFun (k0_off1_eq k) a).symm)
  match a with
  | ⟨0, _⟩ => have h : (j 0).val < 1 := (j 0).isLt; show 0 = 0 + (j 0).val; omega
  | ⟨1, _⟩ => show 128 * k'.val + (j 1).val = 128 * k.val + (j 1).val; rw [hk]
  | ⟨2, _⟩ => show (j 2).val = 0 + (j 2).val; omega

theorem readR (k : Fin k0_t1_loop.trips) (k' : Fin 8) (hk : k.val = k'.val) :
    arg2.view.readAt (Elt F) (Rect.unit (s := S1x1024x3480) (k0_off3 k) S1x128x24.size (k0_off3_inb i k hc)).toLoadRect (harg2.unread x1) = slabR x1 k' := by
  rw [View.readAt_eq_ld, harg2.read_unread]
  funext j
  refine View.ld_unit_apply_of x1 _ _ _ j _ fun a => ?_
  refine Eq.trans ?_ (congrArg (· + (j a).val) (congrFun (k0_off3_eq k) a).symm)
  match a with
  | ⟨0, _⟩ => have h : (j 0).val < 1 := (j 0).isLt; show 0 = 0 + (j 0).val; omega
  | ⟨1, _⟩ => show 128 * k'.val + (j 1).val = 128 * k.val + (j 1).val; rw [hk]
  | ⟨2, _⟩ => show 3456 + (j 2).val = 3456 + (j 2).val; rfl

theorem read_pieces (G : BufTy.Contents (Elt F) arg10.view.ty) : ∀ (k : Nat), k ≤ k0_t1_loop.trips → ∀ y : S1024x3584.Idx, (y 0).val < 128 * k →
    arg10.view.read (Elt F) (arg10.view.writes (Elt F) G (pieces c i arg1 harg1 arg2 harg2 arg3 harg3 arg4 harg4 arg5 harg5 arg6 harg6 arg7 harg7 arg8 harg8 arg9 harg9 arg10 harg10 hc (harg2.unread x1) k)) y = wide x1 y
  | 0, _, y, h => absurd h (by omega)
  | k + 1, hk, y, h => by
    have hk8 : k < 8 := Nat.lt_of_lt_of_le hk k0_t1_abs.2.1
    have h0 : (y 0).val < 1024 := (y 0).isLt
    have h1 : (y 1).val < 3584 := (y 1).isLt
    unfold pieces
    rw [pb_k0_t1_succ Variants.none c none i arg1 harg1 arg2 harg2 arg3 harg3 arg4 harg4 arg5 harg5 arg6 harg6 arg7 harg7 arg8 harg8 arg9 harg9 arg10 harg10 hc (harg2.unread x1) ⟨k, hk⟩, trip_pieces]
    rw [List.cons_append, List.cons_append, List.nil_append]
    by_cases hy : (y 0).val < 128 * k
    · rw [View.read_writes_cons_unit_of_not_mem arg10.view G _ _ _ y (k0_off4_eq ⟨k, hk⟩) 0 (Or.inl (by show (y 0).val < 128 * k; exact hy)),
        View.read_writes_cons_unit_of_not_mem arg10.view G _ _ _ y (k0_off2_eq ⟨k, hk⟩) 0 (Or.inl (by show (y 0).val < 128 * k; exact hy))]
      exact read_pieces G k (Nat.le_of_succ_le hk) y hy
    · have hd : (y 0).val / 128 = k := by omega
      have he : (⟨(y 0).val / 128, by omega⟩ : Fin 8) = ⟨k, hk8⟩ := Fin.ext hd
      unfold wide
      rw [he]
      by_cases hcol : (y 1).val < 3456
      · rw [dif_pos hcol,
          View.read_writes_cons_unit_of_not_mem arg10.view G _ _ _ y (k0_off4_eq ⟨k, hk⟩) 1 (Or.inl (by show (y 1).val < 3456; exact hcol))]
        refine (View.read_writes_cons_unit_of_mem arg10.view G _ _ _ y (by exact ix2 (⟨(y 0).val % 128, by omega⟩ : Fin 128) (⟨(y 1).val, hcol⟩ : Fin 3456)) (k0_off2_eq ⟨k, hk⟩)
            (fun a => by
              match a with
              | ⟨0, _⟩ => show (y 0).val = 128 * k + (y 0).val % 128; omega
              | ⟨1, _⟩ => show (y 1).val = 0 + (y 1).val; omega)).trans ?_
        rw [readL i arg2 harg2 x1 hc ⟨k, hk⟩ ⟨k, hk8⟩ rfl]
      · rw [dif_neg hcol]
        refine (View.read_writes_cons_unit_of_mem arg10.view G _ _ _ y (by exact ix2 (⟨(y 0).val % 128, by omega⟩ : Fin 128) (⟨(y 1).val - 3456, by omega⟩ : Fin 128)) (k0_off4_eq ⟨k, hk⟩)
            (fun a => by
              match a with
              | ⟨0, _⟩ => show (y 0).val = 128 * k + (y 0).val % 128; omega
              | ⟨1, _⟩ => show (y 1).val = 3456 + ((y 1).val - 3456); omega)).trans ?_
        rw [readR i arg2 harg2 x1 hc ⟨k, hk⟩ ⟨k, hk8⟩ rfl]

theorem trips_eq : k0_t1_loop.trips = 8 := by decide +kernel

theorem filled (G : BufTy.Contents (Elt F) arg10.view.ty) :
    arg10.view.read (Elt F) (arg10.view.writes (Elt F) G (pieces c i arg1 harg1 arg2 harg2 arg3 harg3 arg4 harg4 arg5 harg5 arg6 harg6 arg7 harg7 arg8 harg8 arg9 harg9 arg10 harg10 hc (harg2.unread x1) k0_t1_loop.trips)) = wide x1 :=
  funext fun y => read_pieces c i arg1 harg1 arg2 harg2 arg3 harg3 arg4 harg4 arg5 harg5 arg6 harg6 arg7 harg7 arg8 harg8 arg9 harg9 arg10 harg10 x1 hc G _ (Nat.le_refl _) y (by
    have h0 : (y 0).val < 1024 := (y 0).isLt
    rw [trips_eq]; omega)

set_option maxHeartbeats 1000000 in
/-- The loop, from a scratch at any contents. -/
theorem fill (E : Set ℕ) (K : PUnit → sProp 𝕄) :
    iprop(owns (c : Thread nD τ) arg2 fullShare x1 ∗ (∃ d, owns (c : Thread nD τ) arg10 fullShare d)
        ∗ (iprop(owns (c : Thread nD τ) arg2 fullShare x1 ∗ owns (c : Thread nD τ) arg10 fullShare (wide x1)) -∗ K ⟨⟩))
      ⊢ wp frame (wpE (defs₀ (F := F)) Variants.none c none) E
          (Scf.Loop.for k0_t1_loop (k0_t1_ok i hc) ⟨⟩ (k0_t1_body i arg1 harg1 arg2 harg2 arg3 harg3 arg4 harg4 arg5 harg5 arg6 harg6 arg7 harg7 arg8 harg8 arg9 harg9 arg10 harg10 hc)) K := by
  unfold owns
  iintro ⟨⟨%f1, %hf1, H1⟩, ⟨%d9, %f9, -, H9⟩, Hk⟩
  obtain rfl := harg2.eq_unread hf1
  sl_exec
  iapply Hk
  isplitl [H1]
  · iexists _; isplitr; · ipureintro; exact harg2.read_unread _
    iexact H1
  iexists _; isplitr
  swap; · iexact H9
  ipureintro; exact filled c i arg1 harg1 arg2 harg2 arg3 harg3 arg4 harg4 arg5 harg5 arg6 harg6 arg7 harg7 arg8 harg8 arg9 harg9 arg10 harg10 x1 hc f9

end

end Cert.Kernel2Ideal.Proj

end
-- ==== Proof.ProjIdeal.RunA.lean ====
module

public import proofs.«01_k».proof.Proof.ProjIdeal.RunB
public import proofs.«01_k».proof.Proof.ProjIdeal.Fill

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S1x1024x3480 .f32) (harg2 : arg2.IsWhole)
  (arg3 : Memref sig .tc .vmem S1x256 .f32) (harg3 : arg3.IsWhole) (arg4 : Memref sig .tc .vmem S1x256 .f32) (harg4 : arg4.IsWhole)
  (arg5 : Memref sig .tc .vmem S4x128x128 .bf16) (harg5 : arg5.IsWhole) (arg6 : Memref sig .tc .vmem S128x128 .f32) (harg6 : arg6.IsWhole)
  (arg7 : Memref sig .tc .vmem S512x256 .f32) (harg7 : arg7.IsWhole) (arg8 : Memref sig .tc .vmem S512x1408 .f32) (harg8 : arg8.IsWhole)
  (arg9 : Memref sig .tc .vmem S512x1664 .f32) (harg9 : arg9.IsWhole) (arg10 : Memref sig .tc .vmem S1024x3584 .bf16) (harg10 : arg10.IsWhole)
  (x0 : Vec F S512x1024 .f32) (x1 : Vec F S1x1024x3480 .f32) (x2 : Vec F S1x256 .f32) (x3 : Vec F S1x256 .f32) (x4 : Vec F S4x128x128 .bf16) (x5 : Vec F S128x128 .f32)

set_option maxHeartbeats 4000000 in
noncomputable def runA (hc : k0_cond1 i = 1#1) :
    { L : List (View.Piece (Elt F) S512x256 .f32) × List (View.Piece (Elt F) S512x1408 .f32) × List (View.Piece (Elt F) S512x1664 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2.1)
                ∗ (∃ f, arg9.view.loc (c : Thread nD τ) ↦[arg9.view.set]{fullShare} arg9.view.writes (Elt F) f L.2.2)
                ∗ owns (c : Thread nD τ) arg10 fullShare (wide x1)) -∗ K ⟨⟩))
          ⊢ wp frame (wpE (defs₀ (F := F)) Variants.none c none) E (cc0_in_proj i arg1 harg1 arg2 harg2 arg3 harg3 arg4 harg4 arg5 harg5 arg6 harg6 arg7 harg7 arg8 harg8 arg9 harg9 arg10 harg10) K } := by
  refine ⟨⟨?_, ?_, ?_⟩, fun E K => ?run⟩
  case run =>
    simp only [cc0_in_proj_eq_skeleton]; unfold cc0_in_proj_skel
    simp only [k0_part1_eq_skeleton]; unfold k0_part1_skel
    simp only [dif_pos hc]
    rw [Prog.bind_assoc, wp_bind]
    simp only [k0_part2_eq_skeleton, k0_part3_eq_skeleton, k0_part4_eq_skeleton, k0_part5_eq_skeleton]
    iintro ⟨H0, H1, H2, H3, H4, H5, H6, H7, H8, H9, Hk⟩
    iapply (fill c i arg1 harg1 arg2 harg2 arg3 harg3 arg4 harg4 arg5 harg5 arg6 harg6 arg7 harg7 arg8 harg8 arg9 harg9 arg10 harg10 x1 hc E _)
    isplitl [H1]; · iexact H1
    isplitl [H9]; · iexact H9
    iintro ⟨H1, H9⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%d6, %f6, -, H6⟩
    icases H7 with ⟨%d7, %f7, -, H7⟩
    icases H8 with ⟨%d8, %f8, -, H8⟩
    icases H9 with ⟨%f9, %hf9, H9⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; isplitr; · ipureintro; exact harg10.read_unread _
    iexact H9

end Cert.Kernel2Ideal.Proj

end
-- ==== Proof.ProjIdeal.Out.lean ====
/- What one grid point stores, as a term of its blocks and the scratch. -/
module

public import proofs.«01_k».proof.Proof.ProjIdeal.RunA
public import Idealize.ShloMosaic.Lib.Pipeline.Value

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by funext a; fin_cases a <;> rfl

/-- The left half of the gated columns. -/
abbrev gateW (W : Vec F S1024x3584 .bf16) : Vec F S1024x512 .bf16 := View.ld W (Rect.unit (s := S1024x3584) ![0, 0] S1024x512.size inb_S1024x3584_S1024x512_0_0)

def gateU (x0 : Vec F S512x1024 .f32) (W : Vec F S1024x3584 .bf16) : Vec F S512x256 .f32 := k0_pay8 x0 (gateW W)

/-- The right half, normalized by rows. -/
def gateV (x0 : Vec F S512x1024 .f32) (W : Vec F S1024x3584 .bf16) (x2 x3 : Vec F S1x256 .f32) : Vec F S512x256 .f32 :=
  k0_pay11 (k0_pay9 x0 (gateW W) x2) (k0_pay10 x3)

/-- One head of one chunk of 128 rows. -/
def head (vn : Vec F S512x256 .f32) (w : Vec F S1x128x128 .bf16) (b : Vec F S128x1 .f32) (off : Fin 2 → Nat) (hs : S512x256.Slices off S128x64) : Vec F S128x64 .f32 :=
  addf (matmul dot_S128x128_S128x64_S128x64_1_0_0_1_n_n none (shapeCast S128x128 w shapeCasts_S1x128x128_S128x128 : FVec F S128x128 .bf16)
      (truncf .bf16 (extractStridedSlice S128x64 off vn hs : FVec F S128x64 .f32) bitsLt_bf16_f32) (constant S128x64 .f32 0x00000000#32) : FVec F S128x64 .f32)
    (broadcastTo S128x64 (shapeCast S128x1 b shapeCasts_S128x1_S128x1 : FVec F S128x1 .f32) broadcasts_S128x1_S128x64)

abbrev headW (x4 : Vec F S4x128x128 .bf16) (h : Nat) (inb : ∀ a, (![h, 0, 0] : Fin 3 → Nat) a + S1x128x128.size a ≤ S4x128x128.size a) : Vec F S1x128x128 .bf16 := View.ld x4 (Rect.unit (s := S4x128x128) ![h, 0, 0] S1x128x128.size inb)
abbrev headB (x5 : Vec F S128x128 .f32) (h : Nat) (inb : ∀ a, (![0, h] : Fin 2 → Nat) a + S128x1.size a ≤ S128x128.size a) : Vec F S128x1 .f32 := View.ld x5 (Rect.unit (s := S128x128) ![0, h] S128x1.size inb)

/-- One chunk of 128 rows of the gated output. -/
def chunk (u vn : Vec F S512x256 .f32) (x4 : Vec F S4x128x128 .bf16) (x5 : Vec F S128x128 .f32)
    (ou : Fin 2 → Nat) (hu : S512x256.Slices ou S128x256) (o0 : Fin 2 → Nat) (h0 : S512x256.Slices o0 S128x64)
    (o1 : Fin 2 → Nat) (h1 : S512x256.Slices o1 S128x64) (o2 : Fin 2 → Nat) (h2 : S512x256.Slices o2 S128x64)
    (o3 : Fin 2 → Nat) (h3 : S512x256.Slices o3 S128x64) : Vec F S128x256 .f32 :=
  mulf (extractStridedSlice S128x256 ou u hu : FVec F S128x256 .f32)
    (concatenate S128x256 1 [⟨S128x64, head vn (headW x4 0 inb_S4x128x128_S1x128x128_0_0_0) (headB x5 0 inb_S128x128_S128x1_0_0) o0 h0⟩,
      ⟨S128x64, head vn (headW x4 1 inb_S4x128x128_S1x128x128_1_0_0) (headB x5 1 inb_S128x128_S128x1_0_1) o1 h1⟩,
      ⟨S128x64, head vn (headW x4 2 inb_S4x128x128_S1x128x128_2_0_0) (headB x5 2 inb_S128x128_S128x1_0_2) o2 h2⟩,
      ⟨S128x64, head vn (headW x4 3 inb_S4x128x128_S1x128x128_3_0_0) (headB x5 3 inb_S128x128_S128x1_0_3) o3 h3⟩]
      concatenates_S128x64_S128x64_S128x64_S128x64_S128x256_d1)

/-- The four stores of the gated output, the last first. -/
def ygPieces (x0 : Vec F S512x1024 .f32) (W : Vec F S1024x3584 .bf16) (x2 x3 : Vec F S1x256 .f32) (x4 : Vec F S4x128x128 .bf16) (x5 : Vec F S128x128 .f32) :
    List (View.Piece (Elt F) S512x256 .f32) :=
  [⟨Rect.unit (s := S512x256) ![384, 0] S128x256.size inb_S512x256_S128x256_384_0,
      chunk (gateU x0 W) (gateV x0 W x2 x3) x4 x5 ![384, 0] slices_S512x256_o384_0_S128x256 ![384, 0] slices_S512x256_o384_0_S128x64 ![384, 64] slices_S512x256_o384_64_S128x64 ![384, 128] slices_S512x256_o384_128_S128x64 ![384, 192] slices_S512x256_o384_192_S128x64⟩,
    ⟨Rect.unit (s := S512x256) ![256, 0] S128x256.size inb_S512x256_S128x256_256_0,
      chunk (gateU x0 W) (gateV x0 W x2 x3) x4 x5 ![256, 0] slices_S512x256_o256_0_S128x256 ![256, 0] slices_S512x256_o256_0_S128x64 ![256, 64] slices_S512x256_o256_64_S128x64 ![256, 128] slices_S512x256_o256_128_S128x64 ![256, 192] slices_S512x256_o256_192_S128x64⟩,
    ⟨Rect.unit (s := S512x256) ![128, 0] S128x256.size inb_S512x256_S128x256_128_0,
      chunk (gateU x0 W) (gateV x0 W x2 x3) x4 x5 ![128, 0] slices_S512x256_o128_0_S128x256 ![128, 0] slices_S512x256_o128_0_S128x64 ![128, 64] slices_S512x256_o128_64_S128x64 ![128, 128] slices_S512x256_o128_128_S128x64 ![128, 192] slices_S512x256_o128_192_S128x64⟩,
    ⟨Rect.unit (s := S512x256) ![0, 0] S128x256.size inb_S512x256_S128x256_0_0,
      chunk (gateU x0 W) (gateV x0 W x2 x3) x4 x5 ![0, 0] slices_S512x256_o0_0_S128x256 ![0, 0] slices_S512x256_o0_0_S128x64 ![0, 64] slices_S512x256_o0_64_S128x64 ![0, 128] slices_S512x256_o0_128_S128x64 ![0, 192] slices_S512x256_o0_192_S128x64⟩]

theorem ygPieces_cover (x0 : Vec F S512x1024 .f32) (W : Vec F S1024x3584 .bf16) (x2 x3 : Vec F S1x256 .f32) (x4 : Vec F S4x128x128 .bf16) (x5 : Vec F S128x128 .f32) (y : S512x256.Idx) :
    ∃ p ∈ ygPieces x0 W x2 x3 x4 x5, y ∈ p.1.set :=
  View.cover_of_tiledL (ygPieces x0 W x2 x3 x4 x5) S128x256.size (by sl_kernel_rfl) y

def ygOut (x0 : Vec F S512x1024 .f32) (W : Vec F S1024x3584 .bf16) (x2 x3 : Vec F S1x256 .f32) (x4 : Vec F S4x128x128 .bf16) (x5 : Vec F S128x128 .f32) : Vec F S512x256 .f32 :=
  View.canon (ygPieces x0 W x2 x3 x4 x5)

def prOut (x0 : Vec F S512x1024 .f32) (W : Vec F S1024x3584 .bf16) : Vec F S512x1408 .f32 :=
  k0_pay2 (k0_pay6 x0) (View.ld W (Rect.unit (s := S1024x3584) ![0, 512] S1024x1408.size inb_S1024x3584_S1024x1408_0_512))

def pmOut (x0 : Vec F S512x1024 .f32) (W : Vec F S1024x3584 .bf16) : Vec F S512x1664 .f32 :=
  k0_pay3 (k0_pay6 x0) (View.ld W (Rect.unit (s := S1024x3584) ![0, 1920] S1024x1664.size inb_S1024x3584_S1024x1664_0_1920))

def prPieces (x0 : Vec F S512x1024 .f32) (W : Vec F S1024x3584 .bf16) : List (View.Piece (Elt F) S512x1408 .f32) :=
  [⟨Rect.unit (s := S512x1408) ![0, 0] S512x1408.size inb_S512x1408_S512x1408_0_0, prOut x0 W⟩]
def pmPieces (x0 : Vec F S512x1024 .f32) (W : Vec F S1024x3584 .bf16) : List (View.Piece (Elt F) S512x1664 .f32) :=
  [⟨Rect.unit (s := S512x1664) ![0, 0] S512x1664.size inb_S512x1664_S512x1664_0_0, pmOut x0 W⟩]
section

variable (c : Dev nD) (i : grid0.Coords)
  (arg1 : Memref sig .tc .vmem S512x1024 .f32) (harg1 : arg1.IsWhole) (arg2 : Memref sig .tc .vmem S1x1024x3480 .f32) (harg2 : arg2.IsWhole)
  (arg3 : Memref sig .tc .vmem S1x256 .f32) (harg3 : arg3.IsWhole) (arg4 : Memref sig .tc .vmem S1x256 .f32) (harg4 : arg4.IsWhole)
  (arg5 : Memref sig .tc .vmem S4x128x128 .bf16) (harg5 : arg5.IsWhole) (arg6 : Memref sig .tc .vmem S128x128 .f32) (harg6 : arg6.IsWhole)
  (arg7 : Memref sig .tc .vmem S512x256 .f32) (harg7 : arg7.IsWhole) (arg8 : Memref sig .tc .vmem S512x1408 .f32) (harg8 : arg8.IsWhole)
  (arg9 : Memref sig .tc .vmem S512x1664 .f32) (harg9 : arg9.IsWhole) (arg10 : Memref sig .tc .vmem S1024x3584 .bf16) (harg10 : arg10.IsWhole)
  (x0 : Vec F S512x1024 .f32) (x1 : Vec F S1x1024x3480 .f32) (x2 : Vec F S1x256 .f32) (x3 : Vec F S1x256 .f32) (x4 : Vec F S4x128x128 .bf16) (x5 : Vec F S128x128 .f32)

set_option maxHeartbeats 2000000 in
theorem runA_yg (hc : k0_cond1 i = 1#1) :
    (runA c i arg1 harg1 arg2 harg2 arg3 harg3 arg4 harg4 arg5 harg5 arg6 harg6 arg7 harg7 arg8 harg8 arg9 harg9 arg10 harg10 x0 x1 x2 x3 x4 x5 hc).1.1 = ygPieces x0 (wide x1) x2 x3 x4 x5 := by
  unfold runA
  dsimp only
  sl_unfold_words
  simp only [View.readAt_eq_ld, harg1.read_unread, harg3.read_unread, harg4.read_unread, harg5.read_unread, harg6.read_unread, harg10.read_unread, View.ld_unit_zero (S := S512x1024) zero2, View.ld_unit_zero (S := S1x256) zero2]
  rfl

set_option maxHeartbeats 2000000 in
theorem runA_pr (hc : k0_cond1 i = 1#1) :
    (runA c i arg1 harg1 arg2 harg2 arg3 harg3 arg4 harg4 arg5 harg5 arg6 harg6 arg7 harg7 arg8 harg8 arg9 harg9 arg10 harg10 x0 x1 x2 x3 x4 x5 hc).1.2.1 = prPieces x0 (wide x1) := by
  unfold runA
  dsimp only
  sl_unfold_words
  simp only [View.readAt_eq_ld, harg1.read_unread, harg3.read_unread, harg4.read_unread, harg5.read_unread, harg6.read_unread, harg10.read_unread, View.ld_unit_zero (S := S512x1024) zero2, View.ld_unit_zero (S := S1x256) zero2]
  rfl

set_option maxHeartbeats 2000000 in
theorem runA_pm (hc : k0_cond1 i = 1#1) :
    (runA c i arg1 harg1 arg2 harg2 arg3 harg3 arg4 harg4 arg5 harg5 arg6 harg6 arg7 harg7 arg8 harg8 arg9 harg9 arg10 harg10 x0 x1 x2 x3 x4 x5 hc).1.2.2 = pmPieces x0 (wide x1) := by
  unfold runA
  dsimp only
  sl_unfold_words
  simp only [View.readAt_eq_ld, harg1.read_unread, harg3.read_unread, harg4.read_unread, harg5.read_unread, harg6.read_unread, harg10.read_unread, View.ld_unit_zero (S := S512x1024) zero2, View.ld_unit_zero (S := S1x256) zero2]
  rfl

set_option maxHeartbeats 2000000 in
theorem runB_yg (W : Vec F S1024x3584 .bf16) (hc : ¬ k0_cond1 i = 1#1) :
    (runB c i arg1 harg1 arg2 harg2 arg3 harg3 arg4 harg4 arg5 harg5 arg6 harg6 arg7 harg7 arg8 harg8 arg9 harg9 arg10 harg10 x0 x1 x2 x3 x4 x5 W hc).1.1 = ygPieces x0 W x2 x3 x4 x5 := by
  unfold runB
  dsimp only
  sl_unfold_words
  simp only [View.readAt_eq_ld, harg1.read_unread, harg3.read_unread, harg4.read_unread, harg5.read_unread, harg6.read_unread, harg10.read_unread, View.ld_unit_zero (S := S512x1024) zero2, View.ld_unit_zero (S := S1x256) zero2]
  rfl

set_option maxHeartbeats 2000000 in
theorem runB_pr (W : Vec F S1024x3584 .bf16) (hc : ¬ k0_cond1 i = 1#1) :
    (runB c i arg1 harg1 arg2 harg2 arg3 harg3 arg4 harg4 arg5 harg5 arg6 harg6 arg7 harg7 arg8 harg8 arg9 harg9 arg10 harg10 x0 x1 x2 x3 x4 x5 W hc).1.2.1 = prPieces x0 W := by
  unfold runB
  dsimp only
  sl_unfold_words
  simp only [View.readAt_eq_ld, harg1.read_unread, harg3.read_unread, harg4.read_unread, harg5.read_unread, harg6.read_unread, harg10.read_unread, View.ld_unit_zero (S := S512x1024) zero2, View.ld_unit_zero (S := S1x256) zero2]
  rfl

set_option maxHeartbeats 2000000 in
theorem runB_pm (W : Vec F S1024x3584 .bf16) (hc : ¬ k0_cond1 i = 1#1) :
    (runB c i arg1 harg1 arg2 harg2 arg3 harg3 arg4 harg4 arg5 harg5 arg6 harg6 arg7 harg7 arg8 harg8 arg9 harg9 arg10 harg10 x0 x1 x2 x3 x4 x5 W hc).1.2.2 = pmPieces x0 W := by
  unfold runB
  dsimp only
  sl_unfold_words
  simp only [View.readAt_eq_ld, harg1.read_unread, harg3.read_unread, harg4.read_unread, harg5.read_unread, harg6.read_unread, harg10.read_unread, View.ld_unit_zero (S := S512x1024) zero2, View.ld_unit_zero (S := S1x256) zero2]
  rfl

end

theorem read_yg {κ sp} (v : View sig κ sp S512x256 .f32) (f) (x0 : Vec F S512x1024 .f32) (W x2 x3 x4 x5) :
    v.read (Elt F) (v.writes (Elt F) f (ygPieces x0 W x2 x3 x4 x5)) = ygOut x0 W x2 x3 x4 x5 :=
  View.read_writes_eq_canon v f _ (ygPieces_cover x0 W x2 x3 x4 x5)

theorem read_pr {κ sp} (v : View sig κ sp S512x1408 .f32) (f) (x0 : Vec F S512x1024 .f32) (W) :
    v.read (Elt F) (v.writes (Elt F) f (prPieces x0 W)) = prOut x0 W :=
  (View.read_writes_eq_canon v f _ (View.cover_of_tiledL (prPieces x0 W) S512x1408.size (by sl_kernel_rfl))).trans (View.canon_unit_zero zero2 _ _)

theorem read_pm {κ sp} (v : View sig κ sp S512x1664 .f32) (f) (x0 : Vec F S512x1024 .f32) (W) :
    v.read (Elt F) (v.writes (Elt F) f (pmPieces x0 W)) = pmOut x0 W :=
  (View.read_writes_eq_canon v f _ (View.cover_of_tiledL (pmPieces x0 W) S512x1664.size (by sl_kernel_rfl))).trans (View.canon_unit_zero zero2 _ _)

end Cert.Kernel2Ideal.Proj

end
-- ==== Proof.ProjIdeal.Frame.lean ====
/- The call as a whole: every execution ends, at what the points store. -/
module

public import proofs.«01_k».proof.Proof.ProjIdeal.Out
public import Idealize.ShloMosaic.Lib.Claim

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_iff : ∀ t : Fin grid0.N, k0_cond1 (grid0.coords t) = 1#1 ↔ t.val = 0 := by decide +kernel

abbrev first0 : Fin cfg0.N := ⟨0, by decide +kernel⟩

/-- The projection weights are one block, the same at every point. -/
theorem weights_const (c : Dev nD) (t : Fin cfg0.N) : (iblk m c 1 t : Vec F S1x1024x3480 .f32) = iblk m c 1 first0 := rfl

/-- The scratch from the first point on. -/
def scr (c : Dev nD) : Vec F S1024x3584 .bf16 := wide (iblk m c 1 first0)

/-- What is carried from point to point: before the first nothing, from then on the scratch's contents. -/
def carried (c : Dev nD) (k : Nat) : sProp 𝕄 :=
  if k = 0 then Pipeline.ΦA spec0 c
  else iprop(owns (c : Thread nD τ) (Memref.whole cc0_scratch0) fullShare (scr m c) ∗ ∃ r, prngReg c r)

theorem carried_zero (c : Dev nD) : carried m c 0 = Pipeline.ΦA spec0 c := if_pos rfl
theorem carried_pos (c : Dev nD) (k : Nat) (h : k ≠ 0) :
    carried m c k = iprop(owns (c : Thread nD τ) (Memref.whole cc0_scratch0) fullShare (scr m c) ∗ ∃ r, prngReg c r) := if_neg h

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ygOut (iblk m c 0 t) (scr m c) (iblk m c 2 t) (iblk m c 3 t) (iblk m c 4 t) (iblk m c 5 t)
    | ⟨7, _⟩ => prOut (iblk m c 0 t) (scr m c)
    | ⟨8, _⟩ => pmOut (iblk m c 0 t) (scr m c)
  Φ t := carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = ygOut (iblk m c 0 t) (scr m c) (iblk m c 2 t) (iblk m c 3 t) (iblk m c 4 t) (iblk m c 5 t) := by dsimp only [dats]; try rfl
theorem after0_7 (c : Dev nD) (t : Fin cfg0.N) : (dats m 0 c).after 7 t = prOut (iblk m c 0 t) (scr m c) := by dsimp only [dats]; try rfl
theorem after0_8 (c : Dev nD) (t : Fin cfg0.N) : (dats m 0 c).after 8 t = pmOut (iblk m c 0 t) (scr m c) := by dsimp only [dats]; try rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = carried m c (t.val + 1) from rfl, show (dats m 0 c).Φ t.castSucc = carried m c t.val from rfl,
    show (dats m 0 c).owesAt () t.succ = (dats m 0 c).owesAt () t.castSucc from rfl,
    carried_pos m c _ (Nat.succ_ne_zero _), after0_0, after0_1, after0_2, after0_3, after0_4, after0_5, after0_6, after0_7, after0_8]
  by_cases h0 : k0_cond1 (grid0.coords t) = 1#1
  · rw [show carried m c t.val = Pipeline.ΦA spec0 c from ((cond_iff t).1 h0).symm ▸ carried_zero m c]
    unfold Pipeline.ΦA
    rw [scopedRest0_eq c]
    iintro ⟨⟨⟨%fs, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ (iblk m c 0 t) (iblk m c 1 t) (iblk m c 2 t) (iblk m c 3 t) (iblk m c 4 t) (iblk m c 5 t) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [Hs]; · iexists fs; rw [owns_whole]; iexact Hs
    rw [runA_yg, runA_pr, runA_pm]
    iintro ⟨H0, H1, H2, H3, H4, H5, ⟨%e6, H6⟩, ⟨%e7, H7⟩, ⟨%e8, H8⟩, Hs⟩
    isplitl [Hs Hp]
    · isplitl [Hs]
      · rw [show scr m c = wide (iblk m c 1 t) from rfl]; iexact Hs
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_yg _ _ (iblk m c 0 t) (wide (iblk m c 1 t)) (iblk m c 2 t) (iblk m c 3 t) (iblk m c 4 t) (iblk m c 5 t)
    isplitl [H7]
    · unfold owns; iexists _; isplitr
      swap; · iexact H7
      ipureintro; exact read_pr _ _ (iblk m c 0 t) (wide (iblk m c 1 t))
    · unfold owns; iexists _; isplitr
      swap; · iexact H8
      ipureintro; exact read_pm _ _ (iblk m c 0 t) (wide (iblk m c 1 t))
  · rw [carried_pos m c _ fun h => h0 ((cond_iff t).2 h)]
    iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ (iblk m c 0 t) (iblk m c 1 t) (iblk m c 2 t) (iblk m c 3 t) (iblk m c 4 t) (iblk m c 5 t) (scr m c) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [Hs]; · iexact Hs
    rw [runB_yg, runB_pr, runB_pm]
    iintro ⟨H0, H1, H2, H3, H4, H5, ⟨%e6, H6⟩, ⟨%e7, H7⟩, ⟨%e8, H8⟩, Hs⟩
    isplitl [Hs Hp]
    · isplitl [Hs]
      · iexact Hs
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read_yg _ _ (iblk m c 0 t) (scr m c) (iblk m c 2 t) (iblk m c 3 t) (iblk m c 4 t) (iblk m c 5 t)
    isplitl [H7]
    · unfold owns; iexists _; isplitr
      swap; · iexact H7
      ipureintro; exact read_pr _ _ (iblk m c 0 t) (scr m c)
    · unfold owns; iexists _; isplitr
      swap; · iexact H8
      ipureintro; exact read_pm _ _ (iblk m c 0 t) (scr m c)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats (F := F) m 0 c).Φ 0 := by
  rw [show (dats m 0 c).Φ 0 = carried m c 0 from rfl, carried_zero]

theorem leave (c : Dev nD) : (dats (F := F) m 0 c).Φ (Fin.last cfg0.N) ⊢ Pipeline.ΦA spec0 c := by
  rw [show (dats m 0 c).Φ (Fin.last cfg0.N) = carried m c cfg0.N from rfl, carried_pos m c _ (by decide +kernel)]
  unfold Pipeline.ΦA
  rw [scopedRest0_eq c, owns_whole]
  iintro ⟨Hs, Hp⟩
  isplitl [Hs]
  · iexists _; iexact Hs
  iexact Hp

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel2Ideal.Proj

end
-- ==== Proof.ProjSpec.lean ====
/- What the input projection's call computes, entry by entry, over the extended reals. -/
module

public import Idealize.ShloMosaic.Lib.Pointwise
public import Idealize.ShloMosaic.Lib.Pipeline.Value

@[expose] public section

noncomputable section

namespace Cert.ProjSpec

open Idealize.ShloMosaic

/-- The exact gelu, with the error function. -/
def gelu (z : EReal) : EReal :=
  Ideal.ofBits .f32 0x3F000000#32 * z * (1 + Ideal.erf (z * Ideal.ofBits .f32 0x3F3504F3#32))

/-- A row's mean over 256 entries. -/
def mean (v : Fin 256 → EReal) : EReal := Ideal.div (∑ j, v j) (Ideal.ofBits .f32 0x43800000#32)

/-- Entry `d` of a row, normalized, scaled and shifted. -/
def norm (v g b : Fin 256 → EReal) (d : Fin 256) : EReal :=
  (v d - mean v) * Ideal.rsqrt (mean (fun j => (v j - mean v) * (v j - mean v)) + Ideal.ofBits .f32 0x3727C5AC#32) * g d + b d

section
variable (x : (⟨2, ![16384, 1024]⟩ : Shape).Idx → EReal) (w : (⟨3, ![4, 1024, 3480]⟩ : Shape).Idx → EReal)
  (g b : (⟨1, ![256]⟩ : Shape).Idx → EReal) (ws : (⟨3, ![4, 128, 128]⟩ : Shape).Idx → EReal) (bs : (⟨2, ![4, 128]⟩ : Shape).Idx → EReal)

/-- Entry `n` of row `r` of the product with the first of the four weights. -/
def proj (r : Fin 16384) (n : Fin 3480) : EReal := ∑ k : Fin 1024, x (ix2 r k) * w (ix3 0 k n)

/-- Entry `d` of row `r` of the gated half that is normalized. -/
def vn (r : Fin 16384) (d : Fin 256) : EReal :=
  norm (fun j => gelu (proj x w r ⟨256 + j.val, by omega⟩)) (fun j => g (ix1 j)) (fun j => b (ix1 j)) d

/-- The first result: the rows mixed in chunks of 128, by heads of 64 columns. -/
def yg (r : Fin 16384) (d : Fin 256) : EReal :=
  gelu (proj x w r ⟨d.val, by omega⟩)
    * (∑ q : Fin 128, ws (ix3 ⟨d.val / 64, by omega⟩ ⟨r.val % 128, by omega⟩ q) * vn x w g b ⟨128 * (r.val / 128) + q.val, by omega⟩ d
      + bs (ix2 ⟨d.val / 64, by omega⟩ ⟨r.val % 128, by omega⟩))

/-- The second result. -/
def pr (r : Fin 16384) (n : Fin 1408) : EReal := proj x w r ⟨512 + n.val, by omega⟩

/-- The third result, its last 104 columns zero. -/
def pm (r : Fin 16384) (n : Fin 1664) : EReal := if h : 1920 + n.val < 3480 then proj x w r ⟨1920 + n.val, h⟩ else 0

end

end Cert.ProjSpec
end
-- ==== Proof.ProjIdeal.Tile.lean ====
/- What one grid point stores, read at an entry. -/
module
public import proofs.«01_k».proof.Proof.ProjIdeal.Out
public import proofs.«01_k».proof.Proof.ProjSpec
public import Idealize.ShloMosaic.Lib.Pipeline.ValueKit.Tiles

@[expose] public section

noncomputable section

namespace Cert.Kernel2Ideal.Proj

open Cert.Kernel2Ideal.Gen
open Idealize.ShloMosaic

theorem pay4_apply (v : Vec Ideal S1x128x3456 .f32) (k : Fin 128) (n : Fin 3456) : k0_pay4 (F := Ideal) v (ix2 k n) = v (ix3 0 k n) := by
  pointwise [k0_pay4]

theorem pay5_apply (v : Vec Ideal S1x128x24 .f32) (k : Fin 128) (n : Fin 128) :
    k0_pay5 (F := Ideal) v (ix2 k n) = if h : n.val < 24 then v (ix3 0 k ⟨n.val, h⟩) else 0 := by
  have e : k0_pay5 (F := Ideal) v (ix2 k n) = concatenate S128x128 1 [⟨S128x24, (shapeCast S128x24 v shapeCasts_S1x128x24_S128x24 : FVec Ideal S128x24 .f32)⟩,
      ⟨S128x104, broadcast S128x104 (Scalar.ofBits .f32 0x00000000#32 : Ideal .f32)⟩] concatenates_S128x24_S128x104_S128x128_d1 (ix2 k n) := by
    unfold k0_pay5
    generalize concatenate S128x128 1 [⟨S128x24, (shapeCast S128x24 v shapeCasts_S1x128x24_S128x24 : FVec Ideal S128x24 .f32)⟩,
      ⟨S128x104, broadcast S128x104 (Scalar.ofBits .f32 0x00000000#32 : Ideal .f32)⟩] concatenates_S128x24_S128x104_S128x128_d1 = u
    pointwise
  rw [e]
  by_cases h : n.val < 24
  · rw [dif_pos h]
    refine (concatenate_pair_apply_left (t := S128x128) (s₁ := S128x24) (s₂ := S128x104) (a := 1) (j := ix2 k n) (hr := rfl)
      (i := ix2 k ⟨n.val, h⟩) (hi := fun b => by match b with | ⟨0, _⟩ => rfl | ⟨1, _⟩ => rfl) ..).trans ?_
    pointwise
  · rw [dif_neg h]
    refine (concatenate_pair_apply_right (t := S128x128) (s₁ := S128x24) (s₂ := S128x104) (a := 1) (j := ix2 k n) (hr := rfl) (hr₂ := rfl)
      (i := ix2 k ⟨n.val - 24, by omega⟩)
      (hi := fun b hb => by match b with | ⟨0, _⟩ => rfl | ⟨1, _⟩ => exact absurd rfl hb)
      (ha := Nat.sub_add_cancel (Nat.le_of_not_lt h)) ..).trans ?_
    pointwise

/-- The scratch holds the weight's columns, zero past them. -/
theorem wide_apply (x1 : Vec Ideal S1x1024x3480 .f32) (k : Fin 1024) (n : Fin 3584) :
    wide (F := Ideal) x1 (ix2 k n) = if h : n.val < 3480 then x1 (ix3 0 k ⟨n.val, h⟩) else 0 := by
  have hk : 128 * (k.val / 128) + k.val % 128 = k.val := Nat.div_add_mod _ _
  unfold wide
  split
  · rename_i h
    have h' : n.val < 3456 := h
    refine (pay4_apply _ _ _).trans ?_
    rw [dif_pos (show n.val < 3480 by omega)]
    exact congrArg x1 (congrArg (fun q => ix3 (0 : Fin 1) q (⟨n.val, by omega⟩ : Fin 3480)) (Fin.ext hk))
  · rename_i h
    have h' : ¬ n.val < 3456 := h
    refine (pay5_apply _ _ _).trans ?_
    by_cases h2 : n.val < 3480
    · rw [dif_pos h2]
      refine (dif_pos (show n.val - 3456 < 24 by omega)).trans ?_
      have e2 : (⟨3456 + (n.val - 3456), by omega⟩ : Fin 3480) = ⟨n.val, h2⟩ := Fin.ext (by show 3456 + (n.val - 3456) = n.val; omega)
      refine (congrArg x1 (congrArg (fun q => ix3 (0 : Fin 1) q (⟨3456 + (n.val - 3456), by omega⟩ : Fin 3480)) (Fin.ext hk))).trans ?_
      rw [e2]
    · rw [dif_neg h2]
      exact dif_neg (show ¬ n.val - 3456 < 24 by omega)

theorem prOut_apply (x0 : Vec Ideal S512x1024 .f32) (W : Vec Ideal S1024x3584 .bf16) (r : Fin 512) (n : Fin 1408) :
    prOut (F := Ideal) x0 W (ix2 r n) = ∑ k : Fin 1024, x0 (ix2 r k) * W (ix2 k ⟨512 + n.val, by omega⟩) := by
  have e : ∀ (k : Fin 1024), View.ld W (Rect.unit (s := S1024x3584) ![0, 512] S1024x1408.size inb_S1024x3584_S1024x1408_0_512) (ix2 k n) = W (ix2 k ⟨512 + n.val, by omega⟩) := fun k =>
    View.ld_unit_apply_of W _ _ _ _ _ fun a => by match a with | ⟨0, _⟩ => exact (Nat.zero_add _).symm | ⟨1, _⟩ => rfl
  unfold prOut
  simp only [← e]
  generalize View.ld W (Rect.unit (s := S1024x3584) ![0, 512] S1024x1408.size inb_S1024x3584_S1024x1408_0_512) = U
  pointwise [k0_pay2, k0_pay6]

theorem pmOut_apply (x0 : Vec Ideal S512x1024 .f32) (W : Vec Ideal S1024x3584 .bf16) (r : Fin 512) (n : Fin 1664) :
    pmOut (F := Ideal) x0 W (ix2 r n) = ∑ k : Fin 1024, x0 (ix2 r k) * W (ix2 k ⟨1920 + n.val, by omega⟩) := by
  have e : ∀ (k : Fin 1024), View.ld W (Rect.unit (s := S1024x3584) ![0, 1920] S1024x1664.size inb_S1024x3584_S1024x1664_0_1920) (ix2 k n) = W (ix2 k ⟨1920 + n.val, by omega⟩) := fun k =>
    View.ld_unit_apply_of W _ _ _ _ _ fun a => by match a with | ⟨0, _⟩ => exact (Nat.zero_add _).symm | ⟨1, _⟩ => rfl
  unfold pmOut
  simp only [← e]
  generalize View.ld W (Rect.unit (s := S1024x3584) ![0, 1920] S1024x1664.size inb_S1024x3584_S1024x1664_0_1920) = U
  pointwise [k0_pay3, k0_pay6]

theorem gated_apply (x0 : Vec Ideal S512x1024 .f32) (W : Vec Ideal S1024x3584 .bf16) (r n : Fin 512) :
    k0_pay7 (F := Ideal) x0 (gateW W) (ix2 r n) = ProjSpec.gelu (∑ k : Fin 1024, x0 (ix2 r k) * W (ix2 k ⟨n.val, by omega⟩)) := by
  have e : ∀ (k : Fin 1024), gateW W (ix2 k n) = W (ix2 k ⟨n.val, by omega⟩) := fun k =>
    View.ld_unit_apply_of W _ _ _ _ _ fun a => by match a with | ⟨0, _⟩ => exact (Nat.zero_add _).symm | ⟨1, _⟩ => exact (Nat.zero_add _).symm
  simp only [← e]
  generalize gateW W = U
  pointwise [k0_pay7, k0_pay6, ProjSpec.gelu]
  rfl

theorem gateU_apply (x0 : Vec Ideal S512x1024 .f32) (W : Vec Ideal S1024x3584 .bf16) (r : Fin 512) (n : Fin 256) :
    gateU (F := Ideal) x0 W (ix2 r n) = ProjSpec.gelu (∑ k : Fin 1024, x0 (ix2 r k) * W (ix2 k ⟨n.val, by omega⟩)) := by
  refine Eq.trans ?_ (gated_apply x0 W r ⟨n.val, by omega⟩)
  unfold gateU k0_pay8
  generalize k0_pay7 (F := Ideal) x0 (gateW W) = u
  pointwise

theorem gateV_apply (x0 : Vec Ideal S512x1024 .f32) (W : Vec Ideal S1024x3584 .bf16) (x2 x3 : Vec Ideal S1x256 .f32) (r : Fin 512) (n : Fin 256) :
    gateV (F := Ideal) x0 W x2 x3 (ix2 r n)
      = ProjSpec.norm (fun j => ProjSpec.gelu (∑ k : Fin 1024, x0 (ix2 r k) * W (ix2 k ⟨256 + j.val, by omega⟩))) (fun j => x2 (ix2 0 j)) (fun j => x3 (ix2 0 j)) n := by
  have e : ∀ j : Fin 256, ProjSpec.gelu (∑ k : Fin 1024, x0 (ix2 r k) * W (ix2 k ⟨256 + j.val, by omega⟩)) = k0_pay7 (F := Ideal) x0 (gateW W) (ix2 r ⟨256 + j.val, by omega⟩) :=
    fun j => (gated_apply x0 W r ⟨256 + j.val, by omega⟩).symm
  simp only [e]
  unfold gateV k0_pay9
  generalize k0_pay7 (F := Ideal) x0 (gateW W) = u
  pointwise [k0_pay10, k0_pay11, ProjSpec.norm, ProjSpec.mean]

theorem head_apply (vn : Vec Ideal S512x256 .f32) (w : Vec Ideal S1x128x128 .bf16) (b : Vec Ideal S128x1 .f32) (o h : Nat) (ho : o + 128 ≤ 512) (hh : h + 64 ≤ 256)
    (hs : S512x256.Slices ![o, h] S128x64) (p : Fin 128) (e : Fin 64) :
    head (F := Ideal) vn w b ![o, h] hs (ix2 p e)
      = ∑ q : Fin 128, w (ix3 0 p q) * vn (ix2 ⟨o + q.val, by omega⟩ ⟨h + e.val, by omega⟩) + b (ix2 p 0) := by
  pointwise [head]

theorem headW_apply (x4 : Vec Ideal S4x128x128 .bf16) (h : Fin 4) (inb : ∀ a, (![h.val, 0, 0] : Fin 3 → Nat) a + S1x128x128.size a ≤ S4x128x128.size a) (p q : Fin 128) :
    headW x4 h.val inb (ix3 0 p q) = x4 (ix3 h p q) :=
  View.ld_unit_apply_of x4 _ _ _ _ _ fun a => by match a with | ⟨0, _⟩ => rfl | ⟨1, _⟩ => exact (Nat.zero_add _).symm | ⟨2, _⟩ => exact (Nat.zero_add _).symm

theorem headB_apply (x5 : Vec Ideal S128x128 .f32) (h : Fin 128) (inb : ∀ a, (![0, h.val] : Fin 2 → Nat) a + S128x1.size a ≤ S128x128.size a) (p : Fin 128) :
    headB x5 h.val inb (ix2 p 0) = x5 (ix2 p h) :=
  View.ld_unit_apply_of x5 _ _ _ _ _ fun a => by match a with | ⟨0, _⟩ => exact (Nat.zero_add _).symm | ⟨1, _⟩ => rfl

/-- A chunk read at an entry. -/
theorem chunk_apply (u vn : Vec Ideal S512x256 .f32) (x4 : Vec Ideal S4x128x128 .bf16) (x5 : Vec Ideal S128x128 .f32) (o : Nat) (ho : o + 128 ≤ 512)
    (hu : S512x256.Slices ![o, 0] S128x256) (h0 : S512x256.Slices ![o, 0] S128x64) (h1 : S512x256.Slices ![o, 64] S128x64)
    (h2 : S512x256.Slices ![o, 128] S128x64) (h3 : S512x256.Slices ![o, 192] S128x64) (p : Fin 128) (d : Fin 256) :
    chunk (F := Ideal) u vn x4 x5 ![o, 0] hu ![o, 0] h0 ![o, 64] h1 ![o, 128] h2 ![o, 192] h3 (ix2 p d)
      = u (ix2 ⟨o + p.val, by omega⟩ d)
        * (∑ q : Fin 128, x4 (ix3 ⟨d.val / 64, by omega⟩ p q) * vn (ix2 ⟨o + q.val, by omega⟩ d) + x5 (ix2 p ⟨d.val / 64, by omega⟩)) := by
  unfold chunk
  have eu : extractStridedSlice S128x256 ![o, 0] u hu (ix2 p d) = u (ix2 ⟨o + p.val, by omega⟩ d) := by pointwise
  refine congrArg₂ (· * ·) eu ?_
  have hlt : d.val / 64 < 4 := by omega
  obtain hk | hk | hk | hk : d.val / 64 = 0 ∨ d.val / 64 = 1 ∨ d.val / 64 = 2 ∨ d.val / 64 = 3 := by omega
  · have hd : d.val / 64 = 0 := hk
    refine (concatenate_apply_piece (t := S128x256) 1 [⟨S128x64, head vn (headW x4 0 inb_S4x128x128_S1x128x128_0_0_0) (headB x5 0 inb_S128x128_S128x1_0_0) ![o, 0] h0⟩,
      ⟨S128x64, head vn (headW x4 1 inb_S4x128x128_S1x128x128_1_0_0) (headB x5 1 inb_S128x128_S128x1_0_1) ![o, 64] h1⟩,
      ⟨S128x64, head vn (headW x4 2 inb_S4x128x128_S1x128x128_2_0_0) (headB x5 2 inb_S128x128_S128x1_0_2) ![o, 128] h2⟩,
      ⟨S128x64, head vn (headW x4 3 inb_S4x128x128_S1x128x128_3_0_0) (headB x5 3 inb_S128x128_S128x1_0_3) ![o, 192] h3⟩]
      concatenates_S128x64_S128x64_S128x64_S128x64_S128x256_d1 (ix2 p d) 0 (show 0 < 4 by omega) S128x64 _ rfl rfl 0 rfl
      (ix2 p ⟨d.val - 0, by omega⟩) (fun b hb => by match b with | ⟨0, _⟩ => rfl | ⟨1, _⟩ => exact absurd rfl hb)
      (by show 0 + (d.val - 0) = d.val; omega)).trans ?_
    refine (head_apply vn _ _ o 0 ho (by omega) h0 p ⟨d.val - 0, by omega⟩).trans ?_
    have ed : (⟨0 + (d.val - 0), by omega⟩ : Fin 256) = d := Fin.ext (by show 0 + (d.val - 0) = d.val; omega)
    have eh : (⟨d.val / 64, by omega⟩ : Fin 4) = 0 := Fin.ext hd
    have eb : (⟨d.val / 64, by omega⟩ : Fin 128) = 0 := Fin.ext hd
    simp only [ed, eh, eb]
    exact congrArg₂ (· + ·) (Finset.sum_congr rfl fun q _ => congrArg (· * _) (headW_apply x4 0 _ p q)) (headB_apply x5 0 _ p)
  · have hd : d.val / 64 = 1 := hk
    refine (concatenate_apply_piece (t := S128x256) 1 [⟨S128x64, head vn (headW x4 0 inb_S4x128x128_S1x128x128_0_0_0) (headB x5 0 inb_S128x128_S128x1_0_0) ![o, 0] h0⟩,
      ⟨S128x64, head vn (headW x4 1 inb_S4x128x128_S1x128x128_1_0_0) (headB x5 1 inb_S128x128_S128x1_0_1) ![o, 64] h1⟩,
      ⟨S128x64, head vn (headW x4 2 inb_S4x128x128_S1x128x128_2_0_0) (headB x5 2 inb_S128x128_S128x1_0_2) ![o, 128] h2⟩,
      ⟨S128x64, head vn (headW x4 3 inb_S4x128x128_S1x128x128_3_0_0) (headB x5 3 inb_S128x128_S128x1_0_3) ![o, 192] h3⟩]
      concatenates_S128x64_S128x64_S128x64_S128x64_S128x256_d1 (ix2 p d) 1 (show 1 < 4 by omega) S128x64 _ rfl rfl 64 rfl
      (ix2 p ⟨d.val - 64, by omega⟩) (fun b hb => by match b with | ⟨0, _⟩ => rfl | ⟨1, _⟩ => exact absurd rfl hb)
      (by show 64 + (d.val - 64) = d.val; omega)).trans ?_
    refine (head_apply vn _ _ o 64 ho (by omega) h1 p ⟨d.val - 64, by omega⟩).trans ?_
    have ed : (⟨64 + (d.val - 64), by omega⟩ : Fin 256) = d := Fin.ext (by show 64 + (d.val - 64) = d.val; omega)
    have eh : (⟨d.val / 64, by omega⟩ : Fin 4) = 1 := Fin.ext hd
    have eb : (⟨d.val / 64, by omega⟩ : Fin 128) = 1 := Fin.ext hd
    simp only [ed, eh, eb]
    exact congrArg₂ (· + ·) (Finset.sum_congr rfl fun q _ => congrArg (· * _) (headW_apply x4 1 _ p q)) (headB_apply x5 1 _ p)
  · have hd : d.val / 64 = 2 := hk
    refine (concatenate_apply_piece (t := S128x256) 1 [⟨S128x64, head vn (headW x4 0 inb_S4x128x128_S1x128x128_0_0_0) (headB x5 0 inb_S128x128_S128x1_0_0) ![o, 0] h0⟩,
      ⟨S128x64, head vn (headW x4 1 inb_S4x128x128_S1x128x128_1_0_0) (headB x5 1 inb_S128x128_S128x1_0_1) ![o, 64] h1⟩,
      ⟨S128x64, head vn (headW x4 2 inb_S4x128x128_S1x128x128_2_0_0) (headB x5 2 inb_S128x128_S128x1_0_2) ![o, 128] h2⟩,
      ⟨S128x64, head vn (headW x4 3 inb_S4x128x128_S1x128x128_3_0_0) (headB x5 3 inb_S128x128_S128x1_0_3) ![o, 192] h3⟩]
      concatenates_S128x64_S128x64_S128x64_S128x64_S128x256_d1 (ix2 p d) 2 (show 2 < 4 by omega) S128x64 _ rfl rfl 128 rfl
      (ix2 p ⟨d.val - 128, by omega⟩) (fun b hb => by match b with | ⟨0, _⟩ => rfl | ⟨1, _⟩ => exact absurd rfl hb)
      (by show 128 + (d.val - 128) = d.val; omega)).trans ?_
    refine (head_apply vn _ _ o 128 ho (by omega) h2 p ⟨d.val - 128, by omega⟩).trans ?_
    have ed : (⟨128 + (d.val - 128), by omega⟩ : Fin 256) = d := Fin.ext (by show 128 + (d.val - 128) = d.val; omega)
    have eh : (⟨d.val / 64, by omega⟩ : Fin 4) = 2 := Fin.ext hd
    have eb : (⟨d.val / 64, by omega⟩ : Fin 128) = 2 := Fin.ext hd
    simp only [ed, eh, eb]
    exact congrArg₂ (· + ·) (Finset.sum_congr rfl fun q _ => congrArg (· * _) (headW_apply x4 2 _ p q)) (headB_apply x5 2 _ p)
  · have hd : d.val / 64 = 3 := hk
    refine (concatenate_apply_piece (t := S128x256) 1 [⟨S128x64, head vn (headW x4 0 inb_S4x128x128_S1x128x128_0_0_0) (headB x5 0 inb_S128x128_S128x1_0_0) ![o, 0] h0⟩,
      ⟨S128x64, head vn (headW x4 1 inb_S4x128x128_S1x128x128_1_0_0) (headB x5 1 inb_S128x128_S128x1_0_1) ![o, 64] h1⟩,
      ⟨S128x64, head vn (headW x4 2 inb_S4x128x128_S1x128x128_2_0_0) (headB x5 2 inb_S128x128_S128x1_0_2) ![o, 128] h2⟩,
      ⟨S128x64, head vn (headW x4 3 inb_S4x128x128_S1x128x128_3_0_0) (headB x5 3 inb_S128x128_S128x1_0_3) ![o, 192] h3⟩]
      concatenates_S128x64_S128x64_S128x64_S128x64_S128x256_d1 (ix2 p d) 3 (show 3 < 4 by omega) S128x64 _ rfl rfl 192 rfl
      (ix2 p ⟨d.val - 192, by omega⟩) (fun b hb => by match b with | ⟨0, _⟩ => rfl | ⟨1, _⟩ => exact absurd rfl hb)
      (by show 192 + (d.val - 192) = d.val; omega)).trans ?_
    refine (head_apply vn _ _ o 192 ho (by omega) h3 p ⟨d.val - 192, by omega⟩).trans ?_
    have ed : (⟨192 + (d.val - 192), by omega⟩ : Fin 256) = d := Fin.ext (by show 192 + (d.val - 192) = d.val; omega)
    have eh : (⟨d.val / 64, by omega⟩ : Fin 4) = 3 := Fin.ext hd
    have eb : (⟨d.val / 64, by omega⟩ : Fin 128) = 3 := Fin.ext hd
    simp only [ed, eh, eb]
    exact congrArg₂ (· + ·) (Finset.sum_congr rfl fun q _ => congrArg (· * _) (headW_apply x4 3 _ p q)) (headB_apply x5 3 _ p)

/-- The same at a row of the whole block. -/
theorem chunk_at (u vn : Vec Ideal S512x256 .f32) (x4 : Vec Ideal S4x128x128 .bf16) (x5 : Vec Ideal S128x128 .f32) (o : Nat) (ho : o + 128 ≤ 512)
    (hu : S512x256.Slices ![o, 0] S128x256) (h0 : S512x256.Slices ![o, 0] S128x64) (h1 : S512x256.Slices ![o, 64] S128x64)
    (h2 : S512x256.Slices ![o, 128] S128x64) (h3 : S512x256.Slices ![o, 192] S128x64) (r : Fin 512) (d : Fin 256) (h : o ≤ r.val) (h' : r.val < o + 128) (hm : o % 128 = 0) :
    chunk (F := Ideal) u vn x4 x5 ![o, 0] hu ![o, 0] h0 ![o, 64] h1 ![o, 128] h2 ![o, 192] h3 (ix2 ⟨r.val - o, by omega⟩ d)
      = u (ix2 r d) * (∑ q : Fin 128, x4 (ix3 ⟨d.val / 64, by omega⟩ ⟨r.val % 128, by omega⟩ q) * vn (ix2 ⟨128 * (r.val / 128) + q.val, by omega⟩ d)
          + x5 (ix2 ⟨r.val % 128, by omega⟩ ⟨d.val / 64, by omega⟩)) := by
  refine (chunk_apply u vn x4 x5 o ho hu h0 h1 h2 h3 _ d).trans ?_
  have e1 : (⟨o + (r.val - o), by omega⟩ : Fin 512) = r := Fin.ext (by show o + (r.val - o) = r.val; omega)
  have e2 : (⟨r.val % 128, by omega⟩ : Fin 128) = ⟨r.val - o, by omega⟩ := Fin.ext (by show r.val % 128 = r.val - o; omega)
  have e3 : ∀ q : Fin 128, (⟨128 * (r.val / 128) + q.val, by omega⟩ : Fin 512) = ⟨o + q.val, by omega⟩ := fun q => Fin.ext (by show 128 * (r.val / 128) + q.val = o + q.val; omega)
  simp only [e1, e2, e3]

theorem emb_at (o : Nat) (inb : ∀ a, (![o, 0] : Fin 2 → Nat) a + S128x256.size a ≤ S512x256.size a) (r : Fin 512) (d : Fin 256) (h : o ≤ r.val) (h' : r.val < o + 128) :
    (Rect.unit (s := S512x256) ![o, 0] S128x256.size inb).emb (ix2 ⟨r.val - o, by omega⟩ d) = ix2 r d := by
  funext a
  refine Fin.ext ?_
  match a with
  | ⟨0, _⟩ => show o + 1 * (r.val - o) = r.val; omega
  | ⟨1, _⟩ => show 0 + 1 * d.val = d.val; omega

theorem not_mem_below (o : Nat) (inb : ∀ a, (![o, 0] : Fin 2 → Nat) a + S128x256.size a ≤ S512x256.size a) (r : Fin 512) (d : Fin 256) (h : ¬ o ≤ r.val) :
    (ix2 r d : S512x256.Idx) ∉ (Rect.unit (s := S512x256) ![o, 0] S128x256.size inb).set := fun hm => by
  have := (Rect.mem_set_unit.mp hm 0).1
  exact h this

theorem canon_in (o : Nat) (inb : ∀ a, (![o, 0] : Fin 2 → Nat) a + S128x256.size a ≤ S512x256.size a) (w : Vec Ideal S128x256 .f32)
    (L : List (View.Piece (Elt Ideal) S512x256 .f32)) (r : Fin 512) (d : Fin 256) (h : o ≤ r.val) (h' : r.val < o + 128) :
    View.canon (⟨Rect.unit (s := S512x256) ![o, 0] S128x256.size inb, w⟩ :: L) (ix2 r d) = w (ix2 ⟨r.val - o, by omega⟩ d) :=
  (congrArg (View.canon (⟨Rect.unit (s := S512x256) ![o, 0] S128x256.size inb, w⟩ :: L)) (emb_at o inb r d h h').symm).trans (View.canon_cons_emb (Val := Elt Ideal) (Rect.unit (s := S512x256) ![o, 0] S128x256.size inb) w L (ix2 ⟨r.val - o, by omega⟩ d : S128x256.Idx))

theorem canon_past (o : Nat) (inb : ∀ a, (![o, 0] : Fin 2 → Nat) a + S128x256.size a ≤ S512x256.size a) (w : Vec Ideal S128x256 .f32)
    (L : List (View.Piece (Elt Ideal) S512x256 .f32)) (r : Fin 512) (d : Fin 256) (h : ¬ o ≤ r.val) :
    View.canon (⟨Rect.unit (s := S512x256) ![o, 0] S128x256.size inb, w⟩ :: L) (ix2 r d) = View.canon L (ix2 r d) :=
  View.canon_cons_of_not_mem _ L (not_mem_below o inb r d h)

/-- A point's block of the first result, read at an entry. -/
theorem ygOut_apply (x0 : Vec Ideal S512x1024 .f32) (W : Vec Ideal S1024x3584 .bf16) (x2 x3 : Vec Ideal S1x256 .f32) (x4 : Vec Ideal S4x128x128 .bf16) (x5 : Vec Ideal S128x128 .f32)
    (r : Fin 512) (d : Fin 256) :
    ygOut (F := Ideal) x0 W x2 x3 x4 x5 (ix2 r d)
      = gateU (F := Ideal) x0 W (ix2 r d)
        * (∑ q : Fin 128, x4 (ix3 ⟨d.val / 64, by omega⟩ ⟨r.val % 128, by omega⟩ q) * gateV (F := Ideal) x0 W x2 x3 (ix2 ⟨128 * (r.val / 128) + q.val, by omega⟩ d)
          + x5 (ix2 ⟨r.val % 128, by omega⟩ ⟨d.val / 64, by omega⟩)) := by
  unfold ygOut ygPieces
  generalize gateU (F := Ideal) x0 W = u
  generalize gateV (F := Ideal) x0 W x2 x3 = v
  by_cases c384 : 384 ≤ r.val
  · exact (canon_in 384 _ _ _ r d c384 (by omega)).trans (chunk_at u v x4 x5 384 (by omega) _ _ _ _ _ r d c384 (by omega) (by omega))
  refine (canon_past 384 _ _ _ r d c384).trans ?_
  by_cases c256 : 256 ≤ r.val
  · exact (canon_in 256 _ _ _ r d c256 (by omega)).trans (chunk_at u v x4 x5 256 (by omega) _ _ _ _ _ r d c256 (by omega) (by omega))
  refine (canon_past 256 _ _ _ r d c256).trans ?_
  by_cases c128 : 128 ≤ r.val
  · exact (canon_in 128 _ _ _ r d c128 (by omega)).trans (chunk_at u v x4 x5 128 (by omega) _ _ _ _ _ r d c128 (by omega) (by omega))
  refine (canon_past 128 _ _ _ r d c128).trans ?_
  by_cases c0 : 0 ≤ r.val
  · exact (canon_in 0 _ _ _ r d c0 (by omega)).trans (chunk_at u v x4 x5 0 (by omega) _ _ _ _ _ r d c0 (by omega) (by omega))
  exact absurd (Nat.zero_le _) c0

end Cert.Kernel2Ideal.Proj
end
-- ==== Proof.ProjIdeal.Value.lean ====
/- The arrays the input projection's call leaves, entry by entry. -/
module

public import proofs.«01_k».proof.Proof.ProjIdeal.Frame
public import proofs.«01_k».proof.Proof.ProjIdeal.Tile
public import Idealize.ShloMosaic.Lib.Routing.OpsSet
public import Idealize.ShloMosaic.Lib.Routing.OpsPair

@[expose] public section

set_option maxRecDepth 16384

noncomputable section

namespace Cert.Kernel2Ideal.Proj

open Cert.Kernel2Ideal.Gen
open Idealize.ShloMosaic Idealize.ShloMosaic.TcCoe Idealize.ShloMosaic.Tactic
open Idealize.ShloMosaic.Pipeline (Dat Cfg Window)

/-- The table the call takes: the biases down its first four columns. -/
theorem table_apply (z : FVec Ideal S128x128 .f32) (b : FVec Ideal S128x4 .f32) (p : Fin 128) (h : Fin 4) :
    Host.scatter scatter_S128x128_S1_S128x4_01_n_1_0 (fun _ b => b) z (broadcastInDim S1 ![] bcast_S_S1 (constantI S_ 32 0#32)) b (ix2 p ⟨h.val, by omega⟩) = b (ix2 p h) := by
  have lands : ∀ (p' : Fin 128) (h' : Fin 4), scatter_S128x128_S1_S128x4_01_n_1_0.resultIdx? (ix2 p' h') (broadcastInDim S1 ![] bcast_S_S1 (constantI S_ 32 0#32))
      = some (ix2 p ⟨h.val, by omega⟩) ↔ p'.val = p.val ∧ h'.val = h.val := fun p' h' => by
    have s0 : scatter_S128x128_S1_S128x4_01_n_1_0.start (ix2 p' h') (broadcastInDim S1 ![] bcast_S_S1 (constantI S_ 32 0#32)) 0 = 0 := rfl
    have s1 : scatter_S128x128_S1_S128x4_01_n_1_0.start (ix2 p' h') (broadcastInDim S1 ![] bcast_S_S1 (constantI S_ 32 0#32)) 1 = 0 := rfl
    have w0 : scatter_S128x128_S1_S128x4_01_n_1_0.window (ix2 p' h') 0 = p'.val := rfl
    have w1 : scatter_S128x128_S1_S128x4_01_n_1_0.window (ix2 p' h') 1 = h'.val := rfl
    refine (Routing.resultIdx?_ix2 (R := 128) (C := 128) scatter_S128x128_S1_S128x4_01_n_1_0 (ix2 p' h') (broadcastInDim S1 ![] bcast_S_S1 (constantI S_ 32 0#32)) p ⟨h.val, by omega⟩).trans ?_
    rw [s0, s1, w0, w1]
    show (0 : Int) + (p'.val : Int) = p.val ∧ (0 : Int) + (h'.val : Int) = h.val ↔ _
    omega
  refine Routing.scatter_set_hit _ z _ b _ _ (fun k hk => ?_) (ix2 p h) ((lands p h).2 ⟨rfl, rfl⟩)
  rw [eq_ix2 k] at hk ⊢
  obtain ⟨e0, e1⟩ := (lands _ _).1 hk
  exact congrArg₂ (fun (a : Fin 128) (c : Fin 4) => b (ix2 a c)) (Fin.ext e0) (Fin.ext e1)

variable (m : (ℓ : Loc nD τ sig) → Buf (Elt Ideal) ℓ) (c : Dev nD)

theorem pt_val (t : Fin cfg0.N) : (grid0.coords t 0).val = t.val := by
  have e : ∀ s : Fin grid0.N, (grid0.coords s 0).val = s.val := by decide +kernel
  exact e t

theorem pt_lt (t : Fin cfg0.N) : t.val < 32 := t.isLt.trans_eq N_0

theorem word_toNat (i : grid0.Coords) : (BitVec.ofNat 32 (i 0).val).toNat = (i 0).val := by
  rw [BitVec.toNat_ofNat]
  have := (i 0).isLt
  have h : grid0.bound 0 = 32 := rfl
  omega

theorem V_main_v3 : V m c main_v3 = Host.scatter scatter_S128x128_S1_S128x4_01_n_1_0 (fun _ b => b) (broadcastInDim S128x128 ![] bcast_S_S128x128 (constant (F := Ideal) S_ .f32 0x00000000#32))
    (broadcastInDim S1 ![] bcast_S_S1 (constantI S_ 32 0#32)) (transpose S128x4 [1, 0] (m ((c : Thread nD τ).loc main_arg5)) transposes_S4x128_S128x4_1_0) := by
  show StableHlo.after hostOps0 _ _ = _
  unfold hostOps0
  after_results
theorem V_main_v4 : V m c main_v4 = shapeCast S1x256 (m ((c : Thread nD τ).loc main_arg2)) shapeCasts_S256_S1x256 := by
  show StableHlo.after hostOps0 _ _ = _
  unfold hostOps0
  after_results
  rfl
theorem V_main_v5 : V m c main_v5 = shapeCast S1x256 (m ((c : Thread nD τ).loc main_arg3)) shapeCasts_S256_S1x256 := by
  show StableHlo.after hostOps0 _ _ = _
  unfold hostOps0
  after_results
  rfl
theorem V_main_v6 : V m c main_v6 = truncf (F := Ideal) (φ := .f32) .bf16 (m ((c : Thread nD τ).loc main_arg4)) bitsLt_bf16_f32 := by
  show StableHlo.after hostOps0 _ _ = _
  unfold hostOps0
  after_results

variable (t : Fin cfg0.N)

theorem blk0_at (r : Fin 512) (k : Fin 1024) :
    iblk m c 0 t (ix2 r k) = m ((c : Thread nD τ).loc main_arg0) (ix2 ⟨t.val * 512 + r.val, by have := pt_lt t; omega⟩ k) := by
  rw [← V_main_arg0 m c]
  show V m c main_arg0 (((cfg0.win 0).rect t).emb (ix2 r k)) = V m c main_arg0 _
  congr 1
  funext a
  refine Fin.ext ((Window.rect_emb_val (cfg0.win 0) t (ix2 r k) a).trans ?_)
  match a with
  | ⟨0, _⟩ =>
    show (BitVec.ofNat 32 (grid0.coords t 0).val).toNat * 512 + r.val = _
    rw [word_toNat, pt_val]; rfl
  | ⟨1, _⟩ => show 0 * 1024 + k.val = k.val; omega

theorem blk1_at (k : Fin 1024) (n : Fin 3480) : iblk m c 1 t (ix3 0 k n) = m ((c : Thread nD τ).loc main_arg1) (ix3 0 k n) := by
  rw [← V_main_arg1 m c]
  show V m c main_arg1 (((cfg0.win 1).rect t).emb (ix3 0 k n)) = V m c main_arg1 _
  congr 1
  funext a
  refine Fin.ext ((Window.rect_emb_val (cfg0.win 1) t (ix3 0 k n) a).trans ?_)
  match a with
  | ⟨0, _⟩ => rfl
  | ⟨1, _⟩ => show 0 * 1024 + k.val = k.val; omega
  | ⟨2, _⟩ => show 0 * 3480 + n.val = n.val; omega

theorem blk2_at (j : Fin 256) : iblk m c 2 t (ix2 0 j) = m ((c : Thread nD τ).loc main_arg2) (ix1 j) := by
  have e : V m c main_v4 (ix2 0 j) = m ((c : Thread nD τ).loc main_arg2) (ix1 j) := by
    rw [V_main_v4]
    pointwise
  refine Eq.trans ?_ e
  show V m c main_v4 (((cfg0.win 2).rect t).emb (ix2 0 j)) = V m c main_v4 _
  congr 1
  funext a
  refine Fin.ext ((Window.rect_emb_val (cfg0.win 2) t (ix2 0 j) a).trans ?_)
  match a with
  | ⟨0, _⟩ => rfl
  | ⟨1, _⟩ => show 0 * 256 + j.val = j.val; omega

theorem blk3_at (j : Fin 256) : iblk m c 3 t (ix2 0 j) = m ((c : Thread nD τ).loc main_arg3) (ix1 j) := by
  have e : V m c main_v5 (ix2 0 j) = m ((c : Thread nD τ).loc main_arg3) (ix1 j) := by
    rw [V_main_v5]
    pointwise
  refine Eq.trans ?_ e
  show V m c main_v5 (((cfg0.win 3).rect t).emb (ix2 0 j)) = V m c main_v5 _
  congr 1
  funext a
  refine Fin.ext ((Window.rect_emb_val (cfg0.win 3) t (ix2 0 j) a).trans ?_)
  match a with
  | ⟨0, _⟩ => rfl
  | ⟨1, _⟩ => show 0 * 256 + j.val = j.val; omega

theorem blk4_at (h : Fin 4) (p q : Fin 128) : iblk m c 4 t (ix3 h p q) = m ((c : Thread nD τ).loc main_arg4) (ix3 h p q) := by
  have e : V m c main_v6 (ix3 h p q) = m ((c : Thread nD τ).loc main_arg4) (ix3 h p q) := by
    rw [V_main_v6]
    rfl
  refine Eq.trans ?_ e
  show V m c main_v6 (((cfg0.win 4).rect t).emb (ix3 h p q)) = V m c main_v6 _
  congr 1
  funext a
  refine Fin.ext ((Window.rect_emb_val (cfg0.win 4) t (ix3 h p q) a).trans ?_)
  match a with
  | ⟨0, _⟩ => show 0 * 4 + h.val = h.val; omega
  | ⟨1, _⟩ => show 0 * 128 + p.val = p.val; omega
  | ⟨2, _⟩ => show 0 * 128 + q.val = q.val; omega

theorem blk5_at (p : Fin 128) (h : Fin 4) : iblk m c 5 t (ix2 p ⟨h.val, by omega⟩) = m ((c : Thread nD τ).loc main_arg5) (ix2 h p) := by
  have e : V m c main_v3 (ix2 p ⟨h.val, by omega⟩) = m ((c : Thread nD τ).loc main_arg5) (ix2 h p) := by
    rw [V_main_v3]
    refine (table_apply _ _ p h).trans ?_
    pointwise
  refine Eq.trans ?_ e
  show V m c main_v3 (((cfg0.win 5).rect t).emb (ix2 p ⟨h.val, by omega⟩)) = V m c main_v3 _
  congr 1
  funext a
  refine Fin.ext ((Window.rect_emb_val (cfg0.win 5) t (ix2 p ⟨h.val, by omega⟩) a).trans ?_)
  match a with
  | ⟨0, _⟩ => show 0 * 128 + p.val = p.val; omega
  | ⟨1, _⟩ => show 0 * 128 + h.val = h.val; omega

theorem scr_at (w : FVec Ideal S4x1024x3480 .f32) (hw : m ((c : Thread nD τ).loc main_arg1) = w) (k : Fin 1024) (n : Fin 3584) :
    scr m c (ix2 k n) = if h : n.val < 3480 then w (ix3 0 k ⟨n.val, h⟩) else 0 := by
  subst hw
  refine (wide_apply _ k n).trans ?_
  by_cases h : n.val < 3480
  · rw [dif_pos h, dif_pos h]; exact blk1_at m c first0 k ⟨n.val, h⟩
  · rw [dif_neg h, dif_neg h]

section
variable (T : Fin 32) (x : FVec Ideal S16384x1024 .f32) (w : FVec Ideal S4x1024x3480 .f32) (g b : FVec Ideal S256 .f32) (ws : FVec Ideal S4x128x128 .f32) (bs : FVec Ideal S4x128 .f32)
  (x0 : Vec Ideal S512x1024 .f32) (W : Vec Ideal S1024x3584 .bf16) (x2 x3 : Vec Ideal S1x256 .f32) (x4 : Vec Ideal S4x128x128 .bf16) (x5 : Vec Ideal S128x128 .f32)
  (h0 : ∀ (r : Fin 512) (k : Fin 1024), x0 (ix2 r k) = x (ix2 ⟨T.val * 512 + r.val, by omega⟩ k))
  (hW : ∀ (k : Fin 1024) (n : Fin 3584), W (ix2 k n) = if h : n.val < 3480 then w (ix3 0 k ⟨n.val, h⟩) else 0)
  (h2 : ∀ j : Fin 256, x2 (ix2 0 j) = g (ix1 j)) (h3 : ∀ j : Fin 256, x3 (ix2 0 j) = b (ix1 j))
  (h4 : ∀ (h : Fin 4) (p q : Fin 128), x4 (ix3 h p q) = ws (ix3 h p q))
  (h5 : ∀ (p : Fin 128) (h : Fin 4), x5 (ix2 p ⟨h.val, by omega⟩) = bs (ix2 h p))

include h0 hW in
/-- A column of the product, as the point computes it from its blocks. -/
theorem proj_at (r : Fin 512) (n : Fin 3584) (h : n.val < 3480) :
    ∑ k : Fin 1024, x0 (ix2 r k) * W (ix2 k n) = ProjSpec.proj x w ⟨T.val * 512 + r.val, by omega⟩ ⟨n.val, h⟩ := by
  unfold ProjSpec.proj
  refine Finset.sum_congr rfl fun k _ => congrArg₂ (· * ·) (h0 r k) ?_
  rw [hW, dif_pos h]

include h0 hW in
theorem pr_tile (r : Fin 512) (n : Fin 1408) : prOut (F := Ideal) x0 W (ix2 r n) = ProjSpec.pr x w ⟨T.val * 512 + r.val, by omega⟩ n :=
  (prOut_apply x0 W r n).trans (proj_at T x w x0 W h0 hW r ⟨512 + n.val, by omega⟩ (by show 512 + n.val < 3480; omega))

include h0 hW in
theorem pm_tile (r : Fin 512) (n : Fin 1664) : pmOut (F := Ideal) x0 W (ix2 r n) = ProjSpec.pm x w ⟨T.val * 512 + r.val, by omega⟩ n := by
  refine (pmOut_apply x0 W r n).trans ?_
  unfold ProjSpec.pm
  by_cases h : 1920 + n.val < 3480
  · rw [dif_pos h]
    exact proj_at T x w x0 W h0 hW r ⟨1920 + n.val, by omega⟩ h
  · rw [dif_neg h]
    refine Finset.sum_eq_zero fun k _ => ?_
    rw [hW, dif_neg h]
    exact mul_zero _

include h0 hW in
theorem u_tile (r : Fin 512) (d : Fin 256) :
    gateU (F := Ideal) x0 W (ix2 r d) = ProjSpec.gelu (ProjSpec.proj x w ⟨T.val * 512 + r.val, by omega⟩ ⟨d.val, by omega⟩) :=
  (gateU_apply x0 W r d).trans (congrArg ProjSpec.gelu (proj_at T x w x0 W h0 hW r ⟨d.val, by omega⟩ (by show d.val < 3480; omega)))

include h0 hW h2 h3 in
theorem v_tile (r : Fin 512) (d : Fin 256) :
    gateV (F := Ideal) x0 W x2 x3 (ix2 r d) = ProjSpec.vn x w g b ⟨T.val * 512 + r.val, by omega⟩ d := by
  refine (gateV_apply x0 W x2 x3 r d).trans ?_
  unfold ProjSpec.vn
  have e : ∀ j : Fin 256, ∑ k : Fin 1024, x0 (ix2 r k) * W (ix2 k ⟨256 + j.val, by omega⟩) = ProjSpec.proj x w ⟨T.val * 512 + r.val, by omega⟩ ⟨256 + j.val, by omega⟩ :=
    fun j => proj_at T x w x0 W h0 hW r ⟨256 + j.val, by omega⟩ (by show 256 + j.val < 3480; omega)
  simp only [e, h2, h3]

include h0 hW h2 h3 h4 h5 in
theorem yg_tile (r : Fin 512) (d : Fin 256) :
    ygOut (F := Ideal) x0 W x2 x3 x4 x5 (ix2 r d) = ProjSpec.yg x w g b ws bs ⟨T.val * 512 + r.val, by omega⟩ d := by
  refine (ygOut_apply x0 W x2 x3 x4 x5 r d).trans ?_
  unfold ProjSpec.yg
  have e1 : (⟨(T.val * 512 + r.val) % 128, by omega⟩ : Fin 128) = ⟨r.val % 128, by omega⟩ := Fin.ext (by show (T.val * 512 + r.val) % 128 = r.val % 128; omega)
  have e2 : ∀ q : Fin 128, (⟨128 * ((T.val * 512 + r.val) / 128) + q.val, by omega⟩ : Fin 16384) = ⟨T.val * 512 + (128 * (r.val / 128) + q.val), by omega⟩ :=
    fun q => Fin.ext (by show 128 * ((T.val * 512 + r.val) / 128) + q.val = T.val * 512 + (128 * (r.val / 128) + q.val); omega)
  simp only [e1, e2]
  refine congrArg₂ (· * ·) (u_tile T x w x0 W h0 hW r d) (congrArg₂ (· + ·) (Finset.sum_congr rfl fun q _ => congrArg₂ (· * ·) (h4 _ _ _) ?_) (h5 _ ⟨d.val / 64, by omega⟩))
  exact v_tile T x w g b x0 W x2 x3 h0 hW h2 h3 ⟨128 * (r.val / 128) + q.val, by omega⟩ d

end

/-- The three results, of the arguments. -/
def yg : Buf (Elt Ideal) ((c : Thread nD τ).loc main_v7_0) := fun y =>
  ProjSpec.yg (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (y 0) (y 1)
def pr : Buf (Elt Ideal) ((c : Thread nD τ).loc main_v7_1) := fun y =>
  ProjSpec.pr (m ((c : Thread nD τ).loc main_arg0)) (m ((c : Thread nD τ).loc main_arg1)) (y 0) (y 1)
def pm : Buf (Elt Ideal) ((c : Thread nD τ).loc main_v7_2) := fun y =>
  ProjSpec.pm (m ((c : Thread nD τ).loc main_arg0)) (m ((c : Thread nD τ).loc main_arg1)) (y 0) (y 1)

/-- Each point writes back its block of the result. -/
theorem flushed_yg : (dats m 0 c).flushed 6 t = ((cfg0.win 6).blk t).view.read (Elt Ideal) (yg m c) := by
  show (cfg0.win 6).cut (grid0.coords t) ((dats m 0 c).after 6 t) = _
  rw [after0_6]
  have key : ∀ (y : Fin 512) (n : Fin 256), ygOut (F := Ideal) (iblk m c 0 t) (scr m c) (iblk m c 2 t) (iblk m c 3 t) (iblk m c 4 t) (iblk m c 5 t) (ix2 y n) = yg m c (((cfg0.win 6).rect t).emb (ix2 y n)) := fun y n => by
    refine (yg_tile ⟨t.val, pt_lt t⟩ _ _ _ _ _ _ _ _ _ _ _ _ (blk0_at m c t) (scr_at m c _ rfl) (blk2_at m c t) (blk3_at m c t) (blk4_at m c t) (blk5_at m c t) y n).trans (congrArg₂ (ProjSpec.yg _ _ _ _ _ _) (Fin.ext ?_) (Fin.ext ?_))
    · refine Eq.trans ?_ (Window.rect_emb_val (cfg0.win 6) t (ix2 y n) (0 : Fin 2)).symm
      show t.val * 512 + y.val = (BitVec.ofNat 32 (grid0.coords t 0).val).toNat * 512 + y.val
      rw [word_toNat, pt_val]
    · refine Eq.trans ?_ (Window.rect_emb_val (cfg0.win 6) t (ix2 y n) (1 : Fin 2)).symm
      show n.val = 0 * 256 + n.val
      omega
  refine funext fun (y : S512x256.Idx) => ?_
  have e : y = ix2 (n0 := 512) (n1 := 256) (y 0) (y 1) := eq_ix2 y
  exact (congrArg _ e).trans ((key (y 0) (y 1)).trans (congrArg (fun z => yg m c (((cfg0.win 6).rect t).emb z)) e.symm))

theorem final_yg : (dats m 0 c).arrAt 6 cfg0.N = yg m c :=
  (dats m 0 c).arrAt_eq_of_cover 6 (yg m c) (fun t _ => flushed_yg m c t) fun (i : S16384x256.Idx) => by
    have h0 : (i 0 : Nat) < 16384 := (i 0).isLt
    have h1 : (i 1 : Nat) < 256 := (i 1).isLt
    have hN : cfg0.N = 32 := N_0
    have hT : (i 0 : Nat) / 512 < cfg0.N := by rw [hN]; omega
    refine ⟨⟨(i 0 : Nat) / 512, hT⟩, flush0_6 _, ?_⟩
    show i ∈ ((View.whole main_v7_0).slice ((cfg0.win 6).rect ⟨(i 0 : Nat) / 512, hT⟩)).set
    refine (View.set_slice_whole main_v7_0 ((cfg0.win 6).rect ⟨(i 0 : Nat) / 512, hT⟩)).symm ▸ ?_
    refine (Rect.mem_set_unit ..).mpr ?_
    intro a
    match a with
    | ⟨0, _⟩ =>
      show (BitVec.ofNat 32 (grid0.coords ⟨(i 0 : Nat) / 512, hT⟩ 0).val).toNat * 512 ≤ (i 0 : Nat)
        ∧ (i 0 : Nat) < (BitVec.ofNat 32 (grid0.coords ⟨(i 0 : Nat) / 512, hT⟩ 0).val).toNat * 512 + 512
      rw [word_toNat, show (grid0.coords ⟨(i 0 : Nat) / 512, hT⟩ 0).val = (i 0 : Nat) / 512 from pt_val ⟨(i 0 : Nat) / 512, hT⟩]
      omega
    | ⟨1, _⟩ => show 0 * 256 ≤ (i 1 : Nat) ∧ (i 1 : Nat) < 0 * 256 + 256; omega

/-- Each point writes back its block of the result. -/
theorem flushed_pr : (dats m 0 c).flushed 7 t = ((cfg0.win 7).blk t).view.read (Elt Ideal) (pr m c) := by
  show (cfg0.win 7).cut (grid0.coords t) ((dats m 0 c).after 7 t) = _
  rw [after0_7]
  have key : ∀ (y : Fin 512) (n : Fin 1408), prOut (F := Ideal) (iblk m c 0 t) (scr m c) (ix2 y n) = pr m c (((cfg0.win 7).rect t).emb (ix2 y n)) := fun y n => by
    refine (pr_tile ⟨t.val, pt_lt t⟩ _ _ _ _ (blk0_at m c t) (scr_at m c _ rfl) y n).trans (congrArg₂ (ProjSpec.pr _ _) (Fin.ext ?_) (Fin.ext ?_))
    · refine Eq.trans ?_ (Window.rect_emb_val (cfg0.win 7) t (ix2 y n) (0 : Fin 2)).symm
      show t.val * 512 + y.val = (BitVec.ofNat 32 (grid0.coords t 0).val).toNat * 512 + y.val
      rw [word_toNat, pt_val]
    · refine Eq.trans ?_ (Window.rect_emb_val (cfg0.win 7) t (ix2 y n) (1 : Fin 2)).symm
      show n.val = 0 * 1408 + n.val
      omega
  refine funext fun (y : S512x1408.Idx) => ?_
  have e : y = ix2 (n0 := 512) (n1 := 1408) (y 0) (y 1) := eq_ix2 y
  exact (congrArg _ e).trans ((key (y 0) (y 1)).trans (congrArg (fun z => pr m c (((cfg0.win 7).rect t).emb z)) e.symm))

theorem final_pr : (dats m 0 c).arrAt 7 cfg0.N = pr m c :=
  (dats m 0 c).arrAt_eq_of_cover 7 (pr m c) (fun t _ => flushed_pr m c t) fun (i : S16384x1408.Idx) => by
    have h0 : (i 0 : Nat) < 16384 := (i 0).isLt
    have h1 : (i 1 : Nat) < 1408 := (i 1).isLt
    have hN : cfg0.N = 32 := N_0
    have hT : (i 0 : Nat) / 512 < cfg0.N := by rw [hN]; omega
    refine ⟨⟨(i 0 : Nat) / 512, hT⟩, flush0_7 _, ?_⟩
    show i ∈ ((View.whole main_v7_1).slice ((cfg0.win 7).rect ⟨(i 0 : Nat) / 512, hT⟩)).set
    refine (View.set_slice_whole main_v7_1 ((cfg0.win 7).rect ⟨(i 0 : Nat) / 512, hT⟩)).symm ▸ ?_
    refine (Rect.mem_set_unit ..).mpr ?_
    intro a
    match a with
    | ⟨0, _⟩ =>
      show (BitVec.ofNat 32 (grid0.coords ⟨(i 0 : Nat) / 512, hT⟩ 0).val).toNat * 512 ≤ (i 0 : Nat)
        ∧ (i 0 : Nat) < (BitVec.ofNat 32 (grid0.coords ⟨(i 0 : Nat) / 512, hT⟩ 0).val).toNat * 512 + 512
      rw [word_toNat, show (grid0.coords ⟨(i 0 : Nat) / 512, hT⟩ 0).val = (i 0 : Nat) / 512 from pt_val ⟨(i 0 : Nat) / 512, hT⟩]
      omega
    | ⟨1, _⟩ => show 0 * 1408 ≤ (i 1 : Nat) ∧ (i 1 : Nat) < 0 * 1408 + 1408; omega

/-- Each point writes back its block of the result. -/
theorem flushed_pm : (dats m 0 c).flushed 8 t = ((cfg0.win 8).blk t).view.read (Elt Ideal) (pm m c) := by
  show (cfg0.win 8).cut (grid0.coords t) ((dats m 0 c).after 8 t) = _
  rw [after0_8]
  have key : ∀ (y : Fin 512) (n : Fin 1664), pmOut (F := Ideal) (iblk m c 0 t) (scr m c) (ix2 y n) = pm m c (((cfg0.win 8).rect t).emb (ix2 y n)) := fun y n => by
    refine (pm_tile ⟨t.val, pt_lt t⟩ _ _ _ _ (blk0_at m c t) (scr_at m c _ rfl) y n).trans (congrArg₂ (ProjSpec.pm _ _) (Fin.ext ?_) (Fin.ext ?_))
    · refine Eq.trans ?_ (Window.rect_emb_val (cfg0.win 8) t (ix2 y n) (0 : Fin 2)).symm
      show t.val * 512 + y.val = (BitVec.ofNat 32 (grid0.coords t 0).val).toNat * 512 + y.val
      rw [word_toNat, pt_val]
    · refine Eq.trans ?_ (Window.rect_emb_val (cfg0.win 8) t (ix2 y n) (1 : Fin 2)).symm
      show n.val = 0 * 1664 + n.val
      omega
  refine funext fun (y : S512x1664.Idx) => ?_
  have e : y = ix2 (n0 := 512) (n1 := 1664) (y 0) (y 1) := eq_ix2 y
  exact (congrArg _ e).trans ((key (y 0) (y 1)).trans (congrArg (fun z => pm m c (((cfg0.win 8).rect t).emb z)) e.symm))

theorem final_pm : (dats m 0 c).arrAt 8 cfg0.N = pm m c :=
  (dats m 0 c).arrAt_eq_of_cover 8 (pm m c) (fun t _ => flushed_pm m c t) fun (i : S16384x1664.Idx) => by
    have h0 : (i 0 : Nat) < 16384 := (i 0).isLt
    have h1 : (i 1 : Nat) < 1664 := (i 1).isLt
    have hN : cfg0.N = 32 := N_0
    have hT : (i 0 : Nat) / 512 < cfg0.N := by rw [hN]; omega
    refine ⟨⟨(i 0 : Nat) / 512, hT⟩, flush0_8 _, ?_⟩
    show i ∈ ((View.whole main_v7_2).slice ((cfg0.win 8).rect ⟨(i 0 : Nat) / 512, hT⟩)).set
    refine (View.set_slice_whole main_v7_2 ((cfg0.win 8).rect ⟨(i 0 : Nat) / 512, hT⟩)).symm ▸ ?_
    refine (Rect.mem_set_unit ..).mpr ?_
    intro a
    match a with
    | ⟨0, _⟩ =>
      show (BitVec.ofNat 32 (grid0.coords ⟨(i 0 : Nat) / 512, hT⟩ 0).val).toNat * 512 ≤ (i 0 : Nat)
        ∧ (i 0 : Nat) < (BitVec.ofNat 32 (grid0.coords ⟨(i 0 : Nat) / 512, hT⟩ 0).val).toNat * 512 + 512
      rw [word_toNat, show (grid0.coords ⟨(i 0 : Nat) / 512, hT⟩ 0).val = (i 0 : Nat) / 512 from pt_val ⟨(i 0 : Nat) / 512, hT⟩]
      omega
    | ⟨1, _⟩ => show 0 * 1664 ≤ (i 1 : Nat) ∧ (i 1 : Nat) < 0 * 1664 + 1664; omega

variable (ρ : Dev nD → PrngReg)

/-- The run leaves the three results in their arrays. -/
theorem run : θ_run defs (onTc (τ := τ) (main (F := Ideal))) ⟨m, fun _ => 0, ρ⟩ (fun r => ∀ c : Dev nD,
      r.2.mem ((c.tc : Thread nD τ).loc main_v7_0) = yg m c ∧ r.2.mem ((c.tc : Thread nD τ).loc main_v7_1) = pr m c ∧ r.2.mem ((c.tc : Thread nD τ).loc main_v7_2) = pm m c) :=
  (θ_run defs _ _).mono (fun _ h c => ⟨((h c).1 6).trans (final_yg m c), ((h c).1 7).trans (final_pr m c), ((h c).1 8).trans (final_pm m c)⟩) (run_main m ρ)

end Cert.Kernel2Ideal.Proj
end
-- ==== Proof.ProjRef.lean ====
/- The projection's reference read at an index. -/
module

public import proofs.«01_k».proof.Proof.Gen.Reference2Ideal.Run
public import proofs.«01_k».proof.Proof.ProjSpec
public import Idealize.ShloMosaic.Lib.Pointwise
public import Idealize.ShloMosaic.Lib.Pipeline.Value

@[expose] public section

set_option maxRecDepth 8192

noncomputable section

namespace Cert.Reference2Ideal.Proj

open Cert.Reference2Ideal Cert.Reference2Ideal.Gen
open Idealize.ShloMosaic Idealize.ShloMosaic.TcCoe

/-- The whole product with the first of the weights. -/
def prod (x : FVec Ideal S16384x1024 .f32) (w : FVec Ideal S4x1024x3480 .f32) : FVec Ideal S16384x3480 .f32 :=
  Host.dotGeneral dot_S16384x1024_S1024x3480_S16384x3480_1_0_0_1_n_n none x
    (shapeCast _ (extractStridedSlice S1x1024x3480 ![0, 0, 0] w slices_S4x1024x3480_S1x1024x3480_0_0_0) shapeCasts_S1x1024x3480_S1024x3480)

/-- The gated columns. -/
def gated (p : FVec Ideal S16384x3480 .f32) : FVec Ideal S16384x512 .f32 :=
  mulf (mulf (broadcastInDim S16384x512 ![] bcast_S_S16384x512 (constant S_ .f32 0x3F000000#32)) (extractStridedSlice S16384x512 ![0, 0] p slices_S16384x3480_S16384x512_0_0))
    (Host.erfc (mulf (Host.negf (extractStridedSlice S16384x512 ![0, 0] p slices_S16384x3480_S16384x512_0_0)) (broadcastInDim S16384x512 ![] bcast_S_S16384x512 (constant S_ .f32 0x3F3504F3#32))))

/-- The rows' means, as a column. -/
def means (v : FVec Ideal S16384x256 .f32) : FVec Ideal S16384x1 .f32 :=
  Host.divf (broadcastInDim S16384x1 ![0] bcast_S16384_S16384x1_0 (Host.reduceAdd v (constant S_ .f32 0x00000000#32) reducesTo_S16384x256_S16384_d1 h_S_))
    (broadcastInDim S16384x1 ![] bcast_S_S16384x1 (constant S_ .f32 0x43800000#32))

/-- The rows with their means taken off. -/
def centred (v : FVec Ideal S16384x256 .f32) : FVec Ideal S16384x256 .f32 :=
  subf v (broadcastInDim S16384x256 ![0, 1] bcast_S16384x1_S16384x256_0_1 (means v))

/-- The rows normalized, scaled and shifted. -/
def normed (v : FVec Ideal S16384x256 .f32) (g b : FVec Ideal S256 .f32) : FVec Ideal S16384x256 .f32 :=
  addf (mulf (mulf (centred v) (broadcastInDim S16384x256 ![0, 1] bcast_S16384x1_S16384x256_0_1
        (Host.rsqrt (addf (means (mulf (centred v) (centred v))) (broadcastInDim S16384x1 ![] bcast_S_S16384x1 (constant S_ .f32 0x3727C5AC#32))))))
      (broadcastInDim S16384x256 ![0, 1] bcast_S1x256_S16384x256_0_1 (broadcastInDim S1x256 ![1] bcast_S256_S1x256_1 g)))
    (broadcastInDim S16384x256 ![0, 1] bcast_S1x256_S16384x256_0_1 (broadcastInDim S1x256 ![1] bcast_S256_S1x256_1 b))

/-- The rows mixed in chunks of 128, by heads. -/
def mixed (v : FVec Ideal S16384x256 .f32) (ws : FVec Ideal S4x128x128 .f32) (bs : FVec Ideal S4x128 .f32) : FVec Ideal S16384x256 .f32 :=
  shapeCast _ (addf (transpose S128x128x4x64 [1, 3, 0, 2] (Host.dotGeneral dot_S128x128x4x64_S4x128x128_S4x128x64x128_1_2_03_1_2_0 none
        (shapeCast _ v shapeCasts_S16384x256_S128x128x4x64 : FVec Ideal S128x128x4x64 .f32) ws) transposes_S4x128x64x128_S128x128x4x64_1_3_0_2)
      (broadcastInDim S128x128x4x64 ![0, 1, 2, 3] bcast_S1x128x4x1_S128x128x4x64_0_1_2_3 (broadcastInDim S1x128x4x1 ![1, 2] bcast_S128x4_S1x128x4x1_1_2
        (transpose S128x4 [1, 0] bs transposes_S4x128_S128x4_1_0)))) shapeCasts_S128x128x4x64_S16384x256

/-- The first result. -/
def ygRef (u : FVec Ideal S16384x512 .f32) (g b : FVec Ideal S256 .f32) (ws : FVec Ideal S4x128x128 .f32) (bs : FVec Ideal S4x128 .f32) : FVec Ideal S16384x256 .f32 :=
  mulf (extractStridedSlice S16384x256 ![0, 0] u slices_S16384x512_S16384x256_0_0)
    (mixed (normed (extractStridedSlice S16384x256 ![0, 256] u slices_S16384x512_S16384x256_0_256) g b) ws bs)

theorem res_eq (m : (ℓ : Loc nD τ sig) → Buf (Elt Ideal) ℓ) (c : Dev nD) :
    Value.res_main_v45 m c
      = ygRef (gated (prod (m ((c.tc : Thread nD τ).loc main_arg0)) (m ((c.tc : Thread nD τ).loc main_arg1)))) (m ((c.tc : Thread nD τ).loc main_arg2))
        (m ((c.tc : Thread nD τ).loc main_arg3)) (m ((c.tc : Thread nD τ).loc main_arg4)) (m ((c.tc : Thread nD τ).loc main_arg5)) := by
  unfold Value.res_main_v45 ygRef mixed normed centred means gated prod
  rfl

theorem prod_apply (x : FVec Ideal S16384x1024 .f32) (w : FVec Ideal S4x1024x3480 .f32) (r : Fin 16384) (n : Fin 3480) :
    prod x w (ix2 r n) = ProjSpec.proj x w r n := by
  pointwise [prod, ProjSpec.proj]

theorem gated_apply (p : FVec Ideal S16384x3480 .f32) (r : Fin 16384) (n : Fin 512) :
    gated p (ix2 r n) = ProjSpec.gelu (p (ix2 r ⟨n.val, by omega⟩)) := by
  pointwise [gated]
  unfold ProjSpec.gelu
  rw [neg_mul, Ideal.erfc_neg]

theorem means_apply (v : FVec Ideal S16384x256 .f32) (r : Fin 16384) : means v (ix2 r 0) = ProjSpec.mean (fun j => v (ix2 r j)) := by
  pointwise [means, ProjSpec.mean]

theorem centred_apply (v : FVec Ideal S16384x256 .f32) (r : Fin 16384) (d : Fin 256) : centred v (ix2 r d) = v (ix2 r d) - ProjSpec.mean (fun j => v (ix2 r j)) := by
  rw [← means_apply]
  unfold centred
  generalize means v = u
  pointwise

theorem normed_apply (v : FVec Ideal S16384x256 .f32) (g b : FVec Ideal S256 .f32) (r : Fin 16384) (d : Fin 256) :
    normed v g b (ix2 r d) = ProjSpec.norm (fun j => v (ix2 r j)) (fun j => g (ix1 j)) (fun j => b (ix1 j)) d := by
  have e : ∀ j : Fin 256, mulf (centred v) (centred v) (ix2 r j)
      = (v (ix2 r j) - ProjSpec.mean (fun j => v (ix2 r j))) * (v (ix2 r j) - ProjSpec.mean (fun j => v (ix2 r j))) := fun j => by
    rw [← centred_apply]; rfl
  unfold ProjSpec.norm
  simp only [← e]
  rw [← centred_apply, ← means_apply]
  unfold normed
  generalize means (mulf (centred v) (centred v)) = q
  generalize centred v = u
  pointwise

theorem mixed_apply (v : FVec Ideal S16384x256 .f32) (ws : FVec Ideal S4x128x128 .f32) (bs : FVec Ideal S4x128 .f32) (r : Fin 16384) (d : Fin 256) :
    mixed v ws bs (ix2 r d) = ∑ q : Fin 128, ws (ix3 ⟨d.val / 64, by omega⟩ ⟨r.val % 128, by omega⟩ q) * v (ix2 ⟨128 * (r.val / 128) + q.val, by omega⟩ d)
      + bs (ix2 ⟨d.val / 64, by omega⟩ ⟨r.val % 128, by omega⟩) := by
  pointwise [mixed]
  refine congrArg₂ (· + ·) (Finset.sum_congr rfl fun q _ => (mul_comm _ _).trans (congrArg₂ (· * ·) rfl ?_)) rfl
  exact congrArg (fun a => v (ix2 a d)) (Fin.ext (by show r.val / 128 * 128 + q.val = 128 * (r.val / 128) + q.val; omega))

theorem ygRef_apply (u : FVec Ideal S16384x512 .f32) (g b : FVec Ideal S256 .f32) (ws : FVec Ideal S4x128x128 .f32) (bs : FVec Ideal S4x128 .f32) (r : Fin 16384) (d : Fin 256) :
    ygRef u g b ws bs (ix2 r d) = u (ix2 r ⟨d.val, by omega⟩)
      * (∑ q : Fin 128, ws (ix3 ⟨d.val / 64, by omega⟩ ⟨r.val % 128, by omega⟩ q)
          * ProjSpec.norm (fun j => u (ix2 ⟨128 * (r.val / 128) + q.val, by omega⟩ ⟨256 + j.val, by omega⟩)) (fun j => g (ix1 j)) (fun j => b (ix1 j)) d
        + bs (ix2 ⟨d.val / 64, by omega⟩ ⟨r.val % 128, by omega⟩)) := by
  have e : ∀ (q : Fin 16384) (j : Fin 256), u (ix2 q ⟨256 + j.val, by omega⟩) = extractStridedSlice S16384x256 ![0, 256] u slices_S16384x512_S16384x256_0_256 (ix2 q j) :=
    fun q j => by pointwise
  simp only [e, ← normed_apply]
  rw [← mixed_apply]
  unfold ygRef
  generalize mixed _ ws bs = z
  pointwise

theorem yg_apply (x : FVec Ideal S16384x1024 .f32) (w : FVec Ideal S4x1024x3480 .f32) (g b : FVec Ideal S256 .f32) (ws : FVec Ideal S4x128x128 .f32) (bs : FVec Ideal S4x128 .f32)
    (r : Fin 16384) (d : Fin 256) : ygRef (gated (prod x w)) g b ws bs (ix2 r d) = ProjSpec.yg x w g b ws bs r d := by
  rw [ygRef_apply]
  simp only [gated_apply, prod_apply]
  rfl

theorem pr_apply (x : FVec Ideal S16384x1024 .f32) (w : FVec Ideal S4x1024x3480 .f32) (r : Fin 16384) (n : Fin 1408) :
    extractStridedSlice S16384x1408 ![0, 512] (prod x w) slices_S16384x3480_S16384x1408_0_512 (ix2 r n) = ProjSpec.pr x w r n := by
  unfold ProjSpec.pr
  rw [← prod_apply]
  generalize prod x w = p
  pointwise

/-- The zero a padded column takes. -/
theorem padding : FloatOps.sitofp (F := Idealize.ShloMosaic.Ideal) FTy.f32 (0#32 : BitVec 32) = (0 : EReal) := by
  refine (Ideal.scalar_sitofp_def (φ := .f32) (0#32 : BitVec 32)).trans ?_
  simp

theorem pm_apply (x : FVec Ideal S16384x1024 .f32) (w : FVec Ideal S4x1024x3480 .f32) (r : Fin 16384) (n : Fin 1664) :
    pad S16384x1664 ![0, 0] ![0, 104] ![0, 0] (extractStridedSlice S16384x1560 ![0, 1920] (prod x w) slices_S16384x3480_S16384x1560_0_1920)
      (sitofp (F := Ideal) .f32 (constantI S_ 32 0#32)) pads_S16384x1560_S16384x1664_000_01040 h_S_ (ix2 r n) = ProjSpec.pm x w r n := by
  unfold ProjSpec.pm
  simp only [← prod_apply]
  generalize prod x w = p
  pointwise
  by_cases h : n.val < 1560
  · rw [dif_pos h, dif_pos (by omega)]
  · rw [dif_neg h, dif_neg (by omega)]
    exact padding

end Cert.Reference2Ideal.Proj
end
-- ==== Proof.ProjEq.lean ====
/- The projection's call and its reference leave the same arrays. -/
module

public import proofs.«01_k».proof.Defs
public import proofs.«01_k».proof.Proof.ProjIdeal.Value
public import proofs.«01_k».proof.Proof.ProjRef

@[expose] public section

noncomputable section

namespace Cert.ProjEq

open Idealize.ShloMosaic Idealize.ShloMosaic.TcCoe Idealize.SL.Sem

/-- The reference leaves its arguments as they were and no counter raised. -/
theorem ref_frame : Cert.quiescent_Reference2Ideal := fun m g _ =>
  (θ_run _ _ _).mono (fun r h => ⟨fun c => (h c).2.2.2, sem_eq_zero_of_no_sems (by decide) r.2⟩) (Cert.Reference2Ideal.Value.run (F := Ideal) m g)

/-- From equal arguments the three results are equal. -/
theorem algebraic : Cert.algebraic_Kernel2Ideal_Reference2Ideal := fun m g m' g' _ hargs => by
  refine ⟨fun c => Cert.Kernel2Ideal.Proj.yg m c, fun c => Cert.Kernel2Ideal.Proj.pr m c, fun c => Cert.Kernel2Ideal.Proj.pm m c, ?_, ?_⟩
  · exact (θ_run _ _ _).mono (fun r h c => ⟨(h.1 c).1, (h.1 c).2.1, (h.1 c).2.2, h.2 c⟩)
      (θ_run_and (Cert.Kernel2Ideal.Proj.run m g) (Cert.Kernel2Ideal.Proj.unchanged m g))
  · refine (θ_run _ _ _).mono (fun r hr c => ⟨(hr c).1.trans ?_, (hr c).2.1.trans ?_, (hr c).2.2.1.trans ?_, (hr c).2.2.2⟩) (Cert.Reference2Ideal.Value.run (F := Ideal) m' g')
    · obtain ⟨a0, a1, a2, a3, a4, a5⟩ := hargs c
      refine (Cert.Reference2Ideal.Proj.res_eq m' c).trans ?_
      rw [a0, a1, a2, a3, a4, a5]
      refine funext fun (y : Cert.Reference2Ideal.S16384x256.Idx) => ?_
      have e : y = ix2 (n0 := 16384) (n1 := 256) (y 0) (y 1) := eq_ix2 y
      exact (congrArg _ e).trans (Cert.Reference2Ideal.Proj.yg_apply _ _ _ _ _ _ (y 0) (y 1))
    · obtain ⟨a0, a1, a2, a3, a4, a5⟩ := hargs c
      rw [a0, a1]
      refine funext fun (y : Cert.Reference2Ideal.S16384x1408.Idx) => ?_
      have e : y = ix2 (n0 := 16384) (n1 := 1408) (y 0) (y 1) := eq_ix2 y
      exact (congrArg _ e).trans (Cert.Reference2Ideal.Proj.pr_apply _ _ (y 0) (y 1))
    · obtain ⟨a0, a1, a2, a3, a4, a5⟩ := hargs c
      rw [a0, a1]
      refine funext fun (y : Cert.Reference2Ideal.S16384x1664.Idx) => ?_
      have e : y = ix2 (n0 := 16384) (n1 := 1664) (y 0) (y 1) := eq_ix2 y
      exact (congrArg _ e).trans (Cert.Reference2Ideal.Proj.pm_apply _ _ (y 0) (y 1))

end Cert.ProjEq
end
-- ==== Proof.CombineSpec.lean ====
/- What the combining call computes, entry by entry, over the extended reals. -/
module

public import proofs.«01_k».proof.Proof.MoeSpec

@[expose] public section

noncomputable section

namespace Cert.CombineSpec

open Idealize.ShloMosaic

/-- A row's mean over 1024 entries. -/
def mean (v : Fin 1024 → EReal) : EReal := Ideal.div (∑ j, v j) (Ideal.ofBits .f32 0x44800000#32)

/-- Entry `d` of a row, normalized, scaled and shifted. -/
def norm (v g b : Fin 1024 → EReal) (d : Fin 1024) : EReal :=
  (v d - mean v) * Ideal.rsqrt (mean (fun j => (v j - mean v) * (v j - mean v)) + Ideal.ofBits .f32 0x3727C5AC#32) * g d + b d

section
variable (x : (⟨2, ![16384, 1024]⟩ : Shape).Idx → EReal) (y : (⟨2, ![65536, 512]⟩ : Shape).Idx → BitVec 32)
  (a : (⟨2, ![16384, 128]⟩ : Shape).Idx → EReal) (g b : (⟨1, ![1024]⟩ : Shape).Idx → EReal)

/-- Entry `d` of token `r`'s four expert rows, added with their gates. -/
def ffn (r : Fin 16384) (d : Fin 1024) : EReal :=
  ∑ j : Fin 4, a (ix2 r ⟨j.val, by omega⟩) * MoeSpec.entry (fun k => y (ix2 ⟨j.val * 16384 + r.val, by omega⟩ k)) d

/-- The residual sum before the normalization. -/
def sum (r : Fin 16384) (d : Fin 1024) : EReal := Ideal.ofBits .f32 0x3FD744FD#32 * x (ix2 r d) + ffn y a r d

/-- Entry `(r, d)` of the result. -/
def res (r : Fin 16384) (d : Fin 1024) : EReal := norm (sum x y a r) (fun j => g (ix1 j)) (fun j => b (ix1 j)) d

end

end Cert.CombineSpec
end
-- ==== Proof.CombineIdeal.Tile.lean ====
/- The block a point of the combining call writes, read at an index. -/
module

public import proofs.«01_k».proof.Proof.Gen.Kernel3Ideal.Frame
public import proofs.«01_k».proof.Proof.CombineSpec
public import Idealize.ShloMosaic.Lib.Pointwise

@[expose] public section

set_option maxRecDepth 8192

noncomputable section

namespace Cert.Kernel3Ideal.Combine

open Cert.Kernel3Ideal.Gen
open Idealize.ShloMosaic

theorem zero2 : (![0, 0] : Fin 2 → Nat) = fun _ => 0 := funext fun a => by match a with | ⟨0, _⟩ => rfl | ⟨1, _⟩ => rfl

/-- The gated rows' sum: the low halves' numbers, then the high halves'. -/
def ffn (a : FVec Ideal S512x128 .f32) (p q : FVec Ideal S512x512 .f32) (y : IVec S512x512 32) : FVec Ideal S512x1024 .f32 :=
  concatenate S512x1024 1 [⟨S512x512, addf p (mulf (broadcastTo S512x512 (extractStridedSlice S512x1 ![0, 3] a slices_S512x128_o0_3_S512x1) broadcasts_S512x1_S512x512)
      (bitcastToFloat .f32 (shli y (broadcast S512x512 16#32))))⟩,
    ⟨S512x512, addf q (mulf (broadcastTo S512x512 (extractStridedSlice S512x1 ![0, 3] a slices_S512x128_o0_3_S512x1) broadcasts_S512x1_S512x512)
      (bitcastToFloat .f32 (andi y (broadcast S512x512 4294901760#32))))⟩] concatenates_S512x512_S512x512_S512x1024_d1

/-- The residual sums. -/
def sums (x f : FVec Ideal S512x1024 .f32) : FVec Ideal S512x1024 .f32 :=
  addf (mulf (broadcast S512x1024 (Scalar.ofBits .f32 0x3FD744FD#32 : Ideal .f32)) x) f

/-- The rows' means, as a column. -/
def means (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32 : Ideal .f32))

/-- The rows with their means taken off. -/
def centred (v : FVec Ideal S512x1024 .f32) : FVec Ideal S512x1024 .f32 :=
  subf v (broadcastTo S512x1024 (means v) broadcasts_S512x1_S512x1024)

/-- The rows normalized, scaled and shifted. -/
def normed (v : FVec Ideal S512x1024 .f32) (g b : FVec Ideal S1x1024 .f32) : FVec Ideal S512x1024 .f32 :=
  addf (mulf (mulf (centred v) (broadcastTo S512x1024 (rsqrt (addf (means (mulf (centred v) (centred v))) (broadcast S512x1 (Scalar.ofBits .f32 0x3727C5AC#32 : Ideal .f32)))) broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem pay3_eq (a : Vec Ideal S512x128 .f32) (p q : FVec Ideal S512x512 .f32) (y : Vec Ideal S512x512 .i32) (x : Vec Ideal S512x1024 .f32) (g b : Vec Ideal S1x1024 .f32) :
    k0_pay3 (F := Ideal) a p q y x g b = normed (sums x (ffn a p q y)) g b := rfl

/-- What the point leaves in the result's block, of its blocks. -/
theorem out_eq (x0 : Vec Ideal S512x1024 .f32) (x1 x2 x3 x4 : Vec Ideal S512x512 .i32) (x5 : Vec Ideal S512x128 .f32) (x6 x7 : Vec Ideal S1x1024 .f32) :
    out0_8 x0 x1 x2 x3 x4 x5 x6 x7 = normed (sums x0 (ffn x5 (k0_pay1 (F := Ideal) x5 x1 x2 x3) (k0_pay2 (F := Ideal) x5 x1 x2 x3) x4)) x6 x7 := by
  unfold out0_8
  rw [View.canon_unit_zero zero2, View.ld_unit_zero zero2, View.ld_unit_zero zero2, View.ld_unit_zero zero2, View.ld_unit_zero zero2, View.ld_unit_zero zero2,
    View.ld_unit_zero zero2, View.ld_unit_zero zero2, View.ld_unit_zero zero2, pay3_eq]

theorem low_apply (a : FVec Ideal S512x128 .f32) (y1 y2 y3 : IVec S512x512 32) (r k : Fin 512) :
    k0_pay1 (F := Ideal) a y1 y2 y3 (ix2 r k) = a (ix2 r 0) * Ideal.ofBits .f32 (IntOp.shli .vector (y1 (ix2 r k)) 16#32)
      + a (ix2 r 1) * Ideal.ofBits .f32 (IntOp.shli .vector (y2 (ix2 r k)) 16#32) + a (ix2 r 2) * Ideal.ofBits .f32 (IntOp.shli .vector (y3 (ix2 r k)) 16#32) := by
  pointwise [k0_pay1]

theorem high_apply (a : FVec Ideal S512x128 .f32) (y1 y2 y3 : IVec S512x512 32) (r k : Fin 512) :
    k0_pay2 (F := Ideal) a y1 y2 y3 (ix2 r k) = a (ix2 r 0) * Ideal.ofBits .f32 (IntOp.andi (y1 (ix2 r k)) 4294901760#32)
      + a (ix2 r 1) * Ideal.ofBits .f32 (IntOp.andi (y2 (ix2 r k)) 4294901760#32) + a (ix2 r 2) * Ideal.ofBits .f32 (IntOp.andi (y3 (ix2 r k)) 4294901760#32) := by
  pointwise [k0_pay2]

/-- The gated rows' sum at an index, of the four rows' entries. -/
theorem ffn_apply (a : FVec Ideal S512x128 .f32) (y1 y2 y3 y4 : IVec S512x512 32) (r : Fin 512) (d : Fin 1024) :
    ffn a (k0_pay1 (F := Ideal) a y1 y2 y3) (k0_pay2 (F := Ideal) a y1 y2 y3) y4 (ix2 r d)
      = a (ix2 r 0) * MoeSpec.entry (fun k => y1 (ix2 r k)) d + a (ix2 r 1) * MoeSpec.entry (fun k => y2 (ix2 r k)) d
        + a (ix2 r 2) * MoeSpec.entry (fun k => y3 (ix2 r k)) d + a (ix2 r 3) * MoeSpec.entry (fun k => y4 (ix2 r k)) d := by
  unfold ffn MoeSpec.entry
  by_cases h : d.val < 512
  · simp only [dif_pos h]
    rw [← low_apply]
    refine (concatenate_pair_apply_left (t := S512x1024) (s₁ := S512x512) (s₂ := S512x512) (a := 1) (j := ix2 r d) (hr := rfl)
      (i := ix2 r ⟨d.val, h⟩) (hi := fun b => by match b with | ⟨0, _⟩ => rfl | ⟨1, _⟩ => rfl) ..).trans ?_
    generalize k0_pay1 (F := Ideal) a y1 y2 y3 = p
    pointwise
  · simp only [dif_neg h]
    rw [← high_apply]
    refine (concatenate_pair_apply_right (t := S512x1024) (s₁ := S512x512) (s₂ := S512x512) (a := 1) (j := ix2 r d) (hr := rfl) (hr₂ := rfl)
      (i := ix2 r ⟨d.val - 512, by omega⟩)
      (hi := fun b hb => by match b with | ⟨0, _⟩ => rfl | ⟨1, _⟩ => exact absurd rfl hb)
      (ha := Nat.sub_add_cancel (Nat.le_of_not_lt h)) ..).trans ?_
    generalize k0_pay2 (F := Ideal) a y1 y2 y3 = q
    pointwise

theorem sums_apply (x f : FVec Ideal S512x1024 .f32) (r : Fin 512) (d : Fin 1024) :
    sums x f (ix2 r d) = Ideal.ofBits .f32 0x3FD744FD#32 * x (ix2 r d) + f (ix2 r d) := by
  pointwise [sums]

theorem means_apply (v : FVec Ideal S512x1024 .f32) (r : Fin 512) : means v (ix2 r 0) = CombineSpec.mean (fun j => v (ix2 r j)) := by
  pointwise [means, CombineSpec.mean]

theorem centred_apply (v : FVec Ideal S512x1024 .f32) (r : Fin 512) (d : Fin 1024) : centred v (ix2 r d) = v (ix2 r d) - CombineSpec.mean (fun j => v (ix2 r j)) := by
  rw [← means_apply]
  unfold centred
  generalize means v = u
  pointwise

theorem normed_apply (v : FVec Ideal S512x1024 .f32) (g b : FVec Ideal S1x1024 .f32) (r : Fin 512) (d : Fin 1024) :
    normed v g b (ix2 r d) = CombineSpec.norm (fun j => v (ix2 r j)) (fun j => g (ix2 0 j)) (fun j => b (ix2 0 j)) d := by
  have e : ∀ j : Fin 1024, mulf (centred v) (centred v) (ix2 r j)
      = (v (ix2 r j) - CombineSpec.mean (fun j => v (ix2 r j))) * (v (ix2 r j) - CombineSpec.mean (fun j => v (ix2 r j))) := fun j => by
    rw [← centred_apply]; rfl
  unfold CombineSpec.norm
  simp only [← e]
  rw [← centred_apply, ← means_apply]
  unfold normed
  generalize means (mulf (centred v) (centred v)) = q
  generalize centred v = u
  pointwise

end Cert.Kernel3Ideal.Combine
end
-- ==== Proof.CombineIdeal.Value.lean ====
/- The array the combining call leaves, entry by entry. -/
module

public import proofs.«01_k».proof.Proof.CombineIdeal.Tile

@[expose] public section

set_option maxRecDepth 16384

noncomputable section

namespace Cert.Kernel3Ideal.Combine

open Cert.Kernel3Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem pt_val (t : Fin cfg0.N) : (grid0.coords t 0).val = t.val := by
  have e : ∀ s : Fin grid0.N, (grid0.coords s 0).val = s.val := by decide +kernel
  exact e t

theorem pt_lt (t : Fin cfg0.N) : t.val < 32 := t.isLt.trans_eq N_0

theorem word_toNat (i : grid0.Coords) : (BitVec.ofNat 32 (i 0).val).toNat = (i 0).val := by
  rw [BitVec.toNat_ofNat]
  have := (i 0).isLt
  have h : grid0.bound 0 = 32 := rfl
  omega

/-- The number of the block a token's `q`-th group of rows is read from. -/
theorem word_add (i : grid0.Coords) (q : Nat) (h : q ≤ 96) : (Scalar.addi (BitVec.ofNat 32 (i 0).val) (BitVec.ofNat 32 q)).toNat = (i 0).val + q := by
  show (BitVec.ofNat 32 (i 0).val + BitVec.ofNat 32 q).toNat = _
  rw [BitVec.toNat_add, word_toNat, BitVec.toNat_ofNat]
  have := (i 0).isLt
  have h' : grid0.bound 0 = 32 := rfl
  omega

theorem V_main_v0 : V m c main_v0 = shapeCast S1x1024 (m ((c : Thread nD τ).loc main_arg3)) shapeCasts_S1024_S1x1024 := by
  show StableHlo.after hostOps0 _ _ = _
  unfold hostOps0
  after_results
  rfl
theorem V_main_v1 : V m c main_v1 = shapeCast S1x1024 (m ((c : Thread nD τ).loc main_arg4)) shapeCasts_S1024_S1x1024 := by
  show StableHlo.after hostOps0 _ _ = _
  unfold hostOps0
  after_results
  rfl

variable (t : Fin cfg0.N)

theorem blk0_at (r : Fin 512) (k : Fin 1024) :
    iblk m c 0 t (ix2 r k) = m ((c : Thread nD τ).loc main_arg0) (ix2 ⟨t.val * 512 + r.val, by have := pt_lt t; omega⟩ k) := by
  rw [← V_main_arg0 m c]
  show V m c main_arg0 (((cfg0.win 0).rect t).emb (ix2 r k)) = V m c main_arg0 _
  congr 1
  funext a
  refine Fin.ext ((Window.rect_emb_val (cfg0.win 0) t (ix2 r k) a).trans ?_)
  match a with
  | ⟨0, _⟩ =>
    show (BitVec.ofNat 32 (grid0.coords t 0).val).toNat * 512 + r.val = _
    rw [word_toNat, pt_val]; rfl
  | ⟨1, _⟩ => show 0 * 1024 + k.val = k.val; omega

theorem blk1_at (r k : Fin 512) :
    iblk m c 1 t (ix2 r k) = m ((c : Thread nD τ).loc main_arg1) (ix2 ⟨0 * 16384 + (t.val * 512 + r.val), by have := pt_lt t; omega⟩ k) := by
  rw [← V_main_arg1 m c]
  show V m c main_arg1 (((cfg0.win 1).rect t).emb (ix2 r k)) = V m c main_arg1 _
  congr 1
  funext a
  refine Fin.ext ((Window.rect_emb_val (cfg0.win 1) t (ix2 r k) a).trans ?_)
  match a with
  | ⟨0, _⟩ =>
    show (Scalar.addi (BitVec.ofNat 32 (grid0.coords t 0).val) (BitVec.ofNat 32 0)).toNat * 512 + r.val = 0 * 16384 + (t.val * 512 + r.val)
    rw [word_add _ 0 (by omega), pt_val]; omega
  | ⟨1, _⟩ => show 0 * 512 + k.val = k.val; omega

theorem blk2_at (r k : Fin 512) :
    iblk m c 2 t (ix2 r k) = m ((c : Thread nD τ).loc main_arg1) (ix2 ⟨1 * 16384 + (t.val * 512 + r.val), by have := pt_lt t; omega⟩ k) := by
  rw [← V_main_arg1 m c]
  show V m c main_arg1 (((cfg0.win 2).rect t).emb (ix2 r k)) = V m c main_arg1 _
  congr 1
  funext a
  refine Fin.ext ((Window.rect_emb_val (cfg0.win 2) t (ix2 r k) a).trans ?_)
  match a with
  | ⟨0, _⟩ =>
    show (Scalar.addi (BitVec.ofNat 32 (grid0.coords t 0).val) (BitVec.ofNat 32 32)).toNat * 512 + r.val = 1 * 16384 + (t.val * 512 + r.val)
    rw [word_add _ 32 (by omega), pt_val]; omega
  | ⟨1, _⟩ => show 0 * 512 + k.val = k.val; omega

theorem blk3_at (r k : Fin 512) :
    iblk m c 3 t (ix2 r k) = m ((c : Thread nD τ).loc main_arg1) (ix2 ⟨2 * 16384 + (t.val * 512 + r.val), by have := pt_lt t; omega⟩ k) := by
  rw [← V_main_arg1 m c]
  show V m c main_arg1 (((cfg0.win 3).rect t).emb (ix2 r k)) = V m c main_arg1 _
  congr 1
  funext a
  refine Fin.ext ((Window.rect_emb_val (cfg0.win 3) t (ix2 r k) a).trans ?_)
  match a with
  | ⟨0, _⟩ =>
    show (Scalar.addi (BitVec.ofNat 32 (grid0.coords t 0).val) (BitVec.ofNat 32 64)).toNat * 512 + r.val = 2 * 16384 + (t.val * 512 + r.val)
    rw [word_add _ 64 (by omega), pt_val]; omega
  | ⟨1, _⟩ => show 0 * 512 + k.val = k.val; omega

theorem blk4_at (r k : Fin 512) :
    iblk m c 4 t (ix2 r k) = m ((c : Thread nD τ).loc main_arg1) (ix2 ⟨3 * 16384 + (t.val * 512 + r.val), by have := pt_lt t; omega⟩ k) := by
  rw [← V_main_arg1 m c]
  show V m c main_arg1 (((cfg0.win 4).rect t).emb (ix2 r k)) = V m c main_arg1 _
  congr 1
  funext a
  refine Fin.ext ((Window.rect_emb_val (cfg0.win 4) t (ix2 r k) a).trans ?_)
  match a with
  | ⟨0, _⟩ =>
    show (Scalar.addi (BitVec.ofNat 32 (grid0.coords t 0).val) (BitVec.ofNat 32 96)).toNat * 512 + r.val = 3 * 16384 + (t.val * 512 + r.val)
    rw [word_add _ 96 (by omega), pt_val]; omega
  | ⟨1, _⟩ => show 0 * 512 + k.val = k.val; omega

theorem blk5_at (r : Fin 512) (k : Fin 128) :
    iblk m c 5 t (ix2 r k) = m ((c : Thread nD τ).loc main_arg2) (ix2 ⟨t.val * 512 + r.val, by have := pt_lt t; omega⟩ k) := by
  rw [← V_main_arg2 m c]
  show V m c main_arg2 (((cfg0.win 5).rect t).emb (ix2 r k)) = V m c main_arg2 _
  congr 1
  funext a
  refine Fin.ext ((Window.rect_emb_val (cfg0.win 5) t (ix2 r k) a).trans ?_)
  match a with
  | ⟨0, _⟩ =>
    show (BitVec.ofNat 32 (grid0.coords t 0).val).toNat * 512 + r.val = _
    rw [word_toNat, pt_val]; rfl
  | ⟨1, _⟩ => show 0 * 128 + k.val = k.val; omega

theorem blk6_at (j : Fin 1024) : iblk m c 6 t (ix2 0 j) = m ((c : Thread nD τ).loc main_arg3) (ix1 j) := by
  have e : V m c main_v0 (ix2 0 j) = m ((c : Thread nD τ).loc main_arg3) (ix1 j) := by
    rw [V_main_v0]
    pointwise
  refine Eq.trans ?_ e
  show V m c main_v0 (((cfg0.win 6).rect t).emb (ix2 0 j)) = V m c main_v0 _
  congr 1
  funext a
  refine Fin.ext ((Window.rect_emb_val (cfg0.win 6) t (ix2 0 j) a).trans ?_)
  match a with
  | ⟨0, _⟩ => rfl
  | ⟨1, _⟩ => show 0 * 1024 + j.val = j.val; omega

theorem blk7_at (j : Fin 1024) : iblk m c 7 t (ix2 0 j) = m ((c : Thread nD τ).loc main_arg4) (ix1 j) := by
  have e : V m c main_v1 (ix2 0 j) = m ((c : Thread nD τ).loc main_arg4) (ix1 j) := by
    rw [V_main_v1]
    pointwise
  refine Eq.trans ?_ e
  show V m c main_v1 (((cfg0.win 7).rect t).emb (ix2 0 j)) = V m c main_v1 _
  congr 1
  funext a
  refine Fin.ext ((Window.rect_emb_val (cfg0.win 7) t (ix2 0 j) a).trans ?_)
  match a with
  | ⟨0, _⟩ => rfl
  | ⟨1, _⟩ => show 0 * 1024 + j.val = j.val; omega

section
variable (T : Fin 32) (x : FVec Ideal S16384x1024 .f32) (y : IVec S65536x512 32) (a : FVec Ideal S16384x128 .f32) (g b : FVec Ideal S1024 .f32)
  (x0 : Vec Ideal S512x1024 .f32) (x1 x2 x3 x4 : Vec Ideal S512x512 .i32) (x5 : Vec Ideal S512x128 .f32) (x6 x7 : Vec Ideal S1x1024 .f32)
  (h0 : ∀ (r : Fin 512) (k : Fin 1024), x0 (ix2 r k) = x (ix2 ⟨T.val * 512 + r.val, by omega⟩ k))
  (h1 : ∀ (r k : Fin 512), x1 (ix2 r k) = y (ix2 ⟨0 * 16384 + (T.val * 512 + r.val), by omega⟩ k))
  (h2 : ∀ (r k : Fin 512), x2 (ix2 r k) = y (ix2 ⟨1 * 16384 + (T.val * 512 + r.val), by omega⟩ k))
  (h3 : ∀ (r k : Fin 512), x3 (ix2 r k) = y (ix2 ⟨2 * 16384 + (T.val * 512 + r.val), by omega⟩ k))
  (h4 : ∀ (r k : Fin 512), x4 (ix2 r k) = y (ix2 ⟨3 * 16384 + (T.val * 512 + r.val), by omega⟩ k))
  (h5 : ∀ (r : Fin 512) (k : Fin 128), x5 (ix2 r k) = a (ix2 ⟨T.val * 512 + r.val, by omega⟩ k))
  (h6 : ∀ j : Fin 1024, x6 (ix2 0 j) = g (ix1 j)) (h7 : ∀ j : Fin 1024, x7 (ix2 0 j) = b (ix1 j))

include h1 h2 h3 h4 h5 in
theorem ffn_tile (r : Fin 512) (d : Fin 1024) :
    ffn x5 (k0_pay1 (F := Ideal) x5 x1 x2 x3) (k0_pay2 (F := Ideal) x5 x1 x2 x3) x4 (ix2 r d) = CombineSpec.ffn y a ⟨T.val * 512 + r.val, by omega⟩ d := by
  rw [ffn_apply]
  simp only [h1, h2, h3, h4, h5]
  unfold CombineSpec.ffn
  rw [Fin.sum_univ_four]
  rfl

include h0 h1 h2 h3 h4 h5 h6 h7 in
/-- The point's block of the result, of the arguments. -/
theorem out_tile (r : Fin 512) (d : Fin 1024) :
    out0_8 x0 x1 x2 x3 x4 x5 x6 x7 (ix2 r d) = CombineSpec.res x y a g b ⟨T.val * 512 + r.val, by omega⟩ d := by
  rw [out_eq, normed_apply]
  simp only [sums_apply, ffn_tile T y a x1 x2 x3 x4 x5 h1 h2 h3 h4 h5, h0, h6, h7]
  rfl

end

/-- The result, of the arguments. -/
def res : Buf (Elt Ideal) ((c : Thread nD τ).loc main_v2) := fun y =>
  CombineSpec.res (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1)

/-- Each point writes back its block of the result. -/
theorem flushed : (dats m 0 c).flushed 8 t = ((cfg0.win 8).blk t).view.read (Elt Ideal) (res m c) := by
  show (cfg0.win 8).cut (grid0.coords t) ((dats m 0 c).after 8 t) = _
  rw [after0_8]
  have key : ∀ (y : Fin 512) (n : Fin 1024), out0_8 (F := Ideal) (iblk m c 0 t) (iblk m c 1 t) (iblk m c 2 t) (iblk m c 3 t) (iblk m c 4 t) (iblk m c 5 t) (iblk m c 6 t) (iblk m c 7 t) (ix2 y n)
      = res m c (((cfg0.win 8).rect t).emb (ix2 y n)) := fun y n => by
    refine (out_tile ⟨t.val, pt_lt t⟩ _ _ _ _ _ _ _ _ _ _ _ _ _ (blk0_at m c t) (blk1_at m c t) (blk2_at m c t) (blk3_at m c t) (blk4_at m c t) (blk5_at m c t) (blk6_at m c t) (blk7_at m c t) y n).trans
      (congrArg₂ (CombineSpec.res _ _ _ _ _) (Fin.ext ?_) (Fin.ext ?_))
    · refine Eq.trans ?_ (Window.rect_emb_val (cfg0.win 8) t (ix2 y n) (0 : Fin 2)).symm
      show t.val * 512 + y.val = (BitVec.ofNat 32 (grid0.coords t 0).val).toNat * 512 + y.val
      rw [word_toNat, pt_val]
    · refine Eq.trans ?_ (Window.rect_emb_val (cfg0.win 8) t (ix2 y n) (1 : Fin 2)).symm
      show n.val = 0 * 1024 + n.val
      omega
  refine funext fun (y : S512x1024.Idx) => ?_
  have e : y = ix2 (n0 := 512) (n1 := 1024) (y 0) (y 1) := eq_ix2 y
  exact (congrArg _ e).trans ((key (y 0) (y 1)).trans (congrArg (fun z => res m c (((cfg0.win 8).rect t).emb z)) e.symm))

theorem final : (dats m 0 c).arrAt 8 cfg0.N = res m c :=
  (dats m 0 c).arrAt_eq_of_cover 8 (res m c) (fun t _ => flushed m c t) fun (i : S16384x1024.Idx) => by
    have h0 : (i 0 : Nat) < 16384 := (i 0).isLt
    have h1 : (i 1 : Nat) < 1024 := (i 1).isLt
    have hN : cfg0.N = 32 := N_0
    have hT : (i 0 : Nat) / 512 < cfg0.N := by rw [hN]; omega
    refine ⟨⟨(i 0 : Nat) / 512, hT⟩, flush0_8 _, ?_⟩
    show i ∈ ((View.whole main_v2).slice ((cfg0.win 8).rect ⟨(i 0 : Nat) / 512, hT⟩)).set
    refine (View.set_slice_whole main_v2 ((cfg0.win 8).rect ⟨(i 0 : Nat) / 512, hT⟩)).symm ▸ ?_
    refine (Rect.mem_set_unit ..).mpr ?_
    intro a
    match a with
    | ⟨0, _⟩ =>
      show (BitVec.ofNat 32 (grid0.coords ⟨(i 0 : Nat) / 512, hT⟩ 0).val).toNat * 512 ≤ (i 0 : Nat)
        ∧ (i 0 : Nat) < (BitVec.ofNat 32 (grid0.coords ⟨(i 0 : Nat) / 512, hT⟩ 0).val).toNat * 512 + 512
      rw [word_toNat, show (grid0.coords ⟨(i 0 : Nat) / 512, hT⟩ 0).val = (i 0 : Nat) / 512 from pt_val ⟨(i 0 : Nat) / 512, hT⟩]
      omega
    | ⟨1, _⟩ => show 0 * 1024 ≤ (i 1 : Nat) ∧ (i 1 : Nat) < 0 * 1024 + 1024; omega

variable (ρ : Dev nD → PrngReg)

/-- The run leaves the result in its array. -/
theorem run : θ_run defs (onTc (τ := τ) (main (F := Ideal))) ⟨m, fun _ => 0, ρ⟩ (fun r => ∀ c : Dev nD,
      r.2.mem ((c.tc : Thread nD τ).loc main_v2) = res m c) :=
  (θ_run defs _ _).mono (fun _ h c => ((h c).1 8).trans (final m c)) (run_main m ρ)

end Cert.Kernel3Ideal.Combine
end
-- ==== Proof.CombineRef.lean ====
/- The combining call's reference read at an index. -/
module

public import proofs.«01_k».proof.Proof.Gen.Reference3Ideal.Run
public import proofs.«01_k».proof.Proof.CombineSpec
public import Idealize.ShloMosaic.Lib.Pointwise
public import Idealize.ShloMosaic.Lib.Pipeline.Value

@[expose] public section

set_option maxRecDepth 8192

noncomputable section

namespace Cert.Reference3Ideal.Combine

open Cert.Reference3Ideal Cert.Reference3Ideal.Gen
open Idealize.ShloMosaic Idealize.ShloMosaic.TcCoe

/-- All rows, unpacked: low halves' numbers, then high halves'. -/
def unpacked (y : IVec S65536x512 32) : FVec Ideal S65536x1024 .f32 :=
  concatenate S65536x1024 1 [⟨S65536x512, (bitcastToFloat (F := Ideal) .f32 (Host.shli y (broadcastInDim S65536x512 ![] bcast_S_S65536x512 (constantI S_ 32 16#32))))⟩,
    ⟨S65536x512, (bitcastToFloat (F := Ideal) .f32 (andi y (broadcastInDim S65536x512 ![] bcast_S_S65536x512 (constantI S_ 32 4294901760#32))))⟩] concatenates_S65536x512_S65536x512_S65536x1024_d1

/-- The tokens' rows added with their gates. -/
def ffn (u : FVec Ideal S65536x1024 .f32) (a : FVec Ideal S16384x128 .f32) : FVec Ideal S16384x1024 .f32 :=
  Host.dotGeneral dot_S4x16384x1024_S16384x4_S16384x1024_0_1_2_n_1_0 none (shapeCast _ u shapeCasts_S65536x1024_S4x16384x1024 : FVec Ideal S4x16384x1024 .f32)
    (extractStridedSlice S16384x4 ![0, 0] a slices_S16384x128_S16384x4_0_0)

/-- The residual sums. -/
def sums (x : FVec Ideal S16384x1024 .f32) (f : FVec Ideal S16384x1024 .f32) : FVec Ideal S16384x1024 .f32 :=
  addf (mulf (broadcastInDim S16384x1024 ![] bcast_S_S16384x1024 (constant S_ .f32 0x3FD744FD#32)) x) f

/-- The rows' means, as a column. -/
def means (v : FVec Ideal S16384x1024 .f32) : FVec Ideal S16384x1 .f32 :=
  Host.divf (broadcastInDim S16384x1 ![0] bcast_S16384_S16384x1_0 (Host.reduceAdd v (constant S_ .f32 0x00000000#32) reducesTo_S16384x1024_S16384_d1 h_S_))
    (broadcastInDim S16384x1 ![] bcast_S_S16384x1 (constant S_ .f32 0x44800000#32))

/-- The rows with their means taken off. -/
def centred (v : FVec Ideal S16384x1024 .f32) : FVec Ideal S16384x1024 .f32 :=
  subf v (broadcastInDim S16384x1024 ![0, 1] bcast_S16384x1_S16384x1024_0_1 (means v))

/-- The rows normalized, scaled and shifted. -/
def normed (v : FVec Ideal S16384x1024 .f32) (g b : FVec Ideal S1024 .f32) : FVec Ideal S16384x1024 .f32 :=
  addf (mulf (mulf (centred v) (broadcastInDim S16384x1024 ![0, 1] bcast_S16384x1_S16384x1024_0_1
        (Host.rsqrt (addf (means (mulf (centred v) (centred v))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

theorem res_eq (m : (ℓ : Loc nD τ sig) → Buf (Elt Ideal) ℓ) (c : Dev nD) :
    Value.res_main_v34 m c
      = normed (sums (m ((c.tc : Thread nD τ).loc main_arg0)) (ffn (unpacked (m ((c.tc : Thread nD τ).loc main_arg1))) (m ((c.tc : Thread nD τ).loc main_arg2))))
        (m ((c.tc : Thread nD τ).loc main_arg3)) (m ((c.tc : Thread nD τ).loc main_arg4)) := by
  unfold Value.res_main_v34 normed centred means sums ffn unpacked
  rfl

theorem unpacked_apply (y : IVec S65536x512 32) (i : Fin 65536) (k : Fin 1024) :
    unpacked y (ix2 i k) = MoeSpec.entry (fun j => y (ix2 i j)) k := by
  unfold unpacked MoeSpec.entry
  by_cases h : k.val < 512
  · rw [dif_pos h]
    refine (concatenate_pair_apply_left (t := S65536x1024) (s₁ := S65536x512) (s₂ := S65536x512) (a := 1) (j := ix2 i k) (hr := rfl)
      (i := ix2 i ⟨k.val, h⟩) (hi := fun b => by match b with | ⟨0, _⟩ => rfl | ⟨1, _⟩ => rfl) ..).trans ?_
    pointwise
    rfl
  · rw [dif_neg h]
    refine (concatenate_pair_apply_right (t := S65536x1024) (s₁ := S65536x512) (s₂ := S65536x512) (a := 1) (j := ix2 i k) (hr := rfl) (hr₂ := rfl)
      (i := ix2 i ⟨k.val - 512, by omega⟩)
      (hi := fun b hb => by match b with | ⟨0, _⟩ => rfl | ⟨1, _⟩ => exact absurd rfl hb)
      (ha := Nat.sub_add_cancel (Nat.le_of_not_lt h)) ..).trans ?_
    pointwise

theorem ffn_apply (u : FVec Ideal S65536x1024 .f32) (a : FVec Ideal S16384x128 .f32) (r : Fin 16384) (d : Fin 1024) :
    ffn u a (ix2 r d) = ∑ j : Fin 4, a (ix2 r ⟨j.val, by omega⟩) * u (ix2 ⟨j.val * 16384 + r.val, by omega⟩ d) := by
  pointwise [ffn]
  exact Finset.sum_congr rfl fun j _ => mul_comm _ _

theorem sums_apply (x : FVec Ideal S16384x1024 .f32) (y : IVec S65536x512 32) (a : FVec Ideal S16384x128 .f32) (r : Fin 16384) (d : Fin 1024) :
    sums x (ffn (unpacked y) a) (ix2 r d) = CombineSpec.sum x y a r d := by
  unfold CombineSpec.sum CombineSpec.ffn
  simp only [← unpacked_apply]
  rw [← ffn_apply]
  generalize ffn (unpacked y) a = f
  pointwise [sums]

theorem means_apply (v : FVec Ideal S16384x1024 .f32) (r : Fin 16384) : means v (ix2 r 0) = CombineSpec.mean (fun j => v (ix2 r j)) := by
  pointwise [means, CombineSpec.mean]

theorem centred_apply (v : FVec Ideal S16384x1024 .f32) (r : Fin 16384) (d : Fin 1024) : centred v (ix2 r d) = v (ix2 r d) - CombineSpec.mean (fun j => v (ix2 r j)) := by
  rw [← means_apply]
  unfold centred
  generalize means v = u
  pointwise

theorem normed_apply (v : FVec Ideal S16384x1024 .f32) (g b : FVec Ideal S1024 .f32) (r : Fin 16384) (d : Fin 1024) :
    normed v g b (ix2 r d) = CombineSpec.norm (fun j => v (ix2 r j)) (fun j => g (ix1 j)) (fun j => b (ix1 j)) d := by
  have e : ∀ j : Fin 1024, mulf (centred v) (centred v) (ix2 r j)
      = (v (ix2 r j) - CombineSpec.mean (fun j => v (ix2 r j))) * (v (ix2 r j) - CombineSpec.mean (fun j => v (ix2 r j))) := fun j => by
    rw [← centred_apply]; rfl
  unfold CombineSpec.norm
  simp only [← e]
  rw [← centred_apply, ← means_apply]
  unfold normed
  generalize means (mulf (centred v) (centred v)) = q
  generalize centred v = u
  pointwise

theorem res_apply (x : FVec Ideal S16384x1024 .f32) (y : IVec S65536x512 32) (a : FVec Ideal S16384x128 .f32) (g b : FVec Ideal S1024 .f32) (r : Fin 16384) (d : Fin 1024) :
    normed (sums x (ffn (unpacked y) a)) g b (ix2 r d) = CombineSpec.res x y a g b r d := by
  rw [normed_apply]
  simp only [sums_apply]
  rfl

end Cert.Reference3Ideal.Combine
end
-- ==== Proof.CombineEq.lean ====
/- The combining call and its reference leave the same array. -/
module

public import proofs.«01_k».proof.Defs
public import proofs.«01_k».proof.Proof.CombineIdeal.Value
public import proofs.«01_k».proof.Proof.CombineRef

@[expose] public section

noncomputable section

namespace Cert.CombineEq

open Idealize.ShloMosaic Idealize.ShloMosaic.TcCoe Idealize.SL.Sem

/-- The reference leaves its arguments as they were and no counter raised. -/
theorem ref_frame : Cert.quiescent_Reference3Ideal := fun m g _ =>
  (θ_run _ _ _).mono (fun r h => ⟨fun c => (h c).2, sem_eq_zero_of_no_sems (by decide) r.2⟩) (Cert.Reference3Ideal.Value.run (F := Ideal) m g)

/-- From equal arguments the results are equal. -/
theorem algebraic : Cert.algebraic_Kernel3Ideal_Reference3Ideal := fun m g m' g' _ hargs => by
  refine ⟨fun c => Cert.Kernel3Ideal.Combine.res m c, ?_, ?_⟩
  · exact (θ_run _ _ _).mono (fun r h c => ⟨h.1 c, h.2 c⟩)
      (θ_run_and (Cert.Kernel3Ideal.Combine.run m g) (Cert.Kernel3Ideal.Gen.unchanged m g))
  · refine (θ_run _ _ _).mono (fun r hr c => ⟨(hr c).1.trans ?_, (hr c).2⟩) (Cert.Reference3Ideal.Value.run (F := Ideal) m' g')
    obtain ⟨a0, a1, a2, a3, a4⟩ := hargs c
    refine (Cert.Reference3Ideal.Combine.res_eq m' c).trans ?_
    rw [a0, a1, a2, a3, a4]
    refine funext fun (y : Cert.Reference3Ideal.S16384x1024.Idx) => ?_
    have e : y = ix2 (n0 := 16384) (n1 := 1024) (y 0) (y 1) := eq_ix2 y
    exact (congrArg _ e).trans (Cert.Reference3Ideal.Combine.res_apply _ _ _ _ _ (y 0) (y 1))

end Cert.CombineEq
end
-- ==== Proof.MixIdeal.RunB.lean ====
/- The body at a point after the first: the scratch is read, not filled. -/
module

public import proofs.«01_k».proof.Proof.Gen.Kernel4Ideal.Frame.Runs
public import proofs.«01_k».proof.Proof.Gen.Kernel4Ideal.Loops

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S512x256 .f32) (harg2 : arg2.IsWhole)
  (arg3 : Memref sig .tc .vmem S512x384 .f32) (harg3 : arg3.IsWhole) (arg4 : Memref sig .tc .vmem S512x384 .f32) (harg4 : arg4.IsWhole)
  (arg5 : Memref sig .tc .vmem S512x384 .f32) (harg5 : arg5.IsWhole) (arg6 : Memref sig .tc .vmem S512x384 .f32) (harg6 : arg6.IsWhole)
  (arg7 : Memref sig .tc .vmem S1x384 .f32) (harg7 : arg7.IsWhole) (arg8 : Memref sig .tc .vmem S1x384 .f32) (harg8 : arg8.IsWhole)
  (arg9 : Memref sig .tc .vmem S512x384 .f32) (harg9 : arg9.IsWhole) (arg10 : Memref sig .tc .vmem S512x384 .f32) (harg10 : arg10.IsWhole)
  (arg11 : Memref sig .tc .vmem S512x384 .f32) (harg11 : arg11.IsWhole) (arg12 : Memref sig .tc .vmem S1x384 .f32) (harg12 : arg12.IsWhole)
  (arg13 : Memref sig .tc .vmem S1x1024x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1024x128 .f32) (harg16 : arg16.IsWhole)
  (arg17 : Memref sig .tc .vmem S1x128 .f32) (harg17 : arg17.IsWhole) (arg18 : Memref sig .tc .vmem S384x384 .bf16) (harg18 : arg18.IsWhole)
  (arg19 : Memref sig .tc .vmem S512x1024 .f32) (harg19 : arg19.IsWhole) (arg20 : Memref sig .tc .vmem S1024x512 .bf16) (harg20 : arg20.IsWhole)
  (arg21 : Memref sig .tc .vmem S8x512 .i32) (harg21 : arg21.IsWhole) (arg22 : Memref sig .tc .vmem S512x128 .f32) (harg22 : arg22.IsWhole)
  (arg23 : Memref sig .tc .vmem S1024x1024 .bf16) (harg23 : arg23.IsWhole)
  (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x12 : Vec F S1x1024x1024 .f32) (x13 : Vec F S1x1024 .f32) (x14 : Vec F S1x1024 .f32) (x15 : Vec F S1024x128 .f32) (x16 : Vec F S1x128 .f32) (x17 : Vec F S384x384 .bf16)

set_option maxHeartbeats 16000000 in
noncomputable def runB (W : Vec F S1024x1024 .bf16) (hc : ¬ k0_cond1 i = 1#1) :
    { L : List (View.Piece (Elt F) S512x1024 .f32) × List (View.Piece (Elt F) S1024x512 .bf16) × List (View.Piece (Elt F) S8x512 .i32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ owns (c : Thread nD τ) arg23 fullShare W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
                ∗ (∃ f, arg19.view.loc (c : Thread nD τ) ↦[arg19.view.set]{fullShare} arg19.view.writes (Elt F) f L.1)
                ∗ (∃ f, arg20.view.loc (c : Thread nD τ) ↦[arg20.view.set]{fullShare} arg20.view.writes (Elt F) f L.2.1)
                ∗ (∃ f, arg21.view.loc (c : Thread nD τ) ↦[arg21.view.set]{fullShare} arg21.view.writes (Elt F) f L.2.2.1)
                ∗ (∃ f, arg22.view.loc (c : Thread nD τ) ↦[arg22.view.set]{fullShare} arg22.view.writes (Elt F) f L.2.2.2)
                ∗ owns (c : Thread nD τ) arg23 fullShare W) -∗ K ⟨⟩))
          ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨⟨?_, ?_, ?_, ?_⟩, fun E K => ?run⟩
  case run =>
    simp only [cc0_mix_out_eq_skeleton]; unfold cc0_mix_out_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg23.eq_unread hf22
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    iexists _; isplitr; · ipureintro; exact harg23.read_unread _
    iexact H22

end Cert.Kernel4Ideal.Mix

end
-- ==== Proof.MixIdeal.Fill.lean ====
/- The scratch after the first point: the mixing weights cast, slab by slab. -/
module

public import proofs.«01_k».proof.Proof.Gen.Kernel4Ideal.Frame.Runs
public import proofs.«01_k».proof.Proof.Gen.Kernel4Ideal.Loops
public import Idealize.ShloMosaic.Lib.WritesUnit
public import Idealize.ShloMosaic.Lib.Pointwise
public import Idealize.ShloMosaic.Lib.Pipeline.ValueKit.Tiles

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows `128k … 128k+127` of the weights. -/
def slab (x12 : Vec F S1x1024x1024 .f32) (k : Fin 8) : Vec F S1x128x1024 .f32 := fun j =>
  x12 (ix3 (0 : Fin 1) (⟨128 * k.val + (j 1).val, by have := k.isLt; have h : (j 1).val < 128 := (j 1).isLt; omega⟩ : Fin 1024)
    (⟨(j 2).val, (j 2).isLt⟩ : Fin 1024))

/-- What the loop leaves in the scratch. -/
def wide (x12 : Vec F S1x1024x1024 .f32) : Vec F S1024x1024 .bf16 := fun y =>
  k0_pay3 (slab x12 ⟨(y 0).val / 128, by have h0 : (y 0).val < 1024 := (y 0).isLt; omega⟩)
    (ix2 (⟨(y 0).val % 128, by omega⟩ : Fin 128) (⟨(y 1).val, (y 1).isLt⟩ : Fin 1024))

section

variable (c : Dev nD) (i : grid0.Coords)
  (arg1 : Memref sig .tc .vmem S512x1024 .f32) (harg1 : arg1.IsWhole) (arg2 : Memref sig .tc .vmem S512x256 .f32) (harg2 : arg2.IsWhole)
  (arg3 : Memref sig .tc .vmem S512x384 .f32) (harg3 : arg3.IsWhole) (arg4 : Memref sig .tc .vmem S512x384 .f32) (harg4 : arg4.IsWhole)
  (arg5 : Memref sig .tc .vmem S512x384 .f32) (harg5 : arg5.IsWhole) (arg6 : Memref sig .tc .vmem S512x384 .f32) (harg6 : arg6.IsWhole)
  (arg7 : Memref sig .tc .vmem S1x384 .f32) (harg7 : arg7.IsWhole) (arg8 : Memref sig .tc .vmem S1x384 .f32) (harg8 : arg8.IsWhole)
  (arg9 : Memref sig .tc .vmem S512x384 .f32) (harg9 : arg9.IsWhole) (arg10 : Memref sig .tc .vmem S512x384 .f32) (harg10 : arg10.IsWhole)
  (arg11 : Memref sig .tc .vmem S512x384 .f32) (harg11 : arg11.IsWhole) (arg12 : Memref sig .tc .vmem S1x384 .f32) (harg12 : arg12.IsWhole)
  (arg13 : Memref sig .tc .vmem S1x1024x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1024x128 .f32) (harg16 : arg16.IsWhole)
  (arg17 : Memref sig .tc .vmem S1x128 .f32) (harg17 : arg17.IsWhole) (arg18 : Memref sig .tc .vmem S384x384 .bf16) (harg18 : arg18.IsWhole)
  (arg19 : Memref sig .tc .vmem S512x1024 .f32) (harg19 : arg19.IsWhole) (arg20 : Memref sig .tc .vmem S1024x512 .bf16) (harg20 : arg20.IsWhole)
  (arg21 : Memref sig .tc .vmem S8x512 .i32) (harg21 : arg21.IsWhole) (arg22 : Memref sig .tc .vmem S512x128 .f32) (harg22 : arg22.IsWhole)
  (arg23 : Memref sig .tc .vmem S1024x1024 .bf16) (harg23 : arg23.IsWhole)
  (x12 : Vec F S1x1024x1024 .f32)

variable (hc : k0_cond1 i = 1#1)

abbrev pieces (X : BufTy.Contents (Elt F) arg13.view.ty) (k : Nat) : List (View.Piece (Elt F) S1024x1024 .bf16) :=
  pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc X k

theorem trip_pieces (X : BufTy.Contents (Elt F) arg13.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc X k
      = [⟨Rect.unit (s := S1024x1024) (k0_off2 k) S128x1024.size (k0_off2_inb i k hc),
            k0_pay3 (arg13.view.readAt (Elt F) (Rect.unit (s := S1x1024x1024) (k0_off1 k) S1x128x1024.size (k0_off1_inb i k hc)).toLoadRect X)⟩] := by
  unfold tripL_k0_t1 trip_k0_t1
  rfl

theorem read_slab (k : Fin k0_t1_loop.trips) (k' : Fin 8) (hk : k.val = k'.val) :
    arg13.view.readAt (Elt F) (Rect.unit (s := S1x1024x1024) (k0_off1 k) S1x128x1024.size (k0_off1_inb i k hc)).toLoadRect (harg13.unread x12) = slab x12 k' := by
  rw [View.readAt_eq_ld, harg13.read_unread]
  funext j
  refine View.ld_unit_apply_of x12 _ _ _ j _ fun a => ?_
  refine Eq.trans ?_ (congrArg (· + (j a).val) (congrFun (k0_off1_eq k) a).symm)
  match a with
  | ⟨0, _⟩ => have h : (j 0).val < 1 := (j 0).isLt; show 0 = 0 + (j 0).val; omega
  | ⟨1, _⟩ => show 128 * k'.val + (j 1).val = 128 * k.val + (j 1).val; rw [hk]
  | ⟨2, _⟩ => show (j 2).val = 0 + (j 2).val; omega

theorem read_pieces (G : BufTy.Contents (Elt F) arg23.view.ty) : ∀ (k : Nat), k ≤ k0_t1_loop.trips → ∀ y : S1024x1024.Idx, (y 0).val < 128 * k →
    arg23.view.read (Elt F) (arg23.view.writes (Elt F) G (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc (harg13.unread x12) k)) y = wide x12 y
  | 0, _, y, h => absurd h (by omega)
  | k + 1, hk, y, h => by
    have hk8 : k < 8 := Nat.lt_of_lt_of_le hk k0_t1_abs.2.1
    have h0 : (y 0).val < 1024 := (y 0).isLt
    have h1 : (y 1).val < 1024 := (y 1).isLt
    unfold pieces
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc (harg13.unread x12) ⟨k, hk⟩, trip_pieces]
    rw [List.cons_append, List.nil_append]
    by_cases hy : (y 0).val < 128 * k
    · rw [View.read_writes_cons_unit_of_not_mem arg23.view G _ _ _ y (k0_off2_eq ⟨k, hk⟩) 0 (Or.inl (by show (y 0).val < 128 * k; exact hy))]
      exact read_pieces G k (Nat.le_of_succ_le hk) y hy
    · have hd : (y 0).val / 128 = k := by omega
      have he : (⟨(y 0).val / 128, by omega⟩ : Fin 8) = ⟨k, hk8⟩ := Fin.ext hd
      unfold wide
      rw [he]
      refine (View.read_writes_cons_unit_of_mem arg23.view G _ _ _ y (by exact ix2 (⟨(y 0).val % 128, by omega⟩ : Fin 128) (⟨(y 1).val, h1⟩ : Fin 1024)) (k0_off2_eq ⟨k, hk⟩)
          (fun a => by
            match a with
            | ⟨0, _⟩ => show (y 0).val = 128 * k + (y 0).val % 128; omega
            | ⟨1, _⟩ => show (y 1).val = 0 + (y 1).val; omega)).trans ?_
      rw [read_slab i arg13 harg13 x12 hc ⟨k, hk⟩ ⟨k, hk8⟩ rfl]

theorem trips_eq : k0_t1_loop.trips = 8 := by decide +kernel

theorem filled (G : BufTy.Contents (Elt F) arg23.view.ty) :
    arg23.view.read (Elt F) (arg23.view.writes (Elt F) G (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc (harg13.unread x12) k0_t1_loop.trips)) = wide x12 :=
  funext fun y => read_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x12 hc G _ (Nat.le_refl _) y (by
    have h0 : (y 0).val < 1024 := (y 0).isLt
    rw [trips_eq]; omega)

set_option maxHeartbeats 1000000 in
/-- The loop, from a scratch at any contents. -/
theorem fill (E : Set ℕ) (K : PUnit → sProp 𝕄) :
    iprop(owns (c : Thread nD τ) arg13 fullShare x12 ∗ (∃ d, owns (c : Thread nD τ) arg23 fullShare d)
        ∗ (iprop(owns (c : Thread nD τ) arg13 fullShare x12 ∗ owns (c : Thread nD τ) arg23 fullShare (wide x12)) -∗ K ⟨⟩))
      ⊢ wp frame (wpE (defs₀ (F := F)) Variants.none c none) E
          (Scf.Loop.for k0_t1_loop (k0_t1_ok i hc) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc)) K := by
  unfold owns
  iintro ⟨⟨%f1, %hf1, H1⟩, ⟨%d9, %f9, -, H9⟩, Hk⟩
  obtain rfl := harg13.eq_unread hf1
  sl_exec
  iapply Hk
  isplitl [H1]
  · iexists _; isplitr; · ipureintro; exact harg13.read_unread _
    iexact H1
  iexists _; isplitr
  swap; · iexact H9
  ipureintro; exact filled c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x12 hc f9

end

end Cert.Kernel4Ideal.Mix

end
-- ==== Proof.MixIdeal.RunA.lean ====
/- The body at the first point: the scratch is filled, then read. -/
module

public import proofs.«01_k».proof.Proof.MixIdeal.RunB
public import proofs.«01_k».proof.Proof.MixIdeal.Fill

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S512x1024 .f32) (harg1 : arg1.IsWhole) (arg2 : Memref sig .tc .vmem S512x256 .f32) (harg2 : arg2.IsWhole)
  (arg3 : Memref sig .tc .vmem S512x384 .f32) (harg3 : arg3.IsWhole) (arg4 : Memref sig .tc .vmem S512x384 .f32) (harg4 : arg4.IsWhole)
  (arg5 : Memref sig .tc .vmem S512x384 .f32) (harg5 : arg5.IsWhole) (arg6 : Memref sig .tc .vmem S512x384 .f32) (harg6 : arg6.IsWhole)
  (arg7 : Memref sig .tc .vmem S1x384 .f32) (harg7 : arg7.IsWhole) (arg8 : Memref sig .tc .vmem S1x384 .f32) (harg8 : arg8.IsWhole)
  (arg9 : Memref sig .tc .vmem S512x384 .f32) (harg9 : arg9.IsWhole) (arg10 : Memref sig .tc .vmem S512x384 .f32) (harg10 : arg10.IsWhole)
  (arg11 : Memref sig .tc .vmem S512x384 .f32) (harg11 : arg11.IsWhole) (arg12 : Memref sig .tc .vmem S1x384 .f32) (harg12 : arg12.IsWhole)
  (arg13 : Memref sig .tc .vmem S1x1024x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1024x128 .f32) (harg16 : arg16.IsWhole)
  (arg17 : Memref sig .tc .vmem S1x128 .f32) (harg17 : arg17.IsWhole) (arg18 : Memref sig .tc .vmem S384x384 .bf16) (harg18 : arg18.IsWhole)
  (arg19 : Memref sig .tc .vmem S512x1024 .f32) (harg19 : arg19.IsWhole) (arg20 : Memref sig .tc .vmem S1024x512 .bf16) (harg20 : arg20.IsWhole)
  (arg21 : Memref sig .tc .vmem S8x512 .i32) (harg21 : arg21.IsWhole) (arg22 : Memref sig .tc .vmem S512x128 .f32) (harg22 : arg22.IsWhole)
  (arg23 : Memref sig .tc .vmem S1024x1024 .bf16) (harg23 : arg23.IsWhole)
  (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x12 : Vec F S1x1024x1024 .f32) (x13 : Vec F S1x1024 .f32) (x14 : Vec F S1x1024 .f32) (x15 : Vec F S1024x128 .f32) (x16 : Vec F S1x128 .f32) (x17 : Vec F S384x384 .bf16)

set_option maxHeartbeats 16000000 in
noncomputable def runA (hc : k0_cond1 i = 1#1) :
    { L : List (View.Piece (Elt F) S512x1024 .f32) × List (View.Piece (Elt F) S1024x512 .bf16) × List (View.Piece (Elt F) S8x512 .i32) × List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
            ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17
                ∗ (∃ f, arg19.view.loc (c : Thread nD τ) ↦[arg19.view.set]{fullShare} arg19.view.writes (Elt F) f L.1)
                ∗ (∃ f, arg20.view.loc (c : Thread nD τ) ↦[arg20.view.set]{fullShare} arg20.view.writes (Elt F) f L.2.1)
                ∗ (∃ f, arg21.view.loc (c : Thread nD τ) ↦[arg21.view.set]{fullShare} arg21.view.writes (Elt F) f L.2.2.1)
                ∗ (∃ f, arg22.view.loc (c : Thread nD τ) ↦[arg22.view.set]{fullShare} arg22.view.writes (Elt F) f L.2.2.2)
                ∗ owns (c : Thread nD τ) arg23 fullShare (wide x12)) -∗ K ⟨⟩))
          ⊢ wp frame (wpE (defs₀ (F := F)) Variants.none c none) E (cc0_mix_out i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨⟨?_, ?_, ?_, ?_⟩, fun E K => ?run⟩
  case run =>
    simp only [cc0_mix_out_eq_skeleton]; unfold cc0_mix_out_skel
    simp only [k0_part1_eq_skeleton]; unfold k0_part1_skel
    simp only [dif_pos hc]
    rw [Prog.bind_assoc, wp_bind]
    simp only [k0_part2_eq_skeleton, k0_part3_eq_skeleton, k0_part4_eq_skeleton, k0_part5_eq_skeleton]
    iintro ⟨H0, H1, H2, H3, H4, H5, H6, H7, H8, H9, H10, H11, H12, H13, H14, H15, H16, H17, H18, H19, H20, H21, H22, Hk⟩
    iapply (fill c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x12 hc E _)
    isplitl [H12]; · iexact H12
    isplitl [H22]; · iexact H22
    iintro ⟨H12, H22⟩
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%f10, %hf10, H10⟩
    icases H11 with ⟨%f11, %hf11, H11⟩
    icases H12 with ⟨%f12, %hf12, H12⟩
    icases H13 with ⟨%f13, %hf13, H13⟩
    icases H14 with ⟨%f14, %hf14, H14⟩
    icases H15 with ⟨%f15, %hf15, H15⟩
    icases H16 with ⟨%f16, %hf16, H16⟩
    icases H17 with ⟨%f17, %hf17, H17⟩
    icases H18 with ⟨%d18, %f18, -, H18⟩
    icases H19 with ⟨%d19, %f19, -, H19⟩
    icases H20 with ⟨%d20, %f20, -, H20⟩
    icases H21 with ⟨%d21, %f21, -, H21⟩
    icases H22 with ⟨%f22, %hf22, H22⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg23.eq_unread hf22
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    iexists _; isplitr; · ipureintro; exact harg23.read_unread _
    iexact H22

end Cert.Kernel4Ideal.Mix

end
-- ==== Proof.MixIdeal.Out.lean ====
/- What one grid point stores, as terms of its blocks and the scratch. -/
module

public import proofs.«01_k».proof.Proof.MixIdeal.RunA
public import Idealize.ShloMosaic.Lib.Pipeline.Value

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by funext a; fin_cases a <;> rfl

/-- The first two mixers' share of the mix. -/
def mixL (x1 : Vec F S512x256 .f32) (x2 x3 x4 x5 : Vec F S512x384 .f32) (x6 x7 : Vec F S1x384 .f32) (x17 : Vec F S384x384 .bf16) (W : Vec F S1024x1024 .bf16) : Vec F S512x1024 .f32 :=
  k0_pay6 (k0_pay5 x17 x2 x3 x6 x7 x4 x5) x1 (View.ld W (Rect.unit (s := S1024x1024) ![0, 0] S256x1024.size inb_S1024x1024_S256x1024_0_0)) (View.ld W (Rect.unit (s := S1024x1024) ![256, 0] S384x1024.size inb_S1024x1024_S384x1024_256_0))

/-- The third mixer's rows, normalized by heads and gated. -/
def mixR (x8 x9 x10 : Vec F S512x384 .f32) (x11 : Vec F S1x384 .f32) (x17 : Vec F S384x384 .bf16) : Vec F S512x384 .bf16 :=
  k0_pay7 (k0_pay4 x17) x10 x8 x9 x11

def x1Out (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x13 : Vec F S1x1024 .f32) (x14 : Vec F S1x1024 .f32) (x17 : Vec F S384x384 .bf16) (W : Vec F S1024x1024 .bf16) : Vec F S512x1024 .f32 :=
  k0_pay8 (mixL x1 x2 x3 x4 x5 x6 x7 x17 W) (mixR x8 x9 x10 x11 x17) (View.ld W (Rect.unit (s := S1024x1024) ![640, 0] S384x1024.size inb_S1024x1024_S384x1024_640_0)) x0 x13 x14

def x1pOut (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x13 : Vec F S1x1024 .f32) (x14 : Vec F S1x1024 .f32) (x17 : Vec F S384x384 .bf16) (W : Vec F S1024x1024 .bf16) : Vec F S1024x512 .bf16 :=
  k0_pay11 (k0_pay9 (mixL x1 x2 x3 x4 x5 x6 x7 x17 W) (mixR x8 x9 x10 x11 x17) (View.ld W (Rect.unit (s := S1024x1024) ![640, 0] S384x1024.size inb_S1024x1024_S384x1024_640_0)) x0 x13 x14) (k0_pay10 (mixL x1 x2 x3 x4 x5 x6 x7 x17 W) (mixR x8 x9 x10 x11 x17) (View.ld W (Rect.unit (s := S1024x1024) ![640, 0] S384x1024.size inb_S1024x1024_S384x1024_640_0)) x0 x13 x14)

/-- The experts chosen for each row `y` of the block, transposed. -/
def topiOut (y : Vec F S512x1024 .f32) (x15 : Vec F S1024x128 .f32) (x16 : Vec F S1x128 .f32) : Vec F S8x512 .i32 :=
  k0_pay2 (k0_pay25 (iota .tc S512x128 32 [1] iota_S512x128_d1_w32) (k0_pay15 y x15 x16) (k0_pay16 y x15 x16) (k0_pay17 y x15 x16))

/-- Their gates. -/
def gateOut (y : Vec F S512x1024 .f32) (x15 : Vec F S1024x128 .f32) (x16 : Vec F S1x128 .f32) : Vec F S512x128 .f32 :=
  k0_pay1 (iota .tc S512x128 32 [1] iota_S512x128_d1_w32) (k0_pay13 y x15 x16) (k0_pay18 (k0_pay17 y x15 x16)) (k0_pay21 (iota .tc S512x128 32 [1] iota_S512x128_d1_w32) (k0_pay16 y x15 x16) (k0_pay17 y x15 x16)) (k0_pay24 (iota .tc S512x128 32 [1] iota_S512x128_d1_w32) (k0_pay16 y x15 x16) (k0_pay17 y x15 x16)) (k0_pay26 (k0_pay13 y x15 x16))

def x1Pieces (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x13 : Vec F S1x1024 .f32) (x14 : Vec F S1x1024 .f32) (x17 : Vec F S384x384 .bf16) (W : Vec F S1024x1024 .bf16) : List (View.Piece (Elt F) S512x1024 .f32) :=
  [⟨Rect.unit (s := S512x1024) ![0, 0] S512x1024.size inb_S512x1024_S512x1024_0_0, x1Out x0 x1 x2 x3 x4 x5 x6 x7 x8 x9 x10 x11 x13 x14 x17 W⟩]
def x1pPieces (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x13 : Vec F S1x1024 .f32) (x14 : Vec F S1x1024 .f32) (x17 : Vec F S384x384 .bf16) (W : Vec F S1024x1024 .bf16) : List (View.Piece (Elt F) S1024x512 .bf16) :=
  [⟨Rect.unit (s := S1024x512) ![0, 0] S1024x512.size inb_S1024x512_S1024x512_0_0, x1pOut x0 x1 x2 x3 x4 x5 x6 x7 x8 x9 x10 x11 x13 x14 x17 W⟩]
def topiPieces (y : Vec F S512x1024 .f32) (x15 : Vec F S1024x128 .f32) (x16 : Vec F S1x128 .f32) : List (View.Piece (Elt F) S8x512 .i32) :=
  [⟨Rect.unit (s := S8x512) ![0, 0] S8x512.size inb_S8x512_S8x512_0_0, topiOut y x15 x16⟩]
def gatePieces (y : Vec F S512x1024 .f32) (x15 : Vec F S1024x128 .f32) (x16 : Vec F S1x128 .f32) : List (View.Piece (Elt F) S512x128 .f32) :=
  [⟨Rect.unit (s := S512x128) ![0, 0] S512x128.size inb_S512x128_S512x128_0_0, gateOut y x15 x16⟩]

section

variable (c : Dev nD) (i : grid0.Coords)
  (arg1 : Memref sig .tc .vmem S512x1024 .f32) (harg1 : arg1.IsWhole) (arg2 : Memref sig .tc .vmem S512x256 .f32) (harg2 : arg2.IsWhole)
  (arg3 : Memref sig .tc .vmem S512x384 .f32) (harg3 : arg3.IsWhole) (arg4 : Memref sig .tc .vmem S512x384 .f32) (harg4 : arg4.IsWhole)
  (arg5 : Memref sig .tc .vmem S512x384 .f32) (harg5 : arg5.IsWhole) (arg6 : Memref sig .tc .vmem S512x384 .f32) (harg6 : arg6.IsWhole)
  (arg7 : Memref sig .tc .vmem S1x384 .f32) (harg7 : arg7.IsWhole) (arg8 : Memref sig .tc .vmem S1x384 .f32) (harg8 : arg8.IsWhole)
  (arg9 : Memref sig .tc .vmem S512x384 .f32) (harg9 : arg9.IsWhole) (arg10 : Memref sig .tc .vmem S512x384 .f32) (harg10 : arg10.IsWhole)
  (arg11 : Memref sig .tc .vmem S512x384 .f32) (harg11 : arg11.IsWhole) (arg12 : Memref sig .tc .vmem S1x384 .f32) (harg12 : arg12.IsWhole)
  (arg13 : Memref sig .tc .vmem S1x1024x1024 .f32) (harg13 : arg13.IsWhole) (arg14 : Memref sig .tc .vmem S1x1024 .f32) (harg14 : arg14.IsWhole)
  (arg15 : Memref sig .tc .vmem S1x1024 .f32) (harg15 : arg15.IsWhole) (arg16 : Memref sig .tc .vmem S1024x128 .f32) (harg16 : arg16.IsWhole)
  (arg17 : Memref sig .tc .vmem S1x128 .f32) (harg17 : arg17.IsWhole) (arg18 : Memref sig .tc .vmem S384x384 .bf16) (harg18 : arg18.IsWhole)
  (arg19 : Memref sig .tc .vmem S512x1024 .f32) (harg19 : arg19.IsWhole) (arg20 : Memref sig .tc .vmem S1024x512 .bf16) (harg20 : arg20.IsWhole)
  (arg21 : Memref sig .tc .vmem S8x512 .i32) (harg21 : arg21.IsWhole) (arg22 : Memref sig .tc .vmem S512x128 .f32) (harg22 : arg22.IsWhole)
  (arg23 : Memref sig .tc .vmem S1024x1024 .bf16) (harg23 : arg23.IsWhole)
  (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x12 : Vec F S1x1024x1024 .f32) (x13 : Vec F S1x1024 .f32) (x14 : Vec F S1x1024 .f32) (x15 : Vec F S1024x128 .f32) (x16 : Vec F S1x128 .f32) (x17 : Vec F S384x384 .bf16)

set_option maxHeartbeats 4000000 in
theorem runA_x1 (hc : k0_cond1 i = 1#1) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 hc).1.1 = x1Pieces x0 x1 x2 x3 x4 x5 x6 x7 x8 x9 x10 x11 x13 x14 x17 (wide x12) := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runA_x1p (hc : k0_cond1 i = 1#1) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 hc).1.2.1 = x1pPieces x0 x1 x2 x3 x4 x5 x6 x7 x8 x9 x10 x11 x13 x14 x17 (wide x12) := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runA_topi (hc : k0_cond1 i = 1#1) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 hc).1.2.2.1 = topiPieces (x1Out x0 x1 x2 x3 x4 x5 x6 x7 x8 x9 x10 x11 x13 x14 x17 (wide x12)) x15 x16 := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runA_gate (hc : k0_cond1 i = 1#1) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 hc).1.2.2.2 = gatePieces (x1Out x0 x1 x2 x3 x4 x5 x6 x7 x8 x9 x10 x11 x13 x14 x17 (wide x12)) x15 x16 := by
  unfold runA
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runB_x1 (W : Vec F S1024x1024 .bf16) (hc : ¬ k0_cond1 i = 1#1) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 W hc).1.1 = x1Pieces x0 x1 x2 x3 x4 x5 x6 x7 x8 x9 x10 x11 x13 x14 x17 W := by
  unfold runB
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runB_x1p (W : Vec F S1024x1024 .bf16) (hc : ¬ k0_cond1 i = 1#1) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 W hc).1.2.1 = x1pPieces x0 x1 x2 x3 x4 x5 x6 x7 x8 x9 x10 x11 x13 x14 x17 W := by
  unfold runB
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runB_topi (W : Vec F S1024x1024 .bf16) (hc : ¬ k0_cond1 i = 1#1) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 W hc).1.2.2.1 = topiPieces (x1Out x0 x1 x2 x3 x4 x5 x6 x7 x8 x9 x10 x11 x13 x14 x17 W) x15 x16 := by
  unfold runB
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

set_option maxHeartbeats 4000000 in
theorem runB_gate (W : Vec F S1024x1024 .bf16) (hc : ¬ k0_cond1 i = 1#1) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 W hc).1.2.2.2 = gatePieces (x1Out x0 x1 x2 x3 x4 x5 x6 x7 x8 x9 x10 x11 x13 x14 x17 W) x15 x16 := by
  unfold runB
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg23.read_unread, View.ld_unit_zero (S := S512x1024) zero2, View.ld_unit_zero (S := S512x256) zero2, View.ld_unit_zero (S := S512x384) zero2, View.ld_unit_zero (S := S1x384) zero2, View.ld_unit_zero (S := S1x1024) zero2, View.ld_unit_zero (S := S1024x128) zero2, View.ld_unit_zero (S := S1x128) zero2, View.ld_unit_zero (S := S384x384) zero2]
  rfl

end

theorem read_x1 {κ sp} (v : View sig κ sp S512x1024 .f32) (f) (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x13 : Vec F S1x1024 .f32) (x14 : Vec F S1x1024 .f32) (x17 : Vec F S384x384 .bf16) (W : Vec F S1024x1024 .bf16) :
    v.read (Elt F) (v.writes (Elt F) f (x1Pieces x0 x1 x2 x3 x4 x5 x6 x7 x8 x9 x10 x11 x13 x14 x17 W)) = x1Out x0 x1 x2 x3 x4 x5 x6 x7 x8 x9 x10 x11 x13 x14 x17 W :=
  (View.read_writes_eq_canon v f _ (View.cover_of_tiledL (x1Pieces x0 x1 x2 x3 x4 x5 x6 x7 x8 x9 x10 x11 x13 x14 x17 W) S512x1024.size (by sl_kernel_rfl))).trans (View.canon_unit_zero zero2 _ _)

theorem read_x1p {κ sp} (v : View sig κ sp S1024x512 .bf16) (f) (x0 : Vec F S512x1024 .f32) (x1 : Vec F S512x256 .f32) (x2 : Vec F S512x384 .f32) (x3 : Vec F S512x384 .f32) (x4 : Vec F S512x384 .f32) (x5 : Vec F S512x384 .f32) (x6 : Vec F S1x384 .f32) (x7 : Vec F S1x384 .f32) (x8 : Vec F S512x384 .f32) (x9 : Vec F S512x384 .f32) (x10 : Vec F S512x384 .f32) (x11 : Vec F S1x384 .f32) (x13 : Vec F S1x1024 .f32) (x14 : Vec F S1x1024 .f32) (x17 : Vec F S384x384 .bf16) (W : Vec F S1024x1024 .bf16) :
    v.read (Elt F) (v.writes (Elt F) f (x1pPieces x0 x1 x2 x3 x4 x5 x6 x7 x8 x9 x10 x11 x13 x14 x17 W)) = x1pOut x0 x1 x2 x3 x4 x5 x6 x7 x8 x9 x10 x11 x13 x14 x17 W :=
  (View.read_writes_eq_canon v f _ (View.cover_of_tiledL (x1pPieces x0 x1 x2 x3 x4 x5 x6 x7 x8 x9 x10 x11 x13 x14 x17 W) S1024x512.size (by sl_kernel_rfl))).trans (View.canon_unit_zero zero2 _ _)

theorem read_topi {κ sp} (v : View sig κ sp S8x512 .i32) (f) (y : Vec F S512x1024 .f32) (x15 : Vec F S1024x128 .f32) (x16 : Vec F S1x128 .f32) :
    v.read (Elt F) (v.writes (Elt F) f (topiPieces y x15 x16)) = topiOut y x15 x16 :=
  (View.read_writes_eq_canon v f _ (View.cover_of_tiledL (topiPieces y x15 x16) S8x512.size (by sl_kernel_rfl))).trans (View.canon_unit_zero zero2 _ _)

theorem read_gate {κ sp} (v : View sig κ sp S512x128 .f32) (f) (y : Vec F S512x1024 .f32) (x15 : Vec F S1024x128 .f32) (x16 : Vec F S1x128 .f32) :
    v.read (Elt F) (v.writes (Elt F) f (gatePieces y x15 x16)) = gateOut y x15 x16 :=
  (View.read_writes_eq_canon v f _ (View.cover_of_tiledL (gatePieces y x15 x16) S512x128.size (by sl_kernel_rfl))).trans (View.canon_unit_zero zero2 _ _)

end Cert.Kernel4Ideal.Mix

end
-- ==== Proof.MixIdeal.Frame.lean ====
/- The call as a whole: every execution ends, at what the points store. -/
module

public import proofs.«01_k».proof.Proof.MixIdeal.Out
public import Idealize.ShloMosaic.Lib.Claim

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond_iff : ∀ t : Fin grid0.N, k0_cond1 (grid0.coords t) = 1#1 ↔ t.val = 0 := by decide +kernel

abbrev first0 : Fin cfg0.N := ⟨0, by decide +kernel⟩

/-- The mixing weights are one block, the same at every point. -/
theorem weights_const (c : Dev nD) (t : Fin cfg0.N) : (iblk m c 12 t : Vec F S1x1024x1024 .f32) = iblk m c 12 first0 := rfl

/-- The scratch from the first point on. -/
def scr (c : Dev nD) : Vec F S1024x1024 .bf16 := wide (iblk m c 12 first0)

/-- What is carried from point to point: before the first nothing, from then on the scratch's contents. -/
def carried (c : Dev nD) (k : Nat) : sProp 𝕄 :=
  if k = 0 then Pipeline.ΦA spec0 c
  else iprop(owns (c : Thread nD τ) (Memref.whole cc0_scratch0) fullShare (scr m c) ∗ ∃ r, prngReg c r)

theorem carried_zero (c : Dev nD) : carried m c 0 = Pipeline.ΦA spec0 c := if_pos rfl
theorem carried_pos (c : Dev nD) (k : Nat) (h : k ≠ 0) :
    carried m c k = iprop(owns (c : Thread nD τ) (Memref.whole cc0_scratch0) fullShare (scr m c) ∗ ∃ r, prngReg c r) := if_neg h

def x1Of (c : Dev nD) (t : Fin cfg0.N) : Vec F S512x1024 .f32 :=
  x1Out (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (scr m c)

def x1pOf (c : Dev nD) (t : Fin cfg0.N) : Vec F S1024x512 .bf16 :=
  x1pOut (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (scr m c)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => x1Of m c t
    | ⟨19, _⟩ => x1pOf m c t
    | ⟨20, _⟩ => topiOut (x1Of m c t) (iblk m c 15 t) (iblk m c 16 t)
    | ⟨21, _⟩ => gateOut (x1Of m c t) (iblk m c 15 t) (iblk m c 16 t)
    | ⟨k + 22, h⟩ => absurd h (Nat.not_lt.mpr (Nat.le_add_left 22 k))
  Φ t := carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = iblk m c 4 t := by dsimp only [dats]; try rfl
theorem after0_5 (c : Dev nD) (t : Fin cfg0.N) : (dats m 0 c).after 5 t = iblk m c 5 t := by dsimp only [dats]; try rfl
theorem after0_6 (c : Dev nD) (t : Fin cfg0.N) : (dats m 0 c).after 6 t = iblk m c 6 t := by dsimp only [dats]; try rfl
theorem after0_7 (c : Dev nD) (t : Fin cfg0.N) : (dats m 0 c).after 7 t = iblk m c 7 t := by dsimp only [dats]; try rfl
theorem after0_8 (c : Dev nD) (t : Fin cfg0.N) : (dats m 0 c).after 8 t = iblk m c 8 t := by dsimp only [dats]; try rfl
theorem after0_9 (c : Dev nD) (t : Fin cfg0.N) : (dats m 0 c).after 9 t = iblk m c 9 t := by dsimp only [dats]; try rfl
theorem after0_10 (c : Dev nD) (t : Fin cfg0.N) : (dats m 0 c).after 10 t = X0_10 m c t := by dsimp only [dats]; try rfl
theorem after0_11 (c : Dev nD) (t : Fin cfg0.N) : (dats m 0 c).after 11 t = iblk m c 11 t := by dsimp only [dats]; try rfl
theorem after0_12 (c : Dev nD) (t : Fin cfg0.N) : (dats m 0 c).after 12 t = iblk m c 12 t := by dsimp only [dats]; try rfl
theorem after0_13 (c : Dev nD) (t : Fin cfg0.N) : (dats m 0 c).after 13 t = iblk m c 13 t := by dsimp only [dats]; try rfl
theorem after0_14 (c : Dev nD) (t : Fin cfg0.N) : (dats m 0 c).after 14 t = iblk m c 14 t := by dsimp only [dats]; try rfl
theorem after0_15 (c : Dev nD) (t : Fin cfg0.N) : (dats m 0 c).after 15 t = iblk m c 15 t := by dsimp only [dats]; try rfl
theorem after0_16 (c : Dev nD) (t : Fin cfg0.N) : (dats m 0 c).after 16 t = iblk m c 16 t := by dsimp only [dats]; try rfl
theorem after0_17 (c : Dev nD) (t : Fin cfg0.N) : (dats m 0 c).after 17 t = iblk m c 17 t := by dsimp only [dats]; try rfl
theorem after0_18 (c : Dev nD) (t : Fin cfg0.N) : (dats m 0 c).after 18 t = x1Of m c t := by dsimp only [dats]; try rfl
theorem after0_19 (c : Dev nD) (t : Fin cfg0.N) : (dats m 0 c).after 19 t = x1pOf m c t := by dsimp only [dats]; try rfl
theorem after0_20 (c : Dev nD) (t : Fin cfg0.N) : (dats m 0 c).after 20 t = topiOut (x1Of m c t) (iblk m c 15 t) (iblk m c 16 t) := by dsimp only [dats]; try rfl
theorem after0_21 (c : Dev nD) (t : Fin cfg0.N) : (dats m 0 c).after 21 t = gateOut (x1Of m c t) (iblk m c 15 t) (iblk m c 16 t) := by dsimp only [dats]; try rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = X0_10 m c t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ d, owns (c : Thread nD τ) (win0_19.stage (cfg0.slots t 19)) fullShare ((dats m 0 c).before 19 t d))
    ∗ (∃ d, owns (c : Thread nD τ) (win0_20.stage (cfg0.slots t 20)) fullShare ((dats m 0 c).before 20 t d))
    ∗ (∃ d, owns (c : Thread nD τ) (win0_21.stage (cfg0.slots t 21)) fullShare ((dats m 0 c).before 21 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t)
    ∗ owns (c : Thread nD τ) (win0_19.stage (cfg0.slots t 19)) fullShare ((dats m 0 c).after 19 t)
    ∗ owns (c : Thread nD τ) (win0_20.stage (cfg0.slots t 20)) fullShare ((dats m 0 c).after 20 t)
    ∗ owns (c : Thread nD τ) (win0_21.stage (cfg0.slots t 21)) fullShare ((dats m 0 c).after 21 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = carried m c (t.val + 1) from rfl, show (dats m 0 c).Φ t.castSucc = carried m c t.val from rfl,
    show (dats m 0 c).owesAt () t.succ = (dats m 0 c).owesAt () t.castSucc from rfl,
    carried_pos m c _ (Nat.succ_ne_zero _), after0_0, after0_1, after0_2, after0_3, after0_4, after0_5, after0_6, after0_7, after0_8, after0_9, after0_10, after0_11, after0_12, after0_13, after0_14, after0_15, after0_16, after0_17, after0_18, after0_19, after0_20, after0_21]
  by_cases h0 : k0_cond1 (grid0.coords t) = 1#1
  · rw [show carried m c t.val = Pipeline.ΦA spec0 c from ((cond_iff t).1 h0).symm ▸ carried_zero m c]
    unfold Pipeline.ΦA
    rw [scopedRest0_eq c]
    iintro ⟨⟨⟨%fs, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runA c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 12 t) (iblk m c 13 t) (iblk m c 14 t) (iblk m c 15 t) (iblk m c 16 t) (iblk m c 17 t) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [Hs]; · iexists fs; rw [owns_whole]; iexact Hs
    rw [runA_x1, runA_x1p, runA_topi, runA_gate]
    iintro ⟨H0, H1, H2, H3, H4, H5, H6, H7, H8, H9, H10, H11, H12, H13, H14, H15, H16, H17, ⟨%e18, H18⟩, ⟨%e19, H19⟩, ⟨%e20, H20⟩, ⟨%e21, H21⟩, Hs⟩
    isplitl [Hs Hp]
    · isplitl [Hs]
      · rw [show scr m c = wide (iblk m c 12 t) from rfl]; iexact Hs
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact read_x1 _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (wide (iblk m c 12 t))
    isplitl [H19]
    · unfold owns; iexists _; isplitr
      swap; · iexact H19
      ipureintro; exact read_x1p _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (wide (iblk m c 12 t))
    isplitl [H20]
    · unfold owns; iexists _; isplitr
      swap; · iexact H20
      ipureintro; exact read_topi _ _ (x1Out (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (wide (iblk m c 12 t))) (iblk m c 15 t) (iblk m c 16 t)
    · unfold owns; iexists _; isplitr
      swap; · iexact H21
      ipureintro; exact read_gate _ _ (x1Out (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (wide (iblk m c 12 t))) (iblk m c 15 t) (iblk m c 16 t)
  · rw [carried_pos m c _ fun h => h0 ((cond_iff t).2 h)]
    iintro ⟨⟨Hs, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runB c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 12 t) (iblk m c 13 t) (iblk m c 14 t) (iblk m c 15 t) (iblk m c 16 t) (iblk m c 17 t) (scr m c) h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [Hs]; · iexact Hs
    rw [runB_x1, runB_x1p, runB_topi, runB_gate]
    iintro ⟨H0, H1, H2, H3, H4, H5, H6, H7, H8, H9, H10, H11, H12, H13, H14, H15, H16, H17, ⟨%e18, H18⟩, ⟨%e19, H19⟩, ⟨%e20, H20⟩, ⟨%e21, H21⟩, Hs⟩
    isplitl [Hs Hp]
    · isplitl [Hs]
      · iexact Hs
      iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact read_x1 _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (scr m c)
    isplitl [H19]
    · unfold owns; iexists _; isplitr
      swap; · iexact H19
      ipureintro; exact read_x1p _ _ (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (scr m c)
    isplitl [H20]
    · unfold owns; iexists _; isplitr
      swap; · iexact H20
      ipureintro; exact read_topi _ _ (x1Out (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (scr m c)) (iblk m c 15 t) (iblk m c 16 t)
    · unfold owns; iexists _; isplitr
      swap; · iexact H21
      ipureintro; exact read_gate _ _ (x1Out (iblk m c 0 t) (iblk m c 1 t) (iblk m c 2 t) (iblk m c 3 t) (iblk m c 4 t) (iblk m c 5 t) (iblk m c 6 t) (iblk m c 7 t) (iblk m c 8 t) (iblk m c 9 t) (X0_10 m c t) (iblk m c 11 t) (iblk m c 13 t) (iblk m c 14 t) (iblk m c 17 t) (scr m c)) (iblk m c 15 t) (iblk m c 16 t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦA spec0 c ⊢ (dats (F := F) m 0 c).Φ 0 := by
  rw [show (dats m 0 c).Φ 0 = carried m c 0 from rfl, carried_zero]

theorem leave (c : Dev nD) : (dats (F := F) m 0 c).Φ (Fin.last cfg0.N) ⊢ Pipeline.ΦA spec0 c := by
  rw [show (dats m 0 c).Φ (Fin.last cfg0.N) = carried m c cfg0.N from rfl, carried_pos m c _ (by decide +kernel)]
  unfold Pipeline.ΦA
  rw [scopedRest0_eq c, owns_whole]
  iintro ⟨Hs, Hp⟩
  isplitl [Hs]
  · iexists _; iexact Hs
  iexact Hp

set_option backward.isDefEq.respectTransparency.types false in
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel4Ideal.Mix

end
-- ==== Proof.MixSpec.lean ====
/- What the mixing call computes, row by row, over the extended reals. -/
module

public import proofs.«01_k».proof.Proof.CombineSpec

@[expose] public section

noncomputable section

namespace Cert.MixSpec

open Idealize.ShloMosaic

/-- Column `j` of the head that column `k` lies in. -/
def col (k : Fin 384) (j : Fin 64) : Fin 384 := ⟨k.val / 64 * 64 + j.val, by omega⟩

/-- The mean of a row's entries over the head of column `k`. -/
def headMean (v : Fin 384 → EReal) (k : Fin 384) : EReal := Ideal.div (∑ j : Fin 64, v (col k j)) (Ideal.ofBits .f32 0x42800000#32)

/-- Entry `k` of a row normalized by heads. -/
def headNorm (e : EReal) (v : Fin 384 → EReal) (k : Fin 384) : EReal :=
  (v k - headMean v k) * Ideal.rsqrt (headMean (fun c => (v c - headMean v c) * (v c - headMean v c)) k + e)

/-- The second mixer's row. -/
def second (v g b bonus gate : Fin 384 → EReal) (k : Fin 384) : EReal :=
  (headNorm (Ideal.ofBits .f32 0x3A27C5AC#32) v k * g k + b k + bonus k) * gate k

/-- The third mixer's row. -/
def third (v o g : Fin 384 → EReal) (k : Fin 384) : EReal :=
  Ideal.div (Ideal.ofBits .f32 0x3F800000#32) (Ideal.ofBits .f32 0x3F800000#32 + Ideal.exp (-(o k)))
    * (headNorm (Ideal.ofBits .f32 0x3727C5AC#32) v k * g k)

/-- Three rows side by side against a column of the weights. -/
def mixed (a : Fin 256 → EReal) (p q : Fin 384 → EReal) (w : Fin 1024 → EReal) : EReal :=
  (∑ k : Fin 256, a k * w ⟨k.val, by omega⟩) + (∑ k : Fin 384, p k * w ⟨256 + k.val, by omega⟩)
    + ∑ k : Fin 384, q k * w ⟨640 + k.val, by omega⟩

/-- A row's residual sum. -/
def sum (x : Fin 1024 → EReal) (a : Fin 256 → EReal) (p q : Fin 384 → EReal) (w : Fin 1024 → Fin 1024 → EReal) (d : Fin 1024) : EReal :=
  Ideal.ofBits .f32 0x3FD744FD#32 * x d + mixed a p q (fun k => w k d)

section
variable (x : (⟨2, ![16384, 1024]⟩ : Shape).Idx → EReal) (a : (⟨2, ![16384, 256]⟩ : Shape).Idx → EReal)
  (r0 r1 bonus gate : (⟨2, ![16384, 384]⟩ : Shape).Idx → EReal) (rg rb : (⟨1, ![384]⟩ : Shape).Idx → EReal)
  (h0 h1 : (⟨2, ![16384, 384]⟩ : Shape).Idx → EReal) (pm : (⟨2, ![16384, 1664]⟩ : Shape).Idx → EReal) (mg : (⟨1, ![384]⟩ : Shape).Idx → EReal)
  (w : (⟨3, ![4, 1024, 1024]⟩ : Shape).Idx → EReal) (g b : (⟨1, ![1024]⟩ : Shape).Idx → EReal)

/-- Entry `(r, d)` of the first result. -/
def res (r : Fin 16384) (d : Fin 1024) : EReal :=
  CombineSpec.norm (sum (fun k => x (ix2 r k)) (fun k => a (ix2 r k))
      (second (fun c => r0 (ix2 r c) + r1 (ix2 r c)) (fun c => rg (ix1 c)) (fun c => rb (ix1 c)) (fun c => bonus (ix2 r c)) (fun c => gate (ix2 r c)))
      (third (fun c => h0 (ix2 r c) + h1 (ix2 r c)) (fun c => pm (ix2 r ⟨1152 + c.val, by omega⟩)) (fun c => mg (ix1 c)))
      (fun k d => w (ix3 0 k d)))
    (fun j => g (ix1 j)) (fun j => b (ix1 j)) d

end

/-- A sum over 1024 columns, by the three mixers' columns. -/
theorem sum_cols (f : Fin 1024 → EReal) :
    ∑ k, f k = (∑ k : Fin 256, f ⟨k.val, by omega⟩) + (∑ k : Fin 384, f ⟨256 + k.val, by omega⟩) + ∑ k : Fin 384, f ⟨640 + k.val, by omega⟩ := by
  have e1 := Fin.sum_univ_add (a := 640) (b := 384) f
  have e2 := Fin.sum_univ_add (a := 256) (b := 384) (fun k : Fin 640 => f (Fin.castAdd 384 k))
  exact e1.trans (congrArg₂ (· + ·) e2 rfl)

theorem sixty_four : Ideal.ofBits .f32 0x42800000#32 = ((64 : ℝ) : EReal) := by
  simp [Ideal.ofBits, Ideal.ieee, -EReal.coe_mul]
  norm_num

/-- The table's entry: one over 64 inside a head, zero outside. -/
def share (k c : Fin 384) : EReal := Ideal.div (if k.val / 64 = c.val / 64 then 1 else 0) (Ideal.ofBits .f32 0x42800000#32)

theorem sum_mul_of_nonneg {ι : Type} (s : Finset ι) (f : ι → EReal) (a : EReal) (h0 : 0 ≤ a) (ht : a ≠ ⊤) : ∑ j ∈ s, f j * a = (∑ j ∈ s, f j) * a := by
  classical
  induction s using Finset.induction_on with
  | empty => simp
  | insert j s hj ih => rw [Finset.sum_insert hj, Finset.sum_insert hj, ih, EReal.right_distrib_of_nonneg_of_ne_top h0 ht]

/-- A row against a column of the table is the head's mean. -/
theorem sum_share (v : Fin 384 → EReal) (c : Fin 384) : ∑ k, v k * share k c = headMean v c := by
  have h64 : Ideal.ofBits .f32 0x42800000#32 ≠ 0 := by rw [sixty_four]; exact_mod_cast (by norm_num : (64 : ℝ) ≠ 0)
  have hinv : (Ideal.ofBits .f32 0x42800000#32)⁻¹ = (((64 : ℝ)⁻¹ : ℝ) : EReal) := by rw [sixty_four, EReal.coe_inv]
  unfold headMean
  have e : ∀ k, v k * share k c = if k.val / 64 = c.val / 64 then v k * (Ideal.ofBits .f32 0x42800000#32)⁻¹ else 0 := fun k => by
    unfold share Ideal.div
    rw [if_neg h64]
    by_cases h : k.val / 64 = c.val / 64
    · rw [if_pos h, if_pos h, one_mul]
    · rw [if_neg h, if_neg h, zero_mul, mul_zero]
  rw [Finset.sum_congr rfl fun k _ => e k, ← Finset.sum_filter]
  unfold Ideal.div
  rw [if_neg h64, ← sum_mul_of_nonneg _ _ _ (by rw [hinv]; exact_mod_cast (by norm_num : (0 : ℝ) ≤ (64 : ℝ)⁻¹)) (by rw [hinv]; exact EReal.coe_ne_top _)]
  refine (Finset.sum_bij (fun (j : Fin 64) _ => col c j) (fun j _ => ?_) (fun i _ j _ h => ?_) (fun k hk => ?_) (fun j _ => rfl)).symm
  · rw [Finset.mem_filter]
    refine ⟨Finset.mem_univ _, ?_⟩
    show (c.val / 64 * 64 + j.val) / 64 = c.val / 64
    omega
  · have h' : c.val / 64 * 64 + i.val = c.val / 64 * 64 + j.val := congrArg Fin.val h
    exact Fin.ext (by omega)
  · have h := (Finset.mem_filter.mp hk).2
    refine ⟨⟨k.val % 64, by omega⟩, Finset.mem_univ _, Fin.ext ?_⟩
    show c.val / 64 * 64 + k.val % 64 = k.val
    omega

/-- The mean taken in two parts, the second of what the first leaves. -/
def twoMean (v : Fin 384 → EReal) (c : Fin 384) : EReal := headMean v c + headMean (fun k => v k - v k) c

/-- Not a finite number. -/
def Inf (x : EReal) : Prop := x = ⊤ ∨ x = ⊥

theorem inf_add {x : EReal} (h : Inf x) (y : EReal) : Inf (x + y) := by
  rcases h with rfl | rfl
  · induction y with
    | bot => exact .inr (EReal.add_bot _)
    | top => exact .inl rfl
    | coe r => exact .inl (EReal.top_add_coe r)
  · exact .inr (EReal.bot_add y)

theorem inf_sub (x : EReal) {y : EReal} (h : Inf y) : Inf (x - y) := by
  rw [sub_eq_add_neg, add_comm]
  refine inf_add ?_ x
  rcases h with rfl | rfl
  · exact .inr EReal.neg_top
  · exact .inl EReal.neg_bot

theorem inf_sum {ι : Type} [DecidableEq ι] (s : Finset ι) (f : ι → EReal) (j : ι) (hj : j ∈ s) (h : Inf (f j)) : Inf (∑ i ∈ s, f i) := by
  rw [← Finset.add_sum_erase s f hj]
  exact inf_add h _

theorem inf_sq {x : EReal} (h : Inf x) : x * x = ⊤ := by
  rcases h with rfl | rfl
  · exact EReal.top_mul_top
  · exact EReal.bot_mul_bot

theorem sub_self_of_not_inf {x : EReal} (h : ¬ Inf x) : x - x = 0 := by
  induction x with
  | bot => exact absurd (.inr rfl) h
  | top => exact absurd (.inl rfl) h
  | coe r => rw [← EReal.coe_sub, sub_self]; rfl

theorem div_sixty_four (x : EReal) : Ideal.div x (Ideal.ofBits .f32 0x42800000#32) = x * (((64 : ℝ)⁻¹ : ℝ) : EReal) := by
  unfold Ideal.div
  rw [sixty_four, if_neg (by exact_mod_cast (by norm_num : (64 : ℝ) ≠ 0)), EReal.coe_inv]

theorem headMean_inf (v : Fin 384 → EReal) (k : Fin 384) (j : Fin 64) (h : Inf (v (col k j))) : Inf (headMean v k) := by
  unfold headMean
  rw [div_sixty_four]
  rcases inf_sum Finset.univ (fun j => v (col k j)) j (Finset.mem_univ _) h with e | e
  · rw [e]; exact .inl (EReal.top_mul_coe_of_pos (by norm_num))
  · rw [e]; exact .inr (EReal.bot_mul_coe_of_pos (by norm_num))

theorem headMean_top (v : Fin 384 → EReal) (k : Fin 384) (h : ∀ j, v (col k j) = ⊤) : headMean v k = ⊤ := by
  unfold headMean
  rw [div_sixty_four]
  have e : ∑ j : Fin 64, v (col k j) = ⊤ := by
    rw [← Finset.add_sum_erase Finset.univ (fun j => v (col k j)) (Finset.mem_univ 0), h 0]
    refine EReal.top_add_of_ne_bot ?_
    refine (lt_of_lt_of_le EReal.bot_lt_zero (Finset.sum_nonneg fun j _ => ?_)).ne'
    rw [h j]
    exact le_top
  rw [e]
  exact EReal.top_mul_coe_of_pos (by norm_num)

theorem headMean_congr (u v : Fin 384 → EReal) (k c : Fin 384) (hc : c.val / 64 = k.val / 64) (h : ∀ j, u (col k j) = v (col k j)) : headMean u c = headMean v k := by
  have e : ∀ j, col c j = col k j := fun j => Fin.ext (by show c.val / 64 * 64 + j.val = k.val / 64 * 64 + j.val; rw [hc])
  unfold headMean
  exact congrArg (Ideal.div · _) (Finset.sum_congr rfl fun j _ => by rw [e, h])

theorem col_head (k : Fin 384) (j : Fin 64) : (col k j).val / 64 = k.val / 64 := by
  show (k.val / 64 * 64 + j.val) / 64 = k.val / 64
  omega

/-- A row whose head's mean is infinite is normalized to zero. -/
theorem norm_inf (e : EReal) (he : e ≠ ⊥) (v μ : Fin 384 → EReal) (k : Fin 384) (h : ∀ j, Inf (μ (col k j))) :
    (v k - μ k) * Ideal.rsqrt (headMean (fun c => (v c - μ c) * (v c - μ c)) k + e) = 0 := by
  rw [headMean_top _ k fun j => inf_sq (inf_sub _ (h j)), EReal.top_add_of_ne_bot he]
  exact mul_zero _

/-- With the mean in two parts a row is normalized as with the mean: where an entry of the head is infinite, both are zero. -/
theorem headNorm_two (e : EReal) (he : e ≠ ⊥) (v : Fin 384 → EReal) (k : Fin 384) :
    (v k - twoMean v k) * Ideal.rsqrt (headMean (fun c => (v c - twoMean v c) * (v c - twoMean v c)) k + e) = headNorm e v k := by
  have hk : k = col k ⟨k.val % 64, by omega⟩ := Fin.ext (by show k.val = k.val / 64 * 64 + k.val % 64; omega)
  have same : ∀ j, headMean v (col k j) = headMean v k := fun j => headMean_congr v v k _ (col_head k j) fun _ => rfl
  by_cases h : ∃ j, Inf (v (col k j))
  · obtain ⟨j, hj⟩ := h
    have i : ∀ j, Inf (headMean v (col k j)) := fun i => by rw [same]; exact headMean_inf v k j hj
    rw [norm_inf e he v _ k fun j => inf_add (i j) _]
    exact (norm_inf e he v _ k i).symm
  · have z : ∀ j, v (col k j) - v (col k j) = 0 := fun j => sub_self_of_not_inf fun n => h ⟨j, n⟩
    have two : ∀ j, twoMean v (col k j) = headMean v (col k j) := fun j => by
      unfold twoMean
      rw [headMean_congr (fun c => v c - v c) (fun _ => 0) k _ (col_head k j) z]
      unfold headMean
      rw [div_sixty_four, div_sixty_four]
      simp
    have m : twoMean v k = headMean v k := by rw [hk]; exact two _
    rw [m, headMean_congr (fun c => (v c - twoMean v c) * (v c - twoMean v c)) (fun c => (v c - headMean v c) * (v c - headMean v c)) k k rfl fun j => by rw [two]]
    rfl

theorem eps_second : Ideal.ofBits .f32 0x3A27C5AC#32 ≠ ⊥ := by
  simp [Ideal.ofBits, Ideal.ieee, -EReal.coe_mul]

theorem eps_third : Ideal.ofBits .f32 0x3727C5AC#32 ≠ ⊥ := by
  simp [Ideal.ofBits, Ideal.ieee, -EReal.coe_mul]

end Cert.MixSpec
end
-- ==== Proof.MixIdeal.Host.lean ====
/- The arrays the mixing call takes from the operations before it. -/
module

public import proofs.«01_k».proof.Proof.MixIdeal.Frame
public import proofs.«01_k».proof.Proof.MixSpec
public import Idealize.ShloMosaic.Lib.Pointwise

@[expose] public section

set_option maxRecDepth 16384

noncomputable section

namespace Cert.Kernel4Ideal.Mix

open Cert.Kernel4Ideal.Gen
open Idealize.ShloMosaic Idealize.ShloMosaic.TcCoe Idealize.ShloMosaic.Tactic

/-- The head each column belongs to, as the program computes it. -/
def headOf : IVec S384 32 :=
  select (andi (cmpi .ne (signi (iotaInDim S384 32 0)) (broadcastInDim S384 ![] bcast_S_S384 (signi (constantI S_ 32 64#32))))
      (cmpi .ne (Host.remsi (iotaInDim S384 32 0) (broadcastInDim S384 ![] bcast_S_S384 (constantI S_ 32 64#32))) (broadcastInDim S384 ![] bcast_S_S384 (constantI S_ 32 0#32))))
    (subi (Host.divsi (iotaInDim S384 32 0) (broadcastInDim S384 ![] bcast_S_S384 (constantI S_ 32 64#32))) (broadcastInDim S384 ![] bcast_S_S384 (constantI S_ 32 1#32)))
    (Host.divsi (iotaInDim S384 32 0) (broadcastInDim S384 ![] bcast_S_S384 (constantI S_ 32 64#32)))

theorem headOf_apply (k : Fin 384) : headOf (ix1 k) = BitVec.ofNat 32 (k.val / 64) := by
  have e : ∀ q : Fin 384, headOf (ix1 q) = BitVec.ofNat 32 (q.val / 64) := by decide +kernel
  exact e k

/-- The matrix of the heads' means, as the program computes it. -/
def shares : FVec Ideal S384x384 .bf16 :=
  truncf .bf16 (Host.divf (uitofp (F := Ideal) .f32 (cmpi .eq (broadcastInDim S384x384 ![0, 1] bcast_S384x1_S384x384_0_1 (broadcastInDim S384x1 ![0] bcast_S384_S384x1_0 headOf))
    (broadcastInDim S384x384 ![0, 1] bcast_S1x384_S384x384_0_1 (broadcastInDim S1x384 ![1] bcast_S384_S1x384_1 headOf))))
    (broadcastInDim S384x384 ![] bcast_S_S384x384 (constant (F := Ideal) S_ .f32 0x42800000#32))) bitsLt_bf16_f32

theorem shares_at (k c : Fin 384) :
    shares (ix2 k c) = Ideal.div (((BitVec.ofBool (headOf (ix1 k) == headOf (ix1 c))).toNat : ℝ) : EReal) (Ideal.ofBits .f32 0x42800000#32) := by
  have rows : broadcastInDim S384x384 ![0, 1] bcast_S384x1_S384x384_0_1 (broadcastInDim S384x1 ![0] bcast_S384_S384x1_0 headOf) (ix2 k c) = headOf (ix1 k) := by
    generalize headOf = h
    pointwise
  have cols : broadcastInDim S384x384 ![0, 1] bcast_S1x384_S384x384_0_1 (broadcastInDim S1x384 ![1] bcast_S384_S1x384_1 headOf) (ix2 k c) = headOf (ix1 c) := by
    generalize headOf = h
    pointwise
  rw [← rows, ← cols]
  rfl

theorem shares_apply (k c : Fin 384) : shares (ix2 k c) = MixSpec.share k c := by
  rw [shares_at, headOf_apply, headOf_apply]
  unfold MixSpec.share
  by_cases h : k.val / 64 = c.val / 64
  · rw [if_pos h, h]; simp
  · have n : (BitVec.ofNat 32 (k.val / 64) == BitVec.ofNat 32 (c.val / 64)) = false := by
      rw [beq_eq_false_iff_ne]
      intro e
      have e' := congrArg BitVec.toNat e
      rw [BitVec.toNat_ofNat, BitVec.toNat_ofNat] at e'
      omega
    rw [if_neg h, n]; simp

variable (m : (ℓ : Loc nD τ sig) → Buf (Elt Ideal) ℓ) (c : Dev nD)

theorem V_main_v8 : V m c main_v8 = shapeCast S1x384 (m ((c : Thread nD τ).loc main_arg6)) shapeCasts_S384_S1x384 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl
theorem V_main_v9 : V m c main_v9 = shapeCast S1x384 (m ((c : Thread nD τ).loc main_arg7)) shapeCasts_S384_S1x384 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl
theorem V_main_v10 : V m c main_v10 = shapeCast S1x384 (m ((c : Thread nD τ).loc main_arg11)) shapeCasts_S384_S1x384 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl
theorem V_main_v11 : V m c main_v11 = shapeCast S1x1024 (m ((c : Thread nD τ).loc main_arg13)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl
theorem V_main_v12 : V m c main_v12 = shapeCast S1x1024 (m ((c : Thread nD τ).loc main_arg14)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl
theorem V_main_v23 : V m c main_v23 = shares := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

end Cert.Kernel4Ideal.Mix
end
-- ==== Proof.MixIdeal.Tile.lean ====
/- The blocks a point of the mixing call writes, read at an index. -/
module

public import proofs.«01_k».proof.Proof.MixIdeal.Out
public import proofs.«01_k».proof.Proof.MixSpec
public import proofs.«01_k».proof.Proof.CombineIdeal.Tile

@[expose] public section

set_option maxRecDepth 8192

noncomputable section

namespace Cert.Kernel4Ideal.Mix

open Cert.Kernel4Ideal.Gen
open Idealize.ShloMosaic

/-- The heads' means, in two parts. -/
def headMeans (B : FVec Ideal S384x384 .bf16) (v : FVec Ideal S512x384 .f32) : FVec Ideal S512x384 .f32 :=
  addf (matmul dot_S512x384_S384x384_S512x384_1_0_0_1_n_n none (truncf .bf16 v bitsLt_bf16_f32) B (constant S512x384 .f32 0x00000000#32))
    (matmul dot_S512x384_S384x384_S512x384_1_0_0_1_n_n none
      (truncf .bf16 (subf v (extf .f32 (truncf .bf16 v bitsLt_bf16_f32) bitsLt_bf16_f32)) bitsLt_bf16_f32) B (constant S512x384 .f32 0x00000000#32))

/-- The rows with their heads' means taken off. -/
def headCentred (B : FVec Ideal S384x384 .bf16) (v : FVec Ideal S512x384 .f32) : FVec Ideal S512x384 .f32 := subf v (headMeans B v)

/-- The heads' mean squares. -/
def headSquares (B : FVec Ideal S384x384 .bf16) (d : FVec Ideal S512x384 .f32) : FVec Ideal S512x384 .f32 :=
  matmul dot_S512x384_S384x384_S512x384_1_0_0_1_n_n none (truncf .bf16 (mulf d d) bitsLt_bf16_f32) B (constant S512x384 .f32 0x00000000#32)

/-- The rows normalized by heads. -/
def headNormed (e : BitVec 32) (B : FVec Ideal S384x384 .bf16) (v : FVec Ideal S512x384 .f32) : FVec Ideal S512x384 .f32 :=
  mulf (headCentred B v) (rsqrt (addf (headSquares B (headCentred B v)) (broadcast S512x384 (Scalar.ofBits .f32 e : Ideal .f32))))

theorem pay5_eq (B : Vec Ideal S384x384 .bf16) (u v : Vec Ideal S512x384 .f32) (g b : Vec Ideal S1x384 .f32) (bonus gate : Vec Ideal S512x384 .f32) :
    k0_pay5 (F := Ideal) B u v g b bonus gate
      = mulf (addf (addf (mulf (headNormed 0x3A27C5AC#32 (k0_pay4 (F := Ideal) B) (addf u v))
          (broadcastTo S512x384 (shapeCast S1x384 g shapeCasts_S1x384_S1x384) broadcasts_S1x384_S512x384))
          (broadcastTo S512x384 (shapeCast S1x384 b shapeCasts_S1x384_S1x384) broadcasts_S1x384_S512x384)) bonus) gate := rfl

theorem pay7_eq (B : FVec Ideal S384x384 .bf16) (o u v : Vec Ideal S512x384 .f32) (g : Vec Ideal S1x384 .f32) :
    k0_pay7 (F := Ideal) B o u v g
      = truncf .bf16 (mulf (divf (broadcast S512x384 (Scalar.ofBits .f32 0x3F800000#32 : Ideal .f32))
          (addf (broadcast S512x384 (Scalar.ofBits .f32 0x3F800000#32 : Ideal .f32)) (exp (subf (broadcast S512x384 (Scalar.ofBits .f32 0x00000000#32 : Ideal .f32)) o))))
        (mulf (headNormed 0x3727C5AC#32 B (addf u v)) (broadcastTo S512x384 (shapeCast S1x384 g shapeCasts_S1x384_S1x384) broadcasts_S1x384_S512x384))) bitsLt_bf16_f32 := rfl

theorem pay4_eq (B : Vec Ideal S384x384 .bf16) : k0_pay4 (F := Ideal) B = B := shapeCast_self _ _

section
variable (B : FVec Ideal S384x384 .bf16) (hB : ∀ k c : Fin 384, B (ix2 k c) = MixSpec.share k c) (v : FVec Ideal S512x384 .f32)

theorem headMeans_dot (r : Fin 512) (c : Fin 384) :
    headMeans B v (ix2 r c) = (∑ k : Fin 384, v (ix2 r k) * B (ix2 k c)) + ∑ k : Fin 384, (v (ix2 r k) - v (ix2 r k)) * B (ix2 k c) := by
  pointwise [headMeans]

include hB in
theorem headMeans_apply (r : Fin 512) (c : Fin 384) : headMeans B v (ix2 r c) = MixSpec.twoMean (fun k => v (ix2 r k)) c := by
  rw [headMeans_dot]
  simp only [hB]
  exact congrArg₂ (· + ·) (MixSpec.sum_share (fun k => v (ix2 r k)) c) (MixSpec.sum_share (fun k => v (ix2 r k) - v (ix2 r k)) c)

include hB in
theorem headCentred_apply (r : Fin 512) (c : Fin 384) :
    headCentred B v (ix2 r c) = v (ix2 r c) - MixSpec.twoMean (fun k => v (ix2 r k)) c := by
  rw [← headMeans_apply B hB v]
  rfl

theorem headSquares_dot (d : FVec Ideal S512x384 .f32) (r : Fin 512) (c : Fin 384) :
    headSquares B d (ix2 r c) = ∑ k : Fin 384, (d (ix2 r k) * d (ix2 r k)) * B (ix2 k c) := by
  pointwise [headSquares]

include hB in
theorem headNormed_apply (e : BitVec 32) (he : Ideal.ofBits .f32 e ≠ ⊥) (r : Fin 512) (c : Fin 384) :
    headNormed e B v (ix2 r c) = MixSpec.headNorm (Ideal.ofBits .f32 e) (fun k => v (ix2 r k)) c := by
  show headCentred B v (ix2 r c) * Ideal.rsqrt (headSquares B (headCentred B v) (ix2 r c) + Ideal.ofBits .f32 e) = _
  rw [headSquares_dot]
  simp only [hB, headCentred_apply B hB v]
  rw [MixSpec.sum_share (fun k => (v (ix2 r k) - MixSpec.twoMean (fun k => v (ix2 r k)) k) * (v (ix2 r k) - MixSpec.twoMean (fun k => v (ix2 r k)) k))]
  exact MixSpec.headNorm_two _ he (fun k => v (ix2 r k)) c

end

/-- A vector along every row. -/
def along (g : FVec Ideal S1x384 .f32) : FVec Ideal S512x384 .f32 :=
  broadcastTo S512x384 (shapeCast S1x384 g shapeCasts_S1x384_S1x384) broadcasts_S1x384_S512x384

theorem along_apply (g : FVec Ideal S1x384 .f32) (r : Fin 512) (k : Fin 384) : along g (ix2 r k) = g (ix2 0 k) := by
  pointwise [along]

section
variable (B : Vec Ideal S384x384 .bf16) (hB : ∀ k c : Fin 384, B (ix2 k c) = MixSpec.share k c)
  (u v : Vec Ideal S512x384 .f32)

include hB in
theorem pay5_apply (g b : Vec Ideal S1x384 .f32) (bonus gate : Vec Ideal S512x384 .f32) (r : Fin 512) (k : Fin 384) :
    k0_pay5 (F := Ideal) B u v g b bonus gate (ix2 r k)
      = MixSpec.second (fun c => u (ix2 r c) + v (ix2 r c)) (fun c => g (ix2 0 c)) (fun c => b (ix2 0 c)) (fun c => bonus (ix2 r c)) (fun c => gate (ix2 r c)) k := by
  have e := headNormed_apply B hB (addf (F := Ideal) (φ := .f32) u v) 0x3A27C5AC#32 MixSpec.eps_second r k
  rw [pay5_eq, pay4_eq]
  show (headNormed 0x3A27C5AC#32 B (addf (F := Ideal) (φ := .f32) u v) (ix2 r k) * along g (ix2 r k) + along b (ix2 r k) + bonus (ix2 r k)) * gate (ix2 r k) = _
  rw [e, along_apply, along_apply]
  rfl

include hB in
theorem pay7_apply (o : Vec Ideal S512x384 .f32) (g : Vec Ideal S1x384 .f32) (r : Fin 512) (k : Fin 384) :
    k0_pay7 (F := Ideal) B o u v g (ix2 r k)
      = MixSpec.third (fun c => u (ix2 r c) + v (ix2 r c)) (fun c => o (ix2 r c)) (fun c => g (ix2 0 c)) k := by
  have e := headNormed_apply B hB (addf (F := Ideal) (φ := .f32) u v) 0x3727C5AC#32 MixSpec.eps_third r k
  have z : (Ideal.ofBits .f32 0x00000000#32 : EReal) - o (ix2 r k) = -(o (ix2 r k)) := by rw [Ideal.ofBits_zero_f32, zero_sub]
  rw [pay7_eq]
  show Ideal.div (Ideal.ofBits .f32 0x3F800000#32) (Ideal.ofBits .f32 0x3F800000#32 + Ideal.exp (Ideal.ofBits .f32 0x00000000#32 - o (ix2 r k)))
      * (headNormed 0x3727C5AC#32 B (addf (F := Ideal) (φ := .f32) u v) (ix2 r k) * along g (ix2 r k)) = _
  rw [e, along_apply, z]
  rfl

end

theorem pay3_apply (x : Vec Ideal S1x128x1024 .f32) (k : Fin 128) (n : Fin 1024) : k0_pay3 (F := Ideal) x (ix2 k n) = x (ix3 0 k n) := by
  pointwise [k0_pay3]

/-- The scratch holds the weights. -/
theorem wide_apply (x12 : Vec Ideal S1x1024x1024 .f32) (k n : Fin 1024) : wide (F := Ideal) x12 (ix2 k n) = x12 (ix3 0 k n) := by
  have hk : 128 * (k.val / 128) + k.val % 128 = k.val := Nat.div_add_mod _ _
  unfold wide
  refine (pay3_apply _ _ _).trans ?_
  exact congrArg x12 (congrArg (fun q => ix3 (0 : Fin 1) q n) (Fin.ext hk))

theorem pay6_apply (y : FVec Ideal S512x384 .f32) (a : Vec Ideal S512x256 .f32) (W0 : Vec Ideal S256x1024 .bf16) (W1 : Vec Ideal S384x1024 .bf16)
    (r : Fin 512) (d : Fin 1024) :
    k0_pay6 (F := Ideal) y a W0 W1 (ix2 r d) = (∑ k : Fin 256, a (ix2 r k) * W0 (ix2 k d)) + ∑ k : Fin 384, y (ix2 r k) * W1 (ix2 k d) := by
  pointwise [k0_pay6]

/-- The residual sums. -/
def sums (p : FVec Ideal S512x1024 .f32) (q : FVec Ideal S512x384 .bf16) (W : FVec Ideal S384x1024 .bf16) (x : FVec Ideal S512x1024 .f32) : FVec Ideal S512x1024 .f32 :=
  addf (mulf (broadcast S512x1024 (Scalar.ofBits .f32 0x3FD744FD#32 : Ideal .f32)) x)
    (addf p (matmul dot_S512x384_S384x1024_S512x1024_1_0_0_1_n_n none q W (constant S512x1024 .f32 0x00000000#32)))

theorem sums_dot (p : FVec Ideal S512x1024 .f32) (q : FVec Ideal S512x384 .bf16) (W : FVec Ideal S384x1024 .bf16) (x : FVec Ideal S512x1024 .f32) (r : Fin 512) (d : Fin 1024) :
    sums p q W x (ix2 r d) = Ideal.ofBits .f32 0x3FD744FD#32 * x (ix2 r d) + (p (ix2 r d) + ∑ k : Fin 384, q (ix2 r k) * W (ix2 k d)) := by
  pointwise [sums]

theorem pay8_eq (p : FVec Ideal S512x1024 .f32) (q : FVec Ideal S512x384 .bf16) (W : Vec Ideal S384x1024 .bf16) (x : Vec Ideal S512x1024 .f32) (g b : Vec Ideal S1x1024 .f32) :
    k0_pay8 (F := Ideal) p q W x g b = Cert.Kernel3Ideal.Combine.normed (sums p q W x) g b := rfl

section
variable (x0 : Vec Ideal S512x1024 .f32) (x1 : Vec Ideal S512x256 .f32) (x2 x3 x4 x5 : Vec Ideal S512x384 .f32) (x6 x7 : Vec Ideal S1x384 .f32)
  (x8 x9 x10 : Vec Ideal S512x384 .f32) (x11 : Vec Ideal S1x384 .f32) (x13 x14 : Vec Ideal S1x1024 .f32) (x17 : Vec Ideal S384x384 .bf16) (W : Vec Ideal S1024x1024 .bf16)
  (hB : ∀ k c : Fin 384, x17 (ix2 k c) = MixSpec.share k c)

include hB in
/-- The point's residual sums, of its blocks. -/
theorem sums_apply (r : Fin 512) (d : Fin 1024) :
    sums (mixL (F := Ideal) x1 x2 x3 x4 x5 x6 x7 x17 W) (mixR (F := Ideal) x8 x9 x10 x11 x17)
        (View.ld W (Rect.unit (s := S1024x1024) ![640, 0] S384x1024.size inb_S1024x1024_S384x1024_640_0)) x0 (ix2 r d)
      = MixSpec.sum (fun k => x0 (ix2 r k)) (fun k => x1 (ix2 r k))
        (MixSpec.second (fun c => x2 (ix2 r c) + x3 (ix2 r c)) (fun c => x6 (ix2 0 c)) (fun c => x7 (ix2 0 c)) (fun c => x4 (ix2 r c)) (fun c => x5 (ix2 r c)))
        (MixSpec.third (fun c => x8 (ix2 r c) + x9 (ix2 r c)) (fun c => x10 (ix2 r c)) (fun c => x11 (ix2 0 c)))
        (fun k d => W (ix2 k d)) d := by
  have w0 : ∀ k : Fin 256, View.ld W (Rect.unit (s := S1024x1024) ![0, 0] S256x1024.size inb_S1024x1024_S256x1024_0_0) (ix2 k d) = W (ix2 ⟨k.val, by omega⟩ d) := fun k =>
    View.ld_unit_apply_of W _ _ _ _ _ fun a => by match a with | ⟨0, _⟩ => exact (Nat.zero_add _).symm | ⟨1, _⟩ => exact (Nat.zero_add _).symm
  have w1 : ∀ k : Fin 384, View.ld W (Rect.unit (s := S1024x1024) ![256, 0] S384x1024.size inb_S1024x1024_S384x1024_256_0) (ix2 k d) = W (ix2 ⟨256 + k.val, by omega⟩ d) := fun k =>
    View.ld_unit_apply_of W _ _ _ _ _ fun a => by match a with | ⟨0, _⟩ => rfl | ⟨1, _⟩ => exact (Nat.zero_add _).symm
  have w2 : ∀ k : Fin 384, View.ld W (Rect.unit (s := S1024x1024) ![640, 0] S384x1024.size inb_S1024x1024_S384x1024_640_0) (ix2 k d) = W (ix2 ⟨640 + k.val, by omega⟩ d) := fun k =>
    View.ld_unit_apply_of W _ _ _ _ _ fun a => by match a with | ⟨0, _⟩ => rfl | ⟨1, _⟩ => exact (Nat.zero_add _).symm
  rw [sums_dot]
  unfold mixL mixR
  rw [pay6_apply, pay4_eq]
  simp only [w0, w1, w2, pay5_apply x17 hB x2 x3, pay7_apply x17 hB x8 x9]
  rfl

include hB in
/-- The point's block of the first result, of its blocks. -/
theorem x1Out_apply (r : Fin 512) (d : Fin 1024) :
    x1Out (F := Ideal) x0 x1 x2 x3 x4 x5 x6 x7 x8 x9 x10 x11 x13 x14 x17 W (ix2 r d)
      = CombineSpec.norm (MixSpec.sum (fun k => x0 (ix2 r k)) (fun k => x1 (ix2 r k))
        (MixSpec.second (fun c => x2 (ix2 r c) + x3 (ix2 r c)) (fun c => x6 (ix2 0 c)) (fun c => x7 (ix2 0 c)) (fun c => x4 (ix2 r c)) (fun c => x5 (ix2 r c)))
        (MixSpec.third (fun c => x8 (ix2 r c) + x9 (ix2 r c)) (fun c => x10 (ix2 r c)) (fun c => x11 (ix2 0 c)))
        (fun k d => W (ix2 k d))) (fun j => x13 (ix2 0 j)) (fun j => x14 (ix2 0 j)) d := by
  unfold x1Out
  rw [pay8_eq, Cert.Kernel3Ideal.Combine.normed_apply]
  simp only [sums_apply x0 x1 x2 x3 x4 x5 x6 x7 x8 x9 x10 x11 x17 W hB]

/-- The point's block of the second result: the rows of the first, left half and right half by turns. -/
theorem x1pOut_apply (i : Fin 1024) (n : Fin 512) :
    x1pOut (F := Ideal) x0 x1 x2 x3 x4 x5 x6 x7 x8 x9 x10 x11 x13 x14 x17 W (ix2 i n)
      = x1Out (F := Ideal) x0 x1 x2 x3 x4 x5 x6 x7 x8 x9 x10 x11 x13 x14 x17 W (ix2 ⟨i.val / 2, by omega⟩ ⟨i.val % 2 * 512 + n.val, by omega⟩) := by
  have turn : ∀ lo hi : FVec Ideal S512x512 .bf16, interleaveRows S1024x512 lo hi bitcasts_S1024x512_w16_S512x512_w32 (ix2 i n)
      = if i.val % 2 = 0 then lo (ix2 ⟨i.val / 2, by omega⟩ n) else hi (ix2 ⟨i.val / 2, by omega⟩ n) := fun lo hi => by
    unfold interleaveRows
    dsimp only
    have e : ∀ f : S512x512.Idx, (f 0).val = i.val / 2 → (f 1).val = n.val → f = ix2 ⟨i.val / 2, by omega⟩ n := fun f a b =>
      (eq_ix2 f).trans (congrArg₂ (fun (p q : Fin 512) => ix2 p q) (Fin.ext a) (Fin.ext b))
    have row : S1024x512.row (ix2 i n) = i.val := rfl
    rw [row]
    congr 1
    · exact congrArg lo (e _ rfl rfl)
    · exact congrArg hi (e _ rfl rfl)
  unfold x1pOut x1Out k0_pay11 k0_pay9 k0_pay10
  generalize k0_pay8 (F := Ideal) _ _ _ x0 x13 x14 = u
  refine (turn _ _).trans ?_
  have same : ∀ p q : Fin 1024, p.val = q.val → u (ix2 (⟨i.val / 2, by omega⟩ : Fin 512) p) = u (ix2 ⟨i.val / 2, by omega⟩ q) := fun p q e => by
    rw [Fin.ext e]
  have left : extractStridedSlice S512x512 ![0, 0] u slices_S512x1024_o0_0_S512x512 (ix2 ⟨i.val / 2, by omega⟩ n) = u (ix2 ⟨i.val / 2, by omega⟩ ⟨n.val, by omega⟩) := by
    pointwise
  have right : extractStridedSlice S512x512 ![0, 512] u slices_S512x1024_o0_512_S512x512 (ix2 ⟨i.val / 2, by omega⟩ n) = u (ix2 ⟨i.val / 2, by omega⟩ ⟨512 + n.val, by omega⟩) := by
    pointwise
  by_cases h : i.val % 2 = 0
  · rw [if_pos h]
    refine Eq.trans left (same _ _ ?_)
    show n.val = i.val % 2 * 512 + n.val
    omega
  · rw [if_neg h]
    refine Eq.trans right (same _ _ ?_)
    show 512 + n.val = i.val % 2 * 512 + n.val
    omega

end

end Cert.Kernel4Ideal.Mix
end
-- ==== Proof.MixIdeal.Value.lean ====
/- The arrays the mixing call leaves, entry by entry. -/
module

public import proofs.«01_k».proof.Proof.MixIdeal.Host
public import proofs.«01_k».proof.Proof.MixIdeal.Tile

@[expose] public section

set_option maxRecDepth 16384

noncomputable section

namespace Cert.Kernel4Ideal.Mix

open Cert.Kernel4Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem pt_val (t : Fin cfg0.N) : (grid0.coords t 0).val = t.val := by
  have e : ∀ s : Fin grid0.N, (grid0.coords s 0).val = s.val := by decide +kernel
  exact e t

theorem pt_lt (t : Fin cfg0.N) : t.val < 32 := t.isLt.trans_eq N_0

theorem word_toNat (i : grid0.Coords) : (BitVec.ofNat 32 (i 0).val).toNat = (i 0).val := by
  rw [BitVec.toNat_ofNat]
  have := (i 0).isLt
  have h : grid0.bound 0 = 32 := rfl
  omega

variable (t : Fin cfg0.N)

theorem blk0_at (r : Fin 512) (k : Fin 1024) :
    iblk m c 0 t (ix2 r k) = m ((c : Thread nD τ).loc main_arg0) (ix2 ⟨t.val * 512 + r.val, by have := pt_lt t; omega⟩ k) := by
  rw [← V_main_arg0 m c]
  show V m c main_arg0 (((cfg0.win 0).rect t).emb (ix2 r k)) = V m c main_arg0 _
  congr 1
  funext a
  refine Fin.ext ((Window.rect_emb_val (cfg0.win 0) t (ix2 r k) a).trans ?_)
  match a with
  | ⟨0, _⟩ =>
    show (BitVec.ofNat 32 (grid0.coords t 0).val).toNat * 512 + r.val = _
    rw [word_toNat, pt_val]; rfl
  | ⟨1, _⟩ => show 0 * 1024 + k.val = k.val; omega

theorem blk1_at (r : Fin 512) (k : Fin 256) :
    iblk m c 1 t (ix2 r k) = m ((c : Thread nD τ).loc main_arg1) (ix2 ⟨t.val * 512 + r.val, by have := pt_lt t; omega⟩ k) := by
  rw [← V_main_arg1 m c]
  show V m c main_arg1 (((cfg0.win 1).rect t).emb (ix2 r k)) = V m c main_arg1 _
  congr 1
  funext a
  refine Fin.ext ((Window.rect_emb_val (cfg0.win 1) t (ix2 r k) a).trans ?_)
  match a with
  | ⟨0, _⟩ =>
    show (BitVec.ofNat 32 (grid0.coords t 0).val).toNat * 512 + r.val = _
    rw [word_toNat, pt_val]; rfl
  | ⟨1, _⟩ => show 0 * 256 + k.val = k.val; omega

theorem blk2_at (r : Fin 512) (k : Fin 384) :
    iblk m c 2 t (ix2 r k) = m ((c : Thread nD τ).loc main_arg2) (ix2 ⟨t.val * 512 + r.val, by have := pt_lt t; omega⟩ k) := by
  rw [← V_main_arg2 m c]
  show V m c main_arg2 (((cfg0.win 2).rect t).emb (ix2 r k)) = V m c main_arg2 _
  congr 1
  funext a
  refine Fin.ext ((Window.rect_emb_val (cfg0.win 2) t (ix2 r k) a).trans ?_)
  match a with
  | ⟨0, _⟩ =>
    show (BitVec.ofNat 32 (grid0.coords t 0).val).toNat * 512 + r.val = _
    rw [word_toNat, pt_val]; rfl
  | ⟨1, _⟩ => show 0 * 384 + k.val = k.val; omega

theorem blk3_at (r : Fin 512) (k : Fin 384) :
    iblk m c 3 t (ix2 r k) = m ((c : Thread nD τ).loc main_arg3) (ix2 ⟨t.val * 512 + r.val, by have := pt_lt t; omega⟩ k) := by
  rw [← V_main_arg3 m c]
  show V m c main_arg3 (((cfg0.win 3).rect t).emb (ix2 r k)) = V m c main_arg3 _
  congr 1
  funext a
  refine Fin.ext ((Window.rect_emb_val (cfg0.win 3) t (ix2 r k) a).trans ?_)
  match a with
  | ⟨0, _⟩ =>
    show (BitVec.ofNat 32 (grid0.coords t 0).val).toNat * 512 + r.val = _
    rw [word_toNat, pt_val]; rfl
  | ⟨1, _⟩ => show 0 * 384 + k.val = k.val; omega

theorem blk4_at (r : Fin 512) (k : Fin 384) :
    iblk m c 4 t (ix2 r k) = m ((c : Thread nD τ).loc main_arg4) (ix2 ⟨t.val * 512 + r.val, by have := pt_lt t; omega⟩ k) := by
  rw [← V_main_arg4 m c]
  show V m c main_arg4 (((cfg0.win 4).rect t).emb (ix2 r k)) = V m c main_arg4 _
  congr 1
  funext a
  refine Fin.ext ((Window.rect_emb_val (cfg0.win 4) t (ix2 r k) a).trans ?_)
  match a with
  | ⟨0, _⟩ =>
    show (BitVec.ofNat 32 (grid0.coords t 0).val).toNat * 512 + r.val = _
    rw [word_toNat, pt_val]; rfl
  | ⟨1, _⟩ => show 0 * 384 + k.val = k.val; omega

theorem blk5_at (r : Fin 512) (k : Fin 384) :
    iblk m c 5 t (ix2 r k) = m ((c : Thread nD τ).loc main_arg5) (ix2 ⟨t.val * 512 + r.val, by have := pt_lt t; omega⟩ k) := by
  rw [← V_main_arg5 m c]
  show V m c main_arg5 (((cfg0.win 5).rect t).emb (ix2 r k)) = V m c main_arg5 _
  congr 1
  funext a
  refine Fin.ext ((Window.rect_emb_val (cfg0.win 5) t (ix2 r k) a).trans ?_)
  match a with
  | ⟨0, _⟩ =>
    show (BitVec.ofNat 32 (grid0.coords t 0).val).toNat * 512 + r.val = _
    rw [word_toNat, pt_val]; rfl
  | ⟨1, _⟩ => show 0 * 384 + k.val = k.val; omega

theorem blk8_at (r : Fin 512) (k : Fin 384) :
    iblk m c 8 t (ix2 r k) = m ((c : Thread nD τ).loc main_arg8) (ix2 ⟨t.val * 512 + r.val, by have := pt_lt t; omega⟩ k) := by
  rw [← V_main_arg8 m c]
  show V m c main_arg8 (((cfg0.win 8).rect t).emb (ix2 r k)) = V m c main_arg8 _
  congr 1
  funext a
  refine Fin.ext ((Window.rect_emb_val (cfg0.win 8) t (ix2 r k) a).trans ?_)
  match a with
  | ⟨0, _⟩ =>
    show (BitVec.ofNat 32 (grid0.coords t 0).val).toNat * 512 + r.val = _
    rw [word_toNat, pt_val]; rfl
  | ⟨1, _⟩ => show 0 * 384 + k.val = k.val; omega

theorem blk9_at (r : Fin 512) (k : Fin 384) :
    iblk m c 9 t (ix2 r k) = m ((c : Thread nD τ).loc main_arg9) (ix2 ⟨t.val * 512 + r.val, by have := pt_lt t; omega⟩ k) := by
  rw [← V_main_arg9 m c]
  show V m c main_arg9 (((cfg0.win 9).rect t).emb (ix2 r k)) = V m c main_arg9 _
  congr 1
  funext a
  refine Fin.ext ((Window.rect_emb_val (cfg0.win 9) t (ix2 r k) a).trans ?_)
  match a with
  | ⟨0, _⟩ =>
    show (BitVec.ofNat 32 (grid0.coords t 0).val).toNat * 512 + r.val = _
    rw [word_toNat, pt_val]; rfl
  | ⟨1, _⟩ => show 0 * 384 + k.val = k.val; omega

theorem blk10_at (r : Fin 512) (k : Fin 384) :
    X0_10 m c t (ix2 r k) = m ((c : Thread nD τ).loc main_arg10) (ix2 ⟨t.val * 512 + r.val, by have := pt_lt t; omega⟩ ⟨1152 + k.val, by omega⟩) := by
  rw [← V_main_arg10 m c]
  unfold X0_10 Pipeline.Window.fill
  rw [dif_pos (moved0_10 t _)]
  show V m c main_arg10 (((cfg0.win 10).rect t).emb _) = V m c main_arg10 _
  congr 1
  funext a
  refine Fin.ext ((Window.rect_emb_val (cfg0.win 10) t _ a).trans ?_)
  match a with
  | ⟨0, _⟩ =>
    show (BitVec.ofNat 32 (grid0.coords t 0).val).toNat * 512 + r.val = _
    rw [word_toNat, pt_val]; rfl
  | ⟨1, _⟩ => show 3 * 384 + k.val = 1152 + k.val; omega

theorem blk12_at (k n : Fin 1024) : iblk m c 12 t (ix3 0 k n) = m ((c : Thread nD τ).loc main_arg12) (ix3 0 k n) := by
  rw [← V_main_arg12 m c]
  show V m c main_arg12 (((cfg0.win 12).rect t).emb (ix3 0 k n)) = V m c main_arg12 _
  congr 1
  funext a
  refine Fin.ext ((Window.rect_emb_val (cfg0.win 12) t (ix3 0 k n) a).trans ?_)
  match a with
  | ⟨0, _⟩ => rfl
  | ⟨1, _⟩ => show 0 * 1024 + k.val = k.val; omega
  | ⟨2, _⟩ => show 0 * 1024 + n.val = n.val; omega

theorem scr_at (k n : Fin 1024) : scr m c (ix2 k n) = m ((c : Thread nD τ).loc main_arg12) (ix3 0 k n) :=
  (wide_apply _ k n).trans (blk12_at m c first0 k n)

theorem blk6_at (j : Fin 384) : iblk m c 6 t (ix2 0 j) = m ((c : Thread nD τ).loc main_arg6) (ix1 j) := by
  have e : V m c main_v8 (ix2 0 j) = m ((c : Thread nD τ).loc main_arg6) (ix1 j) := by
    rw [V_main_v8]
    pointwise
  refine Eq.trans ?_ e
  show V m c main_v8 (((cfg0.win 6).rect t).emb (ix2 0 j)) = V m c main_v8 _
  congr 1
  funext a
  refine Fin.ext ((Window.rect_emb_val (cfg0.win 6) t (ix2 0 j) a).trans ?_)
  match a with
  | ⟨0, _⟩ => rfl
  | ⟨1, _⟩ => show 0 * 384 + j.val = j.val; omega

theorem blk7_at (j : Fin 384) : iblk m c 7 t (ix2 0 j) = m ((c : Thread nD τ).loc main_arg7) (ix1 j) := by
  have e : V m c main_v9 (ix2 0 j) = m ((c : Thread nD τ).loc main_arg7) (ix1 j) := by
    rw [V_main_v9]
    pointwise
  refine Eq.trans ?_ e
  show V m c main_v9 (((cfg0.win 7).rect t).emb (ix2 0 j)) = V m c main_v9 _
  congr 1
  funext a
  refine Fin.ext ((Window.rect_emb_val (cfg0.win 7) t (ix2 0 j) a).trans ?_)
  match a with
  | ⟨0, _⟩ => rfl
  | ⟨1, _⟩ => show 0 * 384 + j.val = j.val; omega

theorem blk11_at (j : Fin 384) : iblk m c 11 t (ix2 0 j) = m ((c : Thread nD τ).loc main_arg11) (ix1 j) := by
  have e : V m c main_v10 (ix2 0 j) = m ((c : Thread nD τ).loc main_arg11) (ix1 j) := by
    rw [V_main_v10]
    pointwise
  refine Eq.trans ?_ e
  show V m c main_v10 (((cfg0.win 11).rect t).emb (ix2 0 j)) = V m c main_v10 _
  congr 1
  funext a
  refine Fin.ext ((Window.rect_emb_val (cfg0.win 11) t (ix2 0 j) a).trans ?_)
  match a with
  | ⟨0, _⟩ => rfl
  | ⟨1, _⟩ => show 0 * 384 + j.val = j.val; omega

theorem blk13_at (j : Fin 1024) : iblk m c 13 t (ix2 0 j) = m ((c : Thread nD τ).loc main_arg13) (ix1 j) := by
  have e : V m c main_v11 (ix2 0 j) = m ((c : Thread nD τ).loc main_arg13) (ix1 j) := by
    rw [V_main_v11]
    pointwise
  refine Eq.trans ?_ e
  show V m c main_v11 (((cfg0.win 13).rect t).emb (ix2 0 j)) = V m c main_v11 _
  congr 1
  funext a
  refine Fin.ext ((Window.rect_emb_val (cfg0.win 13) t (ix2 0 j) a).trans ?_)
  match a with
  | ⟨0, _⟩ => rfl
  | ⟨1, _⟩ => show 0 * 1024 + j.val = j.val; omega

theorem blk14_at (j : Fin 1024) : iblk m c 14 t (ix2 0 j) = m ((c : Thread nD τ).loc main_arg14) (ix1 j) := by
  have e : V m c main_v12 (ix2 0 j) = m ((c : Thread nD τ).loc main_arg14) (ix1 j) := by
    rw [V_main_v12]
    pointwise
  refine Eq.trans ?_ e
  show V m c main_v12 (((cfg0.win 14).rect t).emb (ix2 0 j)) = V m c main_v12 _
  congr 1
  funext a
  refine Fin.ext ((Window.rect_emb_val (cfg0.win 14) t (ix2 0 j) a).trans ?_)
  match a with
  | ⟨0, _⟩ => rfl
  | ⟨1, _⟩ => show 0 * 1024 + j.val = j.val; omega

theorem blk17_at (k n : Fin 384) : iblk m c 17 t (ix2 k n) = MixSpec.share k n := by
  have e : V m c main_v23 (ix2 k n) = MixSpec.share k n := by
    rw [V_main_v23]
    exact shares_apply k n
  refine Eq.trans ?_ e
  show V m c main_v23 (((cfg0.win 17).rect t).emb (ix2 k n)) = V m c main_v23 _
  congr 1
  funext a
  refine Fin.ext ((Window.rect_emb_val (cfg0.win 17) t (ix2 k n) a).trans ?_)
  match a with
  | ⟨0, _⟩ => show 0 * 384 + k.val = k.val; omega
  | ⟨1, _⟩ => show 0 * 384 + n.val = n.val; omega

section
variable (T : Fin 32) (x : FVec Ideal S16384x1024 .f32) (a : FVec Ideal S16384x256 .f32) (r0 r1 bonus gate : FVec Ideal S16384x384 .f32) (rg rb : FVec Ideal S384 .f32)
  (p0 p1 : FVec Ideal S16384x384 .f32) (pm : FVec Ideal S16384x1664 .f32) (mg : FVec Ideal S384 .f32) (w : FVec Ideal S4x1024x1024 .f32) (g b : FVec Ideal S1024 .f32)
  (x0 : Vec Ideal S512x1024 .f32) (x1 : Vec Ideal S512x256 .f32) (x2 x3 x4 x5 : Vec Ideal S512x384 .f32) (x6 x7 : Vec Ideal S1x384 .f32)
  (x8 x9 x10 : Vec Ideal S512x384 .f32) (x11 : Vec Ideal S1x384 .f32) (x13 x14 : Vec Ideal S1x1024 .f32) (x17 : Vec Ideal S384x384 .bf16) (W : Vec Ideal S1024x1024 .bf16)
  (hB : ∀ k c : Fin 384, x17 (ix2 k c) = MixSpec.share k c)
  (h0 : ∀ (r : Fin 512) (k : Fin 1024), x0 (ix2 r k) = x (ix2 ⟨T.val * 512 + r.val, by omega⟩ k))
  (h1 : ∀ (r : Fin 512) (k : Fin 256), x1 (ix2 r k) = a (ix2 ⟨T.val * 512 + r.val, by omega⟩ k))
  (h2 : ∀ (r : Fin 512) (k : Fin 384), x2 (ix2 r k) = r0 (ix2 ⟨T.val * 512 + r.val, by omega⟩ k))
  (h3 : ∀ (r : Fin 512) (k : Fin 384), x3 (ix2 r k) = r1 (ix2 ⟨T.val * 512 + r.val, by omega⟩ k))
  (h4 : ∀ (r : Fin 512) (k : Fin 384), x4 (ix2 r k) = bonus (ix2 ⟨T.val * 512 + r.val, by omega⟩ k))
  (h5 : ∀ (r : Fin 512) (k : Fin 384), x5 (ix2 r k) = gate (ix2 ⟨T.val * 512 + r.val, by omega⟩ k))
  (h8 : ∀ (r : Fin 512) (k : Fin 384), x8 (ix2 r k) = p0 (ix2 ⟨T.val * 512 + r.val, by omega⟩ k))
  (h9 : ∀ (r : Fin 512) (k : Fin 384), x9 (ix2 r k) = p1 (ix2 ⟨T.val * 512 + r.val, by omega⟩ k))
  (h10 : ∀ (r : Fin 512) (k : Fin 384), x10 (ix2 r k) = pm (ix2 ⟨T.val * 512 + r.val, by omega⟩ ⟨1152 + k.val, by omega⟩))
  (h6 : ∀ j : Fin 384, x6 (ix2 0 j) = rg (ix1 j)) (h7 : ∀ j : Fin 384, x7 (ix2 0 j) = rb (ix1 j)) (h11 : ∀ j : Fin 384, x11 (ix2 0 j) = mg (ix1 j))
  (h13 : ∀ j : Fin 1024, x13 (ix2 0 j) = g (ix1 j)) (h14 : ∀ j : Fin 1024, x14 (ix2 0 j) = b (ix1 j))
  (h12 : ∀ k d : Fin 1024, W (ix2 k d) = w (ix3 0 k d))

include hB h0 h1 h2 h3 h4 h5 h6 h7 h8 h9 h10 h11 h12 h13 h14 in
/-- The point's block of the first result, of the arguments. -/
theorem x1_tile (r : Fin 512) (d : Fin 1024) :
    x1Out (F := Ideal) x0 x1 x2 x3 x4 x5 x6 x7 x8 x9 x10 x11 x13 x14 x17 W (ix2 r d) = MixSpec.res x a r0 r1 bonus gate rg rb p0 p1 pm mg w g b ⟨T.val * 512 + r.val, by omega⟩ d := by
  rw [x1Out_apply x0 x1 x2 x3 x4 x5 x6 x7 x8 x9 x10 x11 x13 x14 x17 W hB]
  simp only [h0, h1, h2, h3, h4, h5, h6, h7, h8, h9, h10, h11, h12, h13, h14]
  rfl

include hB h0 h1 h2 h3 h4 h5 h6 h7 h8 h9 h10 h11 h12 h13 h14 in
/-- The point's block of the second result, of the arguments. -/
theorem x1p_tile (i : Fin 1024) (n : Fin 512) :
    x1pOut (F := Ideal) x0 x1 x2 x3 x4 x5 x6 x7 x8 x9 x10 x11 x13 x14 x17 W (ix2 i n)
      = MixSpec.res x a r0 r1 bonus gate rg rb p0 p1 pm mg w g b ⟨T.val * 512 + i.val / 2, by omega⟩ ⟨i.val % 2 * 512 + n.val, by omega⟩ := by
  rw [x1pOut_apply]
  exact x1_tile T x a r0 r1 bonus gate rg rb p0 p1 pm mg w g b x0 x1 x2 x3 x4 x5 x6 x7 x8 x9 x10 x11 x13 x14 x17 W hB h0 h1 h2 h3 h4 h5 h8 h9 h10 h6 h7 h11 h13 h14 h12 _ _

end

/-- Entry `(r, d)` of the first result, of the arguments. -/
def entry (r : Fin 16384) (d : Fin 1024) : EReal :=
  MixSpec.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) r d

/-- The first result. -/
def first : Buf (Elt Ideal) ((c : Thread nD τ).loc main_v24_0) := fun y => entry m c (y 0) (y 1)

/-- The second: row `i` is the left half of the first's row `i / 2` when `i` is even, the right half when it is odd. -/
def second : Buf (Elt Ideal) ((c : Thread nD τ).loc main_v24_1) := fun (y : S32768x512.Idx) =>
  entry m c ⟨(y 0).val / 2, by have h : (y 0).val < 32768 := (y 0).isLt; omega⟩ ⟨(y 0).val % 2 * 512 + (y 1).val, by have h : (y 1).val < 512 := (y 1).isLt; omega⟩

theorem second_at (y : S32768x512.Idx) (r : Fin 16384) (d : Fin 1024) (hr : r.val = (y 0).val / 2) (hd : d.val = (y 0).val % 2 * 512 + (y 1).val) :
    entry m c r d = second m c y := congrArg₂ (entry m c) (Fin.ext hr) (Fin.ext hd)

/-- Each point writes back its block of the first result. -/
theorem flushed_first :
    (dats m 0 c).flushed 18 t = ((cfg0.win 18).blk t).view.read (Elt Ideal) (first m c) := by
  show (cfg0.win 18).cut (grid0.coords t) ((dats m 0 c).after 18 t) = _
  rw [after0_18]
  have key : ∀ (y : Fin 512) (n : Fin 1024), x1Of m c t (ix2 y n) = first m c (((cfg0.win 18).rect t).emb (ix2 y n)) := fun y n => by
    refine (x1_tile ⟨t.val, pt_lt t⟩ _ _ _ _ _ _ _ _ _ _ _ _ _ _ _ _ _ _ _ _ _ _ _ _ _ _ _ _ _ _ _ (blk17_at m c t) (blk0_at m c t) (blk1_at m c t) (blk2_at m c t) (blk3_at m c t) (blk4_at m c t) (blk5_at m c t) (blk8_at m c t) (blk9_at m c t) (blk10_at m c t) (blk6_at m c t) (blk7_at m c t) (blk11_at m c t) (blk13_at m c t) (blk14_at m c t) (scr_at m c) y n).trans
      (congrArg₂ (entry m c) (Fin.ext ?_) (Fin.ext ?_))
    · refine Eq.trans ?_ (Window.rect_emb_val (cfg0.win 18) t (ix2 y n) (0 : Fin 2)).symm
      show t.val * 512 + y.val = (BitVec.ofNat 32 (grid0.coords t 0).val).toNat * 512 + y.val
      rw [word_toNat, pt_val]
    · refine Eq.trans ?_ (Window.rect_emb_val (cfg0.win 18) t (ix2 y n) (1 : Fin 2)).symm
      show n.val = 0 * 1024 + n.val
      omega
  refine funext fun (y : S512x1024.Idx) => ?_
  have e : y = ix2 (n0 := 512) (n1 := 1024) (y 0) (y 1) := eq_ix2 y
  exact (congrArg _ e).trans ((key (y 0) (y 1)).trans (congrArg (fun z => first m c (((cfg0.win 18).rect t).emb z)) e.symm))

/-- Each point writes back its block of the second result. -/
theorem flushed_second :
    (dats m 0 c).flushed 19 t = ((cfg0.win 19).blk t).view.read (Elt Ideal) (second m c) := by
  show (cfg0.win 19).cut (grid0.coords t) ((dats m 0 c).after 19 t) = _
  rw [after0_19]
  have key : ∀ (y : Fin 1024) (n : Fin 512), x1pOf m c t (ix2 y n) = second m c (((cfg0.win 19).rect t).emb (ix2 y n)) := fun y n => by
    have r0 : (((cfg0.win 19).rect t).emb (ix2 y n) (0 : Fin 2)).val = t.val * 1024 + y.val := by
      refine (Window.rect_emb_val (cfg0.win 19) t (ix2 y n) (0 : Fin 2)).trans ?_
      show (BitVec.ofNat 32 (grid0.coords t 0).val).toNat * 1024 + y.val = _
      rw [word_toNat, pt_val]
    have r1 : (((cfg0.win 19).rect t).emb (ix2 y n) (1 : Fin 2)).val = n.val := by
      refine (Window.rect_emb_val (cfg0.win 19) t (ix2 y n) (1 : Fin 2)).trans ?_
      show 0 * 512 + n.val = n.val
      omega
    refine (x1p_tile ⟨t.val, pt_lt t⟩ _ _ _ _ _ _ _ _ _ _ _ _ _ _ _ _ _ _ _ _ _ _ _ _ _ _ _ _ _ _ _ (blk17_at m c t) (blk0_at m c t) (blk1_at m c t) (blk2_at m c t) (blk3_at m c t) (blk4_at m c t) (blk5_at m c t) (blk8_at m c t) (blk9_at m c t) (blk10_at m c t) (blk6_at m c t) (blk7_at m c t) (blk11_at m c t) (blk13_at m c t) (blk14_at m c t) (scr_at m c) y n).trans (second_at m c _ _ _ ?_ ?_)
    · refine Eq.trans ?_ (congrArg (· / 2) r0).symm
      show t.val * 512 + y.val / 2 = (t.val * 1024 + y.val) / 2
      omega
    · refine Eq.trans ?_ (congrArg₂ (fun p q => p % 2 * 512 + q) r0 r1).symm
      show y.val % 2 * 512 + n.val = (t.val * 1024 + y.val) % 2 * 512 + n.val
      omega
  refine funext fun (y : S1024x512.Idx) => ?_
  have e : y = ix2 (n0 := 1024) (n1 := 512) (y 0) (y 1) := eq_ix2 y
  exact (congrArg _ e).trans ((key (y 0) (y 1)).trans (congrArg (fun z => second m c (((cfg0.win 19).rect t).emb z)) e.symm))

theorem final_first : (dats m 0 c).arrAt 18 cfg0.N = first m c :=
  (dats m 0 c).arrAt_eq_of_cover 18 (first m c) (fun t _ => flushed_first m c t) fun (i : S16384x1024.Idx) => by
    have h0 : (i 0 : Nat) < 16384 := (i 0).isLt
    have h1 : (i 1 : Nat) < 1024 := (i 1).isLt
    have hN : cfg0.N = 32 := N_0
    have hT : (i 0 : Nat) / 512 < cfg0.N := by rw [hN]; omega
    refine ⟨⟨(i 0 : Nat) / 512, hT⟩, flush0_18 _, ?_⟩
    show i ∈ ((View.whole main_v24_0).slice ((cfg0.win 18).rect ⟨(i 0 : Nat) / 512, hT⟩)).set
    refine (View.set_slice_whole main_v24_0 ((cfg0.win 18).rect ⟨(i 0 : Nat) / 512, hT⟩)).symm ▸ ?_
    refine (Rect.mem_set_unit ..).mpr ?_
    intro a
    match a with
    | ⟨0, _⟩ =>
      show (BitVec.ofNat 32 (grid0.coords ⟨(i 0 : Nat) / 512, hT⟩ 0).val).toNat * 512 ≤ (i 0 : Nat)
        ∧ (i 0 : Nat) < (BitVec.ofNat 32 (grid0.coords ⟨(i 0 : Nat) / 512, hT⟩ 0).val).toNat * 512 + 512
      rw [word_toNat, show (grid0.coords ⟨(i 0 : Nat) / 512, hT⟩ 0).val = (i 0 : Nat) / 512 from pt_val ⟨(i 0 : Nat) / 512, hT⟩]
      omega
    | ⟨1, _⟩ => show 0 * 1024 ≤ (i 1 : Nat) ∧ (i 1 : Nat) < 0 * 1024 + 1024; omega

theorem final_second : (dats m 0 c).arrAt 19 cfg0.N = second m c :=
  (dats m 0 c).arrAt_eq_of_cover 19 (second m c) (fun t _ => flushed_second m c t) fun (i : S32768x512.Idx) => by
    have h0 : (i 0 : Nat) < 32768 := (i 0).isLt
    have h1 : (i 1 : Nat) < 512 := (i 1).isLt
    have hN : cfg0.N = 32 := N_0
    have hT : (i 0 : Nat) / 1024 < cfg0.N := by rw [hN]; omega
    refine ⟨⟨(i 0 : Nat) / 1024, hT⟩, flush0_19 _, ?_⟩
    show i ∈ ((View.whole main_v24_1).slice ((cfg0.win 19).rect ⟨(i 0 : Nat) / 1024, hT⟩)).set
    refine (View.set_slice_whole main_v24_1 ((cfg0.win 19).rect ⟨(i 0 : Nat) / 1024, hT⟩)).symm ▸ ?_
    refine (Rect.mem_set_unit ..).mpr ?_
    intro a
    match a with
    | ⟨0, _⟩ =>
      show (BitVec.ofNat 32 (grid0.coords ⟨(i 0 : Nat) / 1024, hT⟩ 0).val).toNat * 1024 ≤ (i 0 : Nat)
        ∧ (i 0 : Nat) < (BitVec.ofNat 32 (grid0.coords ⟨(i 0 : Nat) / 1024, hT⟩ 0).val).toNat * 1024 + 1024
      rw [word_toNat, show (grid0.coords ⟨(i 0 : Nat) / 1024, hT⟩ 0).val = (i 0 : Nat) / 1024 from pt_val ⟨(i 0 : Nat) / 1024, hT⟩]
      omega
    | ⟨1, _⟩ => show 0 * 512 ≤ (i 1 : Nat) ∧ (i 1 : Nat) < 0 * 512 + 512; omega

variable (ρ : Dev nD → PrngReg)

/-- The run leaves the results in their arrays. -/
theorem run :
    θ_run defs (onTc (τ := τ) (main (F := Ideal))) ⟨m, fun _ => 0, ρ⟩ (fun r => ∀ c : Dev nD,
      r.2.mem ((c.tc : Thread nD τ).loc main_v24_0) = first m c ∧ r.2.mem ((c.tc : Thread nD τ).loc main_v24_1) = second m c) :=
  (θ_run defs _ _).mono (fun _ h c => ⟨((h c).1 18).trans (final_first m c), ((h c).1 19).trans (final_second m c)⟩) (run_main m ρ)

end Cert.Kernel4Ideal.Mix
end
-- ==== Proof.MixRef.lean ====
/- The mixing call's reference read at an index. -/
module

public import proofs.«01_k».proof.Proof.Gen.Reference4Ideal.Run
public import proofs.«01_k».proof.Proof.MixSpec
public import Idealize.ShloMosaic.Lib.Pointwise
public import Idealize.ShloMosaic.Lib.Pipeline.Value

@[expose] public section

set_option maxRecDepth 8192

noncomputable section

namespace Cert.Reference4Ideal.Mix

open Cert.Reference4Ideal Cert.Reference4Ideal.Gen
open Idealize.ShloMosaic Idealize.ShloMosaic.TcCoe

/-- Two directions' rows added, by heads. -/
def heads (a b : FVec Ideal S16384x384 .f32) : FVec Ideal S16384x6x64 .f32 := shapeCast _ (addf a b) shapeCasts_S16384x384_S16384x6x64

/-- The heads' means. -/
def headMeans (v : FVec Ideal S16384x6x64 .f32) : FVec Ideal S16384x6x1 .f32 :=
  Host.divf (broadcastInDim S16384x6x1 ![0, 1] bcast_S16384x6_S16384x6x1_0_1 (Host.reduceAdd v (constant S_ .f32 0x00000000#32) reducesTo_S16384x6x64_S16384x6_d2 h_S_))
    (broadcastInDim S16384x6x1 ![] bcast_S_S16384x6x1 (constant S_ .f32 0x42800000#32))

/-- The heads with their means taken off. -/
def headCentred (v : FVec Ideal S16384x6x64 .f32) : FVec Ideal S16384x6x64 .f32 :=
  subf v (broadcastInDim S16384x6x64 ![0, 1, 2] bcast_S16384x6x1_S16384x6x64_0_1_2 (headMeans v))

/-- The heads normalized, side by side again. -/
def headNormed (e : BitVec 32) (v : FVec Ideal S16384x6x64 .f32) : FVec Ideal S16384x384 .f32 :=
  shapeCast _ (mulf (headCentred v) (broadcastInDim S16384x6x64 ![0, 1, 2] bcast_S16384x6x1_S16384x6x64_0_1_2
    (Host.rsqrt (addf (headMeans (mulf (headCentred v) (headCentred v))) (broadcastInDim S16384x6x1 ![] bcast_S_S16384x6x1 (constant S_ .f32 e))))))
    shapeCasts_S16384x6x64_S16384x384

/-- A vector along every row. -/
def along (g : FVec Ideal S384 .f32) : FVec Ideal S16384x384 .f32 :=
  broadcastInDim S16384x384 ![0, 1] bcast_S1x384_S16384x384_0_1 (broadcastInDim S1x384 ![1] bcast_S384_S1x384_1 g)

/-- The second mixer. -/
def second (u v bonus gate : FVec Ideal S16384x384 .f32) (g b : FVec Ideal S384 .f32) : FVec Ideal S16384x384 .f32 :=
  mulf (addf (addf (mulf (headNormed 0x3A27C5AC#32 (heads u v)) (along g)) (along b)) bonus) gate

/-- The third mixer. -/
def third (u v : FVec Ideal S16384x384 .f32) (pm : FVec Ideal S16384x1664 .f32) (g : FVec Ideal S384 .f32) : FVec Ideal S16384x384 .f32 :=
  mulf (Host.divf (broadcastInDim S16384x384 ![] bcast_S_S16384x384 (constant S_ .f32 0x3F800000#32))
      (addf (broadcastInDim S16384x384 ![] bcast_S_S16384x384 (constant S_ .f32 0x3F800000#32))
        (Host.exp (Host.negf (extractStridedSlice S16384x384 ![0, 1152] pm slices_S16384x1664_S16384x384_0_1152)))))
    (mulf (headNormed 0x3727C5AC#32 (heads u v)) (along g))

/-- The three mixers side by side. -/
def beside (a : FVec Ideal S16384x256 .f32) (p q : FVec Ideal S16384x384 .f32) : FVec Ideal S16384x1024 .f32 :=
  concatenate S16384x1024 1 [⟨S16384x256, a⟩, ⟨S16384x384, p⟩, ⟨S16384x384, q⟩] concatenates_S16384x256_S16384x384_S16384x384_S16384x1024_d1

/-- The layer's weights. -/
def layer (w : FVec Ideal S4x1024x1024 .f32) : FVec Ideal S1024x1024 .f32 :=
  shapeCast _ (extractStridedSlice S1x1024x1024 ![0, 0, 0] w slices_S4x1024x1024_S1x1024x1024_0_0_0) shapeCasts_S1x1024x1024_S1024x1024

/-- The residual sums. -/
def sums (x u : FVec Ideal S16384x1024 .f32) (w : FVec Ideal S1024x1024 .f32) : FVec Ideal S16384x1024 .f32 :=
  addf (mulf (broadcastInDim S16384x1024 ![] bcast_S_S16384x1024 (constant S_ .f32 0x3FD744FD#32)) x)
    (Host.dotGeneral dot_S16384x1024_S1024x1024_S16384x1024_1_0_0_1_n_n none u w)

/-- The rows' means, as a column. -/
def means (v : FVec Ideal S16384x1024 .f32) : FVec Ideal S16384x1 .f32 :=
  Host.divf (broadcastInDim S16384x1 ![0] bcast_S16384_S16384x1_0 (Host.reduceAdd v (constant S_ .f32 0x00000000#32) reducesTo_S16384x1024_S16384_d1 h_S_))
    (broadcastInDim S16384x1 ![] bcast_S_S16384x1 (constant S_ .f32 0x44800000#32))

/-- The rows with their means taken off. -/
def centred (v : FVec Ideal S16384x1024 .f32) : FVec Ideal S16384x1024 .f32 :=
  subf v (broadcastInDim S16384x1024 ![0, 1] bcast_S16384x1_S16384x1024_0_1 (means v))

/-- The rows normalized, scaled and shifted. -/
def normed (v : FVec Ideal S16384x1024 .f32) (g b : FVec Ideal S1024 .f32) : FVec Ideal S16384x1024 .f32 :=
  addf (mulf (mulf (centred v) (broadcastInDim S16384x1024 ![0, 1] bcast_S16384x1_S16384x1024_0_1
        (Host.rsqrt (addf (means (mulf (centred v) (centred v))) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 g)))
    (broadcastInDim S16384x1024 ![0, 1] bcast_S1x1024_S16384x1024_0_1 (broadcastInDim S1x1024 ![1] bcast_S1024_S1x1024_1 b))

/-- The first result, of the arguments. -/
def first (x : FVec Ideal S16384x1024 .f32) (a : FVec Ideal S16384x256 .f32) (r0 r1 bonus gate : FVec Ideal S16384x384 .f32) (rg rb : FVec Ideal S384 .f32)
    (h0 h1 : FVec Ideal S16384x384 .f32) (pm : FVec Ideal S16384x1664 .f32) (mg : FVec Ideal S384 .f32) (w : FVec Ideal S4x1024x1024 .f32)
    (g b : FVec Ideal S1024 .f32) : FVec Ideal S16384x1024 .f32 :=
  normed (sums x (beside a (second r0 r1 bonus gate rg rb) (third h0 h1 pm mg)) (layer w)) g b

section
variable (m : (ℓ : Loc nD τ sig) → Buf (Elt Ideal) ℓ) (c : Dev nD)

theorem first_eq :
    Value.res_main_v85 m c
      = first (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) := by
  unfold Value.res_main_v85 first normed centred means sums layer beside second third along headNormed headCentred headMeans heads
  rfl

theorem second_eq :
    Value.res_main_v87 m c = shapeCast S32768x512 (truncf (F := Ideal) (φ := .f32) .bf16 (Value.res_main_v85 m c) bitsLt_bf16_f32) shapeCasts_S16384x1024_S32768x512 := by
  unfold Value.res_main_v87 Value.res_main_v85
  rfl

end

theorem heads_apply (a b : FVec Ideal S16384x384 .f32) (r : Fin 16384) (h : Fin 6) (j : Fin 64) :
    heads a b (ix3 r h j) = a (ix2 r ⟨h.val * 64 + j.val, by omega⟩) + b (ix2 r ⟨h.val * 64 + j.val, by omega⟩) := by
  pointwise [heads]

theorem headMeans_apply (v : FVec Ideal S16384x6x64 .f32) (r : Fin 16384) (h : Fin 6) :
    headMeans v (ix3 r h 0) = Ideal.div (∑ j : Fin 64, v (ix3 r h j)) (Ideal.ofBits .f32 0x42800000#32) := by
  pointwise [headMeans]

theorem headCentred_apply (v : FVec Ideal S16384x6x64 .f32) (r : Fin 16384) (h : Fin 6) (j : Fin 64) :
    headCentred v (ix3 r h j) = v (ix3 r h j) - headMeans v (ix3 r h 0) := by
  unfold headCentred
  generalize headMeans v = u
  pointwise

theorem headNormed_heads (e : BitVec 32) (v : FVec Ideal S16384x6x64 .f32) (r : Fin 16384) (k : Fin 384) :
    headNormed e v (ix2 r k) = headCentred v (ix3 r ⟨k.val / 64, by omega⟩ ⟨k.val % 64, by omega⟩)
      * Ideal.rsqrt (headMeans (mulf (headCentred v) (headCentred v)) (ix3 r ⟨k.val / 64, by omega⟩ 0) + Ideal.ofBits .f32 e) := by
  unfold headNormed
  generalize headMeans (mulf (headCentred v) (headCentred v)) = q
  generalize headCentred v = u
  refine (shapeCast_apply _ _ _ (ix3 r ⟨k.val / 64, by omega⟩ ⟨k.val % 64, by omega⟩) ?_).trans ?_
  · rw [Shape.rowMajor_val_three, Shape.rowMajor_val_two]
    show (r.val * 6 + k.val / 64) * 64 + k.val % 64 = r.val * 384 + k.val
    omega
  · pointwise

theorem headNormed_apply (e : BitVec 32) (a b : FVec Ideal S16384x384 .f32) (r : Fin 16384) (k : Fin 384) :
    headNormed e (heads a b) (ix2 r k) = MixSpec.headNorm (Ideal.ofBits .f32 e) (fun c => a (ix2 r c) + b (ix2 r c)) k := by
  have mean : ∀ k : Fin 384, headMeans (heads a b) (ix3 r ⟨k.val / 64, by omega⟩ 0) = MixSpec.headMean (fun c => a (ix2 r c) + b (ix2 r c)) k := fun k => by
    rw [headMeans_apply]
    simp only [heads_apply]
    rfl
  have cen : ∀ k : Fin 384, headCentred (heads a b) (ix3 r ⟨k.val / 64, by omega⟩ ⟨k.val % 64, by omega⟩)
      = a (ix2 r k) + b (ix2 r k) - MixSpec.headMean (fun c => a (ix2 r c) + b (ix2 r c)) k := fun k => by
    have hk : (⟨k.val / 64 * 64 + k.val % 64, by omega⟩ : Fin 384) = k := Fin.ext (by show k.val / 64 * 64 + k.val % 64 = k.val; omega)
    rw [headCentred_apply, mean]
    refine congrArg (· - _) ?_
    rw [heads_apply]
    exact congrArg₂ (fun i j => a (ix2 r i) + b (ix2 r j)) hk hk
  have var : headMeans (mulf (headCentred (heads a b)) (headCentred (heads a b))) (ix3 r ⟨k.val / 64, by omega⟩ 0)
      = MixSpec.headMean (fun c => (a (ix2 r c) + b (ix2 r c) - MixSpec.headMean (fun c => a (ix2 r c) + b (ix2 r c)) c)
        * (a (ix2 r c) + b (ix2 r c) - MixSpec.headMean (fun c => a (ix2 r c) + b (ix2 r c)) c)) k := by
    rw [headMeans_apply]
    unfold MixSpec.headMean
    refine congrArg (fun s => Ideal.div s _) (Finset.sum_congr rfl fun j _ => ?_)
    have hq : (MixSpec.col k j).val / 64 = k.val / 64 := by show (k.val / 64 * 64 + j.val) / 64 = _; omega
    have hr : (MixSpec.col k j).val % 64 = j.val := by show (k.val / 64 * 64 + j.val) % 64 = _; omega
    have c1 := cen (MixSpec.col k j)
    refine Eq.trans ?_ (congrArg₂ (· * ·) c1 c1)
    show headCentred (heads a b) _ * headCentred (heads a b) _ = headCentred (heads a b) _ * headCentred (heads a b) _
    have e1 : (ix3 r ⟨(MixSpec.col k j).val / 64, by omega⟩ ⟨(MixSpec.col k j).val % 64, by omega⟩ : S16384x6x64.Idx)
        = ix3 r ⟨k.val / 64, by omega⟩ j := congrArg₂ (fun (p : Fin 6) (q : Fin 64) => ix3 r p q) (Fin.ext hq) (Fin.ext hr)
    rw [e1]
  rw [headNormed_heads, cen, var]
  rfl

theorem along_apply (g : FVec Ideal S384 .f32) (r : Fin 16384) (k : Fin 384) : along g (ix2 r k) = g (ix1 k) := by
  pointwise [along]

theorem second_apply (u v bonus gate : FVec Ideal S16384x384 .f32) (g b : FVec Ideal S384 .f32) (r : Fin 16384) (k : Fin 384) :
    second u v bonus gate g b (ix2 r k)
      = MixSpec.second (fun c => u (ix2 r c) + v (ix2 r c)) (fun c => g (ix1 c)) (fun c => b (ix1 c)) (fun c => bonus (ix2 r c)) (fun c => gate (ix2 r c)) k := by
  unfold MixSpec.second
  rw [← headNormed_apply]
  show (_ * along g (ix2 r k) + along b (ix2 r k) + _) * _ = _
  rw [along_apply, along_apply]

theorem third_apply (u v : FVec Ideal S16384x384 .f32) (pm : FVec Ideal S16384x1664 .f32) (g : FVec Ideal S384 .f32) (r : Fin 16384) (k : Fin 384) :
    third u v pm g (ix2 r k)
      = MixSpec.third (fun c => u (ix2 r c) + v (ix2 r c)) (fun c => pm (ix2 r ⟨1152 + c.val, by omega⟩)) (fun c => g (ix1 c)) k := by
  unfold MixSpec.third
  beta_reduce
  rw [← headNormed_apply, ← along_apply g r k]
  unfold third
  generalize headNormed _ (heads u v) = h
  generalize along g = l
  pointwise

theorem beside_first (a : FVec Ideal S16384x256 .f32) (p q : FVec Ideal S16384x384 .f32) (r : Fin 16384) (k : Fin 256) :
    beside a p q (ix2 r ⟨k.val, by omega⟩) = a (ix2 r k) :=
  concatenate_apply_piece (t := S16384x1024) 1 ([⟨S16384x256, a⟩, ⟨S16384x384, p⟩, ⟨S16384x384, q⟩] : List ((s : Shape) × (s.Idx → Ideal .f32))) _ (ix2 r ⟨k.val, by omega⟩) 0 (show 0 < 3 by omega) S16384x256 a rfl rfl 0 rfl (ix2 r k)
    (fun b hb => by match b with | ⟨0, _⟩ => rfl | ⟨1, _⟩ => exact absurd rfl hb) (Nat.zero_add _)

theorem beside_second (a : FVec Ideal S16384x256 .f32) (p q : FVec Ideal S16384x384 .f32) (r : Fin 16384) (k : Fin 384) :
    beside a p q (ix2 r ⟨256 + k.val, by omega⟩) = p (ix2 r k) :=
  concatenate_apply_piece (t := S16384x1024) 1 ([⟨S16384x256, a⟩, ⟨S16384x384, p⟩, ⟨S16384x384, q⟩] : List ((s : Shape) × (s.Idx → Ideal .f32))) _ (ix2 r ⟨256 + k.val, by omega⟩) 1 (show 1 < 3 by omega) S16384x384 p rfl rfl 256 rfl (ix2 r k)
    (fun b hb => by match b with | ⟨0, _⟩ => rfl | ⟨1, _⟩ => exact absurd rfl hb) rfl

theorem beside_third (a : FVec Ideal S16384x256 .f32) (p q : FVec Ideal S16384x384 .f32) (r : Fin 16384) (k : Fin 384) :
    beside a p q (ix2 r ⟨640 + k.val, by omega⟩) = q (ix2 r k) :=
  concatenate_apply_piece (t := S16384x1024) 1 ([⟨S16384x256, a⟩, ⟨S16384x384, p⟩, ⟨S16384x384, q⟩] : List ((s : Shape) × (s.Idx → Ideal .f32))) _ (ix2 r ⟨640 + k.val, by omega⟩) 2 (show 2 < 3 by omega) S16384x384 q rfl rfl 640 rfl (ix2 r k)
    (fun b hb => by match b with | ⟨0, _⟩ => rfl | ⟨1, _⟩ => exact absurd rfl hb) rfl

theorem layer_apply (w : FVec Ideal S4x1024x1024 .f32) (k d : Fin 1024) : layer w (ix2 k d) = w (ix3 0 k d) := by
  pointwise [layer]

theorem sums_dot (x u : FVec Ideal S16384x1024 .f32) (w : FVec Ideal S1024x1024 .f32) (r : Fin 16384) (d : Fin 1024) :
    sums x u w (ix2 r d) = Ideal.ofBits .f32 0x3FD744FD#32 * x (ix2 r d) + ∑ k : Fin 1024, u (ix2 r k) * w (ix2 k d) := by
  pointwise [sums]

theorem sums_apply (x : FVec Ideal S16384x1024 .f32) (a : FVec Ideal S16384x256 .f32) (p q : FVec Ideal S16384x384 .f32) (w : FVec Ideal S4x1024x1024 .f32)
    (r : Fin 16384) (d : Fin 1024) :
    sums x (beside a p q) (layer w) (ix2 r d)
      = MixSpec.sum (fun k => x (ix2 r k)) (fun k => a (ix2 r k)) (fun k => p (ix2 r k)) (fun k => q (ix2 r k)) (fun k d => w (ix3 0 k d)) d := by
  rw [sums_dot, MixSpec.sum_cols]
  simp only [beside_first, beside_second, beside_third, layer_apply]
  rfl

theorem means_apply (v : FVec Ideal S16384x1024 .f32) (r : Fin 16384) : means v (ix2 r 0) = CombineSpec.mean (fun j => v (ix2 r j)) := by
  pointwise [means, CombineSpec.mean]

theorem centred_apply (v : FVec Ideal S16384x1024 .f32) (r : Fin 16384) (d : Fin 1024) : centred v (ix2 r d) = v (ix2 r d) - CombineSpec.mean (fun j => v (ix2 r j)) := by
  rw [← means_apply]
  unfold centred
  generalize means v = u
  pointwise

theorem normed_apply (v : FVec Ideal S16384x1024 .f32) (g b : FVec Ideal S1024 .f32) (r : Fin 16384) (d : Fin 1024) :
    normed v g b (ix2 r d) = CombineSpec.norm (fun j => v (ix2 r j)) (fun j => g (ix1 j)) (fun j => b (ix1 j)) d := by
  have e : ∀ j : Fin 1024, mulf (centred v) (centred v) (ix2 r j)
      = (v (ix2 r j) - CombineSpec.mean (fun j => v (ix2 r j))) * (v (ix2 r j) - CombineSpec.mean (fun j => v (ix2 r j))) := fun j => by
    rw [← centred_apply]; rfl
  unfold CombineSpec.norm
  simp only [← e]
  rw [← centred_apply, ← means_apply]
  unfold normed
  generalize means (mulf (centred v) (centred v)) = q
  generalize centred v = u
  pointwise

/-- The first result at an index. -/
theorem first_apply (x : FVec Ideal S16384x1024 .f32) (a : FVec Ideal S16384x256 .f32) (r0 r1 bonus gate : FVec Ideal S16384x384 .f32) (rg rb : FVec Ideal S384 .f32)
    (h0 h1 : FVec Ideal S16384x384 .f32) (pm : FVec Ideal S16384x1664 .f32) (mg : FVec Ideal S384 .f32) (w : FVec Ideal S4x1024x1024 .f32)
    (g b : FVec Ideal S1024 .f32) (r : Fin 16384) (d : Fin 1024) :
    first x a r0 r1 bonus gate rg rb h0 h1 pm mg w g b (ix2 r d) = MixSpec.res x a r0 r1 bonus gate rg rb h0 h1 pm mg w g b r d := by
  unfold first
  rw [normed_apply]
  simp only [sums_apply, second_apply, third_apply]
  rfl

/-- The second result at an index: the left half of a row, then its right half. -/
theorem halves_apply (u : FVec Ideal S16384x1024 .f32) (i : Fin 32768) (n : Fin 512) :
    shapeCast S32768x512 (truncf .bf16 u bitsLt_bf16_f32) shapeCasts_S16384x1024_S32768x512 (ix2 i n)
      = u (ix2 ⟨i.val / 2, by omega⟩ ⟨i.val % 2 * 512 + n.val, by omega⟩) := by
  refine (shapeCast_apply _ _ _ (ix2 ⟨i.val / 2, by omega⟩ ⟨i.val % 2 * 512 + n.val, by omega⟩) ?_).trans rfl
  rw [Shape.rowMajor_val_two, Shape.rowMajor_val_two]
  show i.val / 2 * 1024 + (i.val % 2 * 512 + n.val) = i.val * 512 + n.val
  omega

end Cert.Reference4Ideal.Mix
end
-- ==== Proof.MixEq.lean ====
/- The mixing call and its reference leave the same arrays. -/
module

public import proofs.«01_k».proof.Defs
public import proofs.«01_k».proof.Proof.MixIdeal.Value
public import proofs.«01_k».proof.Proof.MixRef

@[expose] public section

noncomputable section

namespace Cert.MixEq

open Idealize.ShloMosaic Idealize.ShloMosaic.TcCoe Idealize.SL.Sem

/-- The reference leaves its arguments as they were and no counter raised. -/
theorem ref_frame : Cert.quiescent_Reference4Ideal := fun m g _ =>
  (θ_run _ _ _).mono (fun r h => ⟨fun c => (h c).2.2, sem_eq_zero_of_no_sems (by decide) r.2⟩) (Cert.Reference4Ideal.Value.run (F := Ideal) m g)

/-- From equal arguments the two results are equal. -/
theorem algebraic : Cert.algebraic_Kernel4Ideal_Reference4Ideal := fun m g m' g' _ hargs => by
  refine ⟨fun c => Cert.Kernel4Ideal.Mix.first m c, fun c => Cert.Kernel4Ideal.Mix.second m c, ?_, ?_⟩
  · exact (θ_run _ _ _).mono (fun r h c => ⟨(h.1 c).1, (h.1 c).2, h.2 c⟩)
      (θ_run_and (Cert.Kernel4Ideal.Mix.run m g) (Cert.Kernel4Ideal.Mix.unchanged m g))
  · have key : ∀ (c : Dev Cert.Kernel4Ideal.nD) (r : Fin 16384) (d : Fin 1024), Cert.Reference4Ideal.Value.res_main_v85 m' c (ix2 r d) = Cert.Kernel4Ideal.Mix.entry m c r d := fun c r d => by
      obtain ⟨a0, a1, a2, a3, a4, a5, a6, a7, a8, a9, a10, a11, a12, a13, a14, a15, a16⟩ := hargs c
      rw [Cert.Reference4Ideal.Mix.first_eq, a0, a1, a2, a3, a4, a5, a6, a7, a8, a9, a10, a11, a12, a13, a14]
      exact Cert.Reference4Ideal.Mix.first_apply _ _ _ _ _ _ _ _ _ _ _ _ _ _ _ r d
    refine (θ_run _ _ _).mono (fun r hr c => ⟨(hr c).1.trans ?_, (hr c).2.1.trans ?_, (hr c).2.2⟩) (Cert.Reference4Ideal.Value.run (F := Ideal) m' g')
    · refine funext fun (y : Cert.Reference4Ideal.S16384x1024.Idx) => ?_
      have e : y = ix2 (n0 := 16384) (n1 := 1024) (y 0) (y 1) := eq_ix2 y
      exact (congrArg _ e).trans (key c (y 0) (y 1))
    · refine (Cert.Reference4Ideal.Mix.second_eq m' c).trans ?_
      refine funext fun (y : Cert.Reference4Ideal.S32768x512.Idx) => ?_
      have e : y = ix2 (n0 := 32768) (n1 := 512) (y 0) (y 1) := eq_ix2 y
      exact (congrArg _ e).trans ((Cert.Reference4Ideal.Mix.halves_apply _ (y 0) (y 1)).trans (key c _ _))

end Cert.MixEq
end
-- ==== Proof.lean ====
/- The claims about the experts' call, the projection's call, the combining call and the mixing call: each of them and its reference leave their arguments and
   counters as they were, the call over the extended reals is the call over bits read exactly, and it computes the
   reference's arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Loops
public import proofs.«01_k».proof.Proof.Gen.Kernel2Ideal.Loops
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3.Frame
public import proofs.«01_k».proof.Proof.Gen.Kernel3Ideal.Frame
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Loops
public import proofs.«01_k».proof.Proof.Gen.Kernel4Ideal.Loops
public import proofs.«01_k».proof.Proof.Gen.Reference3Ideal
public import proofs.«01_k».proof.Proof.Gen.Reference3Ideal.Run
public import proofs.«01_k».proof.Proof.Gen.ReferenceIdeal.Run
public import proofs.«01_k».proof.Proof.Gen.ReferenceIdeal
public import proofs.«01_k».proof.Proof.Gen.Pre_blocks_name_experts
public import Idealize.ShloMosaic.Adequacy
public import Idealize.ShloMosaic.Init
public import Idealize.ShloMosaic.Lib.Bf16Pair
public import proofs.«01_k».proof.Proof.MoePre
public import proofs.«01_k».proof.Proof.MoeEq
public import proofs.«01_k».proof.Proof.ProjBits.Frame
public import proofs.«01_k».proof.Proof.ProjEq
public import proofs.«01_k».proof.Proof.CombineEq
public import proofs.«01_k».proof.Proof.MixBits.Frame
public import proofs.«01_k».proof.Proof.MixEq
public import proofs.«01_k».proof.Proof.Gen.Kernel4.Frame.Runs
public import proofs.«01_k».proof.Proof.Gen.Kernel4Ideal.Frame.Runs
public import proofs.«01_k».proof.Proof.Gen.Reference4Ideal
public import proofs.«01_k».proof.Proof.Gen.Reference4Ideal.Run

@[expose] public section

noncomputable section

namespace Cert.Proof

open Idealize.ShloMosaic

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_blocks_name_experts.Gen.facts,
    fun m g h => Cert.Kernel.Moe.frame m g (Cert.Kernel.Moe.ok_of_pre m h),
    fun m g h => Cert.KernelIdeal.Moe.frame m g (Cert.KernelIdeal.Moe.ok_of_pre m h),
    Cert.MoeEq.ref_frame, Cert.MoeEq.ref_frame_pre,
    fun m g _ => Cert.Kernel2.Proj.frame m g, fun m g _ => Cert.Kernel2Ideal.Proj.frame m g, Cert.ProjEq.ref_frame,
    fun m g _ => Cert.Kernel3.Gen.frame m g, fun m g _ => Cert.Kernel3Ideal.Gen.frame m g, Cert.CombineEq.ref_frame,
    fun m g _ => Cert.Kernel4.Mix.frame m g, fun m g _ => Cert.Kernel4Ideal.Mix.frame m g, Cert.MixEq.ref_frame,
    ⟨IdealRules.bf16_pair.statement Cert.KernelIdeal.S1024x512 Cert.KernelIdeal.S512x512, IdealRules.bf16_pack.statement Cert.KernelIdeal.S512x512⟩,
    Cert.MoeEq.algebraic, trivial, Cert.ProjEq.algebraic, trivial, Cert.CombineEq.algebraic,
    ⟨IdealRules.bf16_pair.statement Cert.Kernel4Ideal.S1024x512 Cert.Kernel4Ideal.S512x512, IdealRules.bf16_pack.statement Cert.Kernel4Ideal.S512x512⟩,
    Cert.MixEq.algebraic⟩

end Cert.Proof

end
